-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![4096, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S1024x1024 : Shape := ⟨2, ![1024, 1024]⟩
abbrev S64x1024 : Shape := ⟨2, ![64, 1024]⟩
abbrev S16x1024 : Shape := ⟨2, ![16, 1024]⟩
abbrev S64 : Shape := ⟨1, ![64]⟩
abbrev S40 : Shape := ⟨1, ![40]⟩
abbrev S_ : Shape := ⟨0, ![]⟩
abbrev S128x512 : Shape := ⟨2, ![128, 512]⟩
abbrev S128x1024 : Shape := ⟨2, ![128, 1024]⟩
abbrev S1 : Shape := ⟨1, ![1]⟩

abbrev nBuf : Space → Nat
  | .hbm => 3
  | .vmem => 36
  | .smem => 0
  | _ => 0

abbrev bufTy : (tb : Table) → Fin (tcTables nBuf tb) → BufTy
  | .hbm, ⟨0, _⟩ => ⟨S1024x512, .f32⟩
  | .hbm, ⟨1, _⟩ => ⟨S512x1024, .f32⟩
  | .hbm, ⟨2, _⟩ => ⟨S1024x1024, .f32⟩
  | .local _ .vmem, ⟨0, _⟩ => ⟨S1024x512, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .f32⟩
  | .local _ .vmem, ⟨4, _⟩ => ⟨S64x1024, .bf16⟩
  | .local _ .vmem, ⟨5, _⟩ => ⟨S64x1024, .bf16⟩
  | .local _ .vmem, ⟨6, _⟩ => ⟨S64x1024, .bf16⟩
  | .local _ .vmem, ⟨7, _⟩ => ⟨S64x1024, .bf16⟩
  | .local _ .vmem, ⟨8, _⟩ => ⟨S64x1024, .bf16⟩
  | .local _ .vmem, ⟨9, _⟩ => ⟨S64x1024, .bf16⟩
  | .local _ .vmem, ⟨10, _⟩ => ⟨S64x1024, .bf16⟩
  | .local _ .vmem, ⟨11, _⟩ => ⟨S64x1024, .bf16⟩
  | .local _ .vmem, ⟨12, _⟩ => ⟨S16x1024, .bf16⟩
  | .local _ .vmem, ⟨13, _⟩ => ⟨S16x1024, .bf16⟩
  | .local _ .vmem, ⟨14, _⟩ => ⟨S16x1024, .bf16⟩
  | .local _ .vmem, ⟨15, _⟩ => ⟨S16x1024, .bf16⟩
  | .local _ .vmem, ⟨16, _⟩ => ⟨S16x1024, .bf16⟩
  | .local _ .vmem, ⟨17, _⟩ => ⟨S16x1024, .bf16⟩
  | .local _ .vmem, ⟨18, _⟩ => ⟨S16x1024, .bf16⟩
  | .local _ .vmem, ⟨19, _⟩ => ⟨S16x1024, .bf16⟩
  | .local _ .vmem, ⟨20, _⟩ => ⟨S16x1024, .bf16⟩
  | .local _ .vmem, ⟨21, _⟩ => ⟨S16x1024, .bf16⟩
  | .local _ .vmem, ⟨22, _⟩ => ⟨S16x1024, .bf16⟩
  | .local _ .vmem, ⟨23, _⟩ => ⟨S16x1024, .bf16⟩
  | .local _ .vmem, ⟨24, _⟩ => ⟨S16x1024, .bf16⟩
  | .local _ .vmem, ⟨25, _⟩ => ⟨S16x1024, .bf16⟩
  | .local _ .vmem, ⟨26, _⟩ => ⟨S16x1024, .bf16⟩
  | .local _ .vmem, ⟨27, _⟩ => ⟨S16x1024, .bf16⟩
  | .local _ .vmem, ⟨28, _⟩ => ⟨S16x1024, .bf16⟩
  | .local _ .vmem, ⟨29, _⟩ => ⟨S16x1024, .bf16⟩
  | .local _ .vmem, ⟨30, _⟩ => ⟨S16x1024, .bf16⟩
  | .local _ .vmem, ⟨31, _⟩ => ⟨S16x1024, .bf16⟩
  | .local _ .vmem, ⟨32, _⟩ => ⟨S16x1024, .bf16⟩
  | .local _ .vmem, ⟨33, _⟩ => ⟨S16x1024, .bf16⟩
  | .local _ .vmem, ⟨34, _⟩ => ⟨S16x1024, .bf16⟩
  | .local _ .vmem, ⟨35, _⟩ => ⟨S16x1024, .bf16⟩
  | _, _ => ⟨S1024x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 1 → Bool
  | ⟨0, _⟩ => false
  | _ => false

abbrev dmaSemScoped : Fin 170 → Bool
  | ⟨i, _⟩ => dmaSemScopedAt i

abbrev sig : RefSig :=
  (ofTc nBuf bufTy 1 170 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_scratch12 : Ref sig .tc := ⟨.vmem, 14, rfl⟩
abbrev cc0_scratch13 : Ref sig .tc := ⟨.vmem, 15, rfl⟩
abbrev cc0_scratch14 : Ref sig .tc := ⟨.vmem, 16, rfl⟩
abbrev cc0_scratch15 : Ref sig .tc := ⟨.vmem, 17, rfl⟩
abbrev cc0_scratch16 : Ref sig .tc := ⟨.vmem, 18, rfl⟩
abbrev cc0_scratch17 : Ref sig .tc := ⟨.vmem, 19, rfl⟩
abbrev cc0_scratch18 : Ref sig .tc := ⟨.vmem, 20, rfl⟩
abbrev cc0_scratch19 : Ref sig .tc := ⟨.vmem, 21, rfl⟩
abbrev cc0_scratch20 : Ref sig .tc := ⟨.vmem, 22, rfl⟩
abbrev cc0_scratch21 : Ref sig .tc := ⟨.vmem, 23, rfl⟩
abbrev cc0_scratch22 : Ref sig .tc := ⟨.vmem, 24, rfl⟩
abbrev cc0_scratch23 : Ref sig .tc := ⟨.vmem, 25, rfl⟩
abbrev cc0_scratch24 : Ref sig .tc := ⟨.vmem, 26, rfl⟩
abbrev cc0_scratch25 : Ref sig .tc := ⟨.vmem, 27, rfl⟩
abbrev cc0_scratch26 : Ref sig .tc := ⟨.vmem, 28, rfl⟩
abbrev cc0_scratch27 : Ref sig .tc := ⟨.vmem, 29, rfl⟩
abbrev cc0_scratch28 : Ref sig .tc := ⟨.vmem, 30, rfl⟩
abbrev cc0_scratch29 : Ref sig .tc := ⟨.vmem, 31, rfl⟩
abbrev cc0_scratch30 : Ref sig .tc := ⟨.vmem, 32, rfl⟩
abbrev cc0_scratch31 : Ref sig .tc := ⟨.vmem, 33, rfl⟩
abbrev cc0_scratch32 : Ref sig .tc := ⟨.vmem, 34, rfl⟩
abbrev cc0_scratch33 : Ref sig .tc := ⟨.vmem, 35, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v11 : BitVec 32 := Scalar.xori v2 c1_i32_5
  let c1_i32_7 : BitVec 32 := 1#32
  let v12 : BitVec 32 := Scalar.muli v11 c1_i32_7
  let v13 : BitVec 32 := Scalar.addi c0_i32 v12
  v13.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v14 : BitVec 32 := Scalar.xori v2 c3_i32
  let c1_i32_9 : BitVec 32 := 1#32
  let v15 : BitVec 32 := Scalar.muli v14 c1_i32_9
  let v16 : BitVec 32 := Scalar.addi c0_i32_10 v15
  v16.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v17 : BitVec 32 := Scalar.xori v2 c4_i32
  let c1_i32_12 : BitVec 32 := 1#32
  let v18 : BitVec 32 := Scalar.muli v17 c1_i32_12
  let v19 : BitVec 32 := Scalar.addi c0_i32_13 v18
  v19.toNat
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_14 : BitVec 32 := 2#32
  let v20 : BitVec 32 := Scalar.xori v2 c2_i32_14
  let c1_i32_16 : BitVec 32 := 1#32
  let v21 : BitVec 32 := Scalar.muli v20 c1_i32_16
  let v22 : BitVec 32 := Scalar.addi c0_i32_17 v21
  v22.toNat
def k0_dev5 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v23 : BitVec 32 := Scalar.xori v2 c7_i32
  let c1_i32_19 : BitVec 32 := 1#32
  let v24 : BitVec 32 := Scalar.muli v23 c1_i32_19
  let v25 : BitVec 32 := Scalar.addi c0_i32_20 v24
  v25.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v26 : BitVec 32 := Scalar.xori v2 c5_i32
  let c1_i32_22 : BitVec 32 := 1#32
  let v27 : BitVec 32 := Scalar.muli v26 c1_i32_22
  let v28 : BitVec 32 := Scalar.addi c0_i32_23 v27
  v28.toNat
def k0_off1 (d0 : Dev nD) (c0_i32_31 : BitVec 32) : Fin 2 → Nat :=
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v38 : BitVec 32 := Scalar.subi c1_i32_29 v5
  let c64_i32 : BitVec 32 := 64#32
  let v39 : BitVec 32 := Scalar.muli v38 c64_i32
  let v41 : BitVec 32 := Scalar.addi c0_i32_31 v39
  let c0_i32_37 : BitVec 32 := 0#32
  ![v41.toNat, 0]
def k0_dev7 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_32 : BitVec 32 := 1#32
  let v42 : BitVec 32 := Scalar.xori v2 c1_i32_32
  let c1_i32_35 : BitVec 32 := 1#32
  let v43 : BitVec 32 := Scalar.muli v42 c1_i32_35
  let v44 : BitVec 32 := Scalar.addi c0_i32_36 v43
  v44.toNat
def k0_off2 (d0 : Dev nD) (c128_i32 : BitVec 32) (c1_i32_2 : BitVec 32) : Fin 2 → Nat :=
  let c1_i32_44 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let v59 : BitVec 32 := Scalar.subi c1_i32_44 v7
  let c64_i32_45 : BitVec 32 := 64#32
  let v60 : BitVec 32 := Scalar.muli v59 c64_i32_45
  let v62 : BitVec 32 := Scalar.addi c128_i32 v60
  let c0_i32_52 : BitVec 32 := 0#32
  ![v62.toNat, 0]
def k0_off2_at (r : Fin 5) : BitVec 32 × BitVec 32 :=
  if r.val < 2 then
    if r.val < 1 then
      (128#32, 1#32)
    else
      (256#32, 2#32)
  else
    if r.val < 3 then
      (512#32, 1#32)
    else
      if r.val < 4 then
        (640#32, 2#32)
      else
        (896#32, 1#32)
def k0_dev8 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_47 : BitVec 32 := 3#32
  let v63 : BitVec 32 := Scalar.xori v2 c3_i32_47
  let c1_i32_50 : BitVec 32 := 1#32
  let v64 : BitVec 32 := Scalar.muli v63 c1_i32_50
  let v65 : BitVec 32 := Scalar.addi c0_i32_51 v64
  v65.toNat
def k0_dev9 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_62 : BitVec 32 := 4#32
  let v84 : BitVec 32 := Scalar.xori v2 c4_i32_62
  let c1_i32_64 : BitVec 32 := 1#32
  let v85 : BitVec 32 := Scalar.muli v84 c1_i32_64
  let v86 : BitVec 32 := Scalar.addi c0_i32_65 v85
  v86.toNat
def k0_dev10 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_76 : BitVec 32 := 1#32
  let v105 : BitVec 32 := Scalar.xori v2 c1_i32_76
  let c1_i32_78 : BitVec 32 := 1#32
  let v106 : BitVec 32 := Scalar.muli v105 c1_i32_78
  let v107 : BitVec 32 := Scalar.addi c0_i32_79 v106
  v107.toNat
def k0_dev11 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_90 : BitVec 32 := 3#32
  let v126 : BitVec 32 := Scalar.xori v2 c3_i32_90
  let c1_i32_92 : BitVec 32 := 1#32
  let v127 : BitVec 32 := Scalar.muli v126 c1_i32_92
  let v128 : BitVec 32 := Scalar.addi c0_i32_93 v127
  v128.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_104 : BitVec 32 := 4#32
  let v147 : BitVec 32 := Scalar.xori v2 c4_i32_104
  let c1_i32_106 : BitVec 32 := 1#32
  let v148 : BitVec 32 := Scalar.muli v147 c1_i32_106
  let v149 : BitVec 32 := Scalar.addi c0_i32_107 v148
  v149.toNat
def k0_dev13 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_118 : BitVec 32 := 1#32
  let v168 : BitVec 32 := Scalar.xori v2 c1_i32_118
  let c1_i32_120 : BitVec 32 := 1#32
  let v169 : BitVec 32 := Scalar.muli v168 c1_i32_120
  let v170 : BitVec 32 := Scalar.addi c0_i32_121 v169
  v170.toNat
def k0_dev14 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_132 : BitVec 32 := 3#32
  let v189 : BitVec 32 := Scalar.xori v2 c3_i32_132
  let c1_i32_134 : BitVec 32 := 1#32
  let v190 : BitVec 32 := Scalar.muli v189 c1_i32_134
  let v191 : BitVec 32 := Scalar.addi c0_i32_135 v190
  v191.toNat
def k0_off3 (d0 : Dev nD) (c0_i32_142 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_30 : BitVec 32 := 64#32
  let v40 : BitVec 32 := Scalar.muli v5 c64_i32_30
  let v202 : BitVec 32 := Scalar.addi c0_i32_142 v40
  let v203 : Index := Scalar.indexCast v202
  let c0_143 : Index := 0#32
  ![v203.toNat, 0]
def k0_off4 (d0 : Dev nD) (c0_i32_159 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_30 : BitVec 32 := 64#32
  let v40 : BitVec 32 := Scalar.muli v5 c64_i32_30
  let v227 : BitVec 32 := Scalar.addi c0_i32_159 v40
  let c2_i32_149 : BitVec 32 := 2#32
  let c1_i32_148 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v213 : BitVec 32 := Scalar.subi c1_i32_148 v7
  let v214 : BitVec 32 := Scalar.muli c2_i32_149 v213
  let c2_i32 : BitVec 32 := 2#32
  let v8 : BitVec 32 := Scalar.shrsi v2 c2_i32
  let c1_i32_4 : BitVec 32 := 1#32
  let v9 : BitVec 32 := Scalar.andi v8 c1_i32_4
  let v215 : BitVec 32 := Scalar.addi v214 v9
  let c16_i32_160 : BitVec 32 := 16#32
  let v228 : BitVec 32 := Scalar.muli v215 c16_i32_160
  let v229 : BitVec 32 := Scalar.addi v227 v228
  let c0_i32_165 : BitVec 32 := 0#32
  ![v229.toNat, 0]
def k0_dev15 (d0 : Dev nD) : Nat :=
  let c0_i32_164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_155 : BitVec 32 := 3#32
  let v223 : BitVec 32 := Scalar.xori v2 c3_i32_155
  let c1_i32_163 : BitVec 32 := 1#32
  let v230 : BitVec 32 := Scalar.muli v223 c1_i32_163
  let v231 : BitVec 32 := Scalar.addi c0_i32_164 v230
  v231.toNat
def k0_off5 (d0 : Dev nD) (c0_i32_166 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_30 : BitVec 32 := 64#32
  let v40 : BitVec 32 := Scalar.muli v5 c64_i32_30
  let v237 : BitVec 32 := Scalar.addi c0_i32_166 v40
  let c2_i32_150 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v216 : BitVec 32 := Scalar.muli c2_i32_150 v7
  let c1_i32_151 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v217 : BitVec 32 := Scalar.subi c1_i32_151 v9
  let v218 : BitVec 32 := Scalar.addi v216 v217
  let c16_i32_167 : BitVec 32 := 16#32
  let v238 : BitVec 32 := Scalar.muli v218 c16_i32_167
  let v239 : BitVec 32 := Scalar.addi v237 v238
  let c0_i32_172 : BitVec 32 := 0#32
  ![v239.toNat, 0]
def k0_dev16 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_156 : BitVec 32 := 4#32
  let v224 : BitVec 32 := Scalar.xori v2 c4_i32_156
  let c1_i32_170 : BitVec 32 := 1#32
  let v240 : BitVec 32 := Scalar.muli v224 c1_i32_170
  let v241 : BitVec 32 := Scalar.addi c0_i32_171 v240
  v241.toNat
def k0_off6 (d0 : Dev nD) (c0_i32_173 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_30 : BitVec 32 := 64#32
  let v40 : BitVec 32 := Scalar.muli v5 c64_i32_30
  let v247 : BitVec 32 := Scalar.addi c0_i32_173 v40
  let c2_i32_153 : BitVec 32 := 2#32
  let c1_i32_152 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v219 : BitVec 32 := Scalar.subi c1_i32_152 v7
  let v220 : BitVec 32 := Scalar.muli c2_i32_153 v219
  let c1_i32_154 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v221 : BitVec 32 := Scalar.subi c1_i32_154 v9
  let v222 : BitVec 32 := Scalar.addi v220 v221
  let c16_i32_174 : BitVec 32 := 16#32
  let v248 : BitVec 32 := Scalar.muli v222 c16_i32_174
  let v249 : BitVec 32 := Scalar.addi v247 v248
  let c0_i32_179 : BitVec 32 := 0#32
  ![v249.toNat, 0]
def k0_dev17 (d0 : Dev nD) : Nat :=
  let c0_i32_178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_157 : BitVec 32 := 3#32
  let v225 : BitVec 32 := Scalar.xori v2 c3_i32_157
  let c4_i32_158 : BitVec 32 := 4#32
  let v226 : BitVec 32 := Scalar.xori v225 c4_i32_158
  let c1_i32_177 : BitVec 32 := 1#32
  let v250 : BitVec 32 := Scalar.muli v226 c1_i32_177
  let v251 : BitVec 32 := Scalar.addi c0_i32_178 v250
  v251.toNat
def k0_off7 (d0 : Dev nD) (c128_i32_185 : BitVec 32) (c1_i32_2 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let c64_i32_46 : BitVec 32 := 64#32
  let v61 : BitVec 32 := Scalar.muli v7 c64_i32_46
  let v262 : BitVec 32 := Scalar.addi c128_i32_185 v61
  let v263 : Index := Scalar.indexCast v262
  let c0_186 : Index := 0#32
  ![v263.toNat, 0]
def k0_off7_at (r : Fin 5) : BitVec 32 × BitVec 32 :=
  if r.val < 2 then
    if r.val < 1 then
      (128#32, 1#32)
    else
      (256#32, 2#32)
  else
    if r.val < 3 then
      (512#32, 1#32)
    else
      if r.val < 4 then
        (640#32, 2#32)
      else
        (896#32, 1#32)
def k0_off8 (d0 : Dev nD) (c128_i32_202 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c64_i32_46 : BitVec 32 := 64#32
  let v61 : BitVec 32 := Scalar.muli v7 c64_i32_46
  let v287 : BitVec 32 := Scalar.addi c128_i32_202 v61
  let c2_i32_192 : BitVec 32 := 2#32
  let c1_i32_191 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v273 : BitVec 32 := Scalar.subi c1_i32_191 v9
  let v274 : BitVec 32 := Scalar.muli c2_i32_192 v273
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v275 : BitVec 32 := Scalar.addi v274 v5
  let c16_i32_203 : BitVec 32 := 16#32
  let v288 : BitVec 32 := Scalar.muli v275 c16_i32_203
  let v289 : BitVec 32 := Scalar.addi v287 v288
  let c0_i32_207 : BitVec 32 := 0#32
  ![v289.toNat, 0]
def k0_dev18 (d0 : Dev nD) : Nat :=
  let c0_i32_206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_198 : BitVec 32 := 4#32
  let v283 : BitVec 32 := Scalar.xori v2 c4_i32_198
  let c1_i32_205 : BitVec 32 := 1#32
  let v290 : BitVec 32 := Scalar.muli v283 c1_i32_205
  let v291 : BitVec 32 := Scalar.addi c0_i32_206 v290
  v291.toNat
def k0_off9 (d0 : Dev nD) (c128_i32_208 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c64_i32_46 : BitVec 32 := 64#32
  let v61 : BitVec 32 := Scalar.muli v7 c64_i32_46
  let v297 : BitVec 32 := Scalar.addi c128_i32_208 v61
  let c2_i32_193 : BitVec 32 := 2#32
  let c2_i32 : BitVec 32 := 2#32
  let v8 : BitVec 32 := Scalar.shrsi v2 c2_i32
  let c1_i32_4 : BitVec 32 := 1#32
  let v9 : BitVec 32 := Scalar.andi v8 c1_i32_4
  let v276 : BitVec 32 := Scalar.muli c2_i32_193 v9
  let c1_i32_194 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v277 : BitVec 32 := Scalar.subi c1_i32_194 v5
  let v278 : BitVec 32 := Scalar.addi v276 v277
  let c16_i32_209 : BitVec 32 := 16#32
  let v298 : BitVec 32 := Scalar.muli v278 c16_i32_209
  let v299 : BitVec 32 := Scalar.addi v297 v298
  let c0_i32_213 : BitVec 32 := 0#32
  ![v299.toNat, 0]
def k0_dev19 (d0 : Dev nD) : Nat :=
  let c0_i32_212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_199 : BitVec 32 := 1#32
  let v284 : BitVec 32 := Scalar.xori v2 c1_i32_199
  let c1_i32_211 : BitVec 32 := 1#32
  let v300 : BitVec 32 := Scalar.muli v284 c1_i32_211
  let v301 : BitVec 32 := Scalar.addi c0_i32_212 v300
  v301.toNat
def k0_off10 (d0 : Dev nD) (c128_i32_214 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c64_i32_46 : BitVec 32 := 64#32
  let v61 : BitVec 32 := Scalar.muli v7 c64_i32_46
  let v307 : BitVec 32 := Scalar.addi c128_i32_214 v61
  let c2_i32_196 : BitVec 32 := 2#32
  let c1_i32_195 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v279 : BitVec 32 := Scalar.subi c1_i32_195 v9
  let v280 : BitVec 32 := Scalar.muli c2_i32_196 v279
  let c1_i32_197 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v281 : BitVec 32 := Scalar.subi c1_i32_197 v5
  let v282 : BitVec 32 := Scalar.addi v280 v281
  let c16_i32_215 : BitVec 32 := 16#32
  let v308 : BitVec 32 := Scalar.muli v282 c16_i32_215
  let v309 : BitVec 32 := Scalar.addi v307 v308
  let c0_i32_219 : BitVec 32 := 0#32
  ![v309.toNat, 0]
def k0_dev20 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_200 : BitVec 32 := 4#32
  let v285 : BitVec 32 := Scalar.xori v2 c4_i32_200
  let c1_i32_201 : BitVec 32 := 1#32
  let v286 : BitVec 32 := Scalar.xori v285 c1_i32_201
  let c1_i32_217 : BitVec 32 := 1#32
  let v310 : BitVec 32 := Scalar.muli v286 c1_i32_217
  let v311 : BitVec 32 := Scalar.addi c0_i32_218 v310
  v311.toNat
def k0_off11 (d0 : Dev nD) (c256_i32_242 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c64_i32_61 : BitVec 32 := 64#32
  let v82 : BitVec 32 := Scalar.muli v9 c64_i32_61
  let v347 : BitVec 32 := Scalar.addi c256_i32_242 v82
  let c2_i32_232 : BitVec 32 := 2#32
  let c1_i32_231 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v333 : BitVec 32 := Scalar.subi c1_i32_231 v5
  let v334 : BitVec 32 := Scalar.muli c2_i32_232 v333
  let c1_i32_2 : BitVec 32 := 1#32
  let v6 : BitVec 32 := Scalar.shrsi v2 c1_i32_2
  let c1_i32_3 : BitVec 32 := 1#32
  let v7 : BitVec 32 := Scalar.andi v6 c1_i32_3
  let v335 : BitVec 32 := Scalar.addi v334 v7
  let c16_i32_243 : BitVec 32 := 16#32
  let v348 : BitVec 32 := Scalar.muli v335 c16_i32_243
  let v349 : BitVec 32 := Scalar.addi v347 v348
  let c0_i32_247 : BitVec 32 := 0#32
  ![v349.toNat, 0]
def k0_dev21 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_238 : BitVec 32 := 1#32
  let v343 : BitVec 32 := Scalar.xori v2 c1_i32_238
  let c1_i32_245 : BitVec 32 := 1#32
  let v350 : BitVec 32 := Scalar.muli v343 c1_i32_245
  let v351 : BitVec 32 := Scalar.addi c0_i32_246 v350
  v351.toNat
def k0_off12 (d0 : Dev nD) (c256_i32_248 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c64_i32_61 : BitVec 32 := 64#32
  let v82 : BitVec 32 := Scalar.muli v9 c64_i32_61
  let v357 : BitVec 32 := Scalar.addi c256_i32_248 v82
  let c2_i32_233 : BitVec 32 := 2#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v336 : BitVec 32 := Scalar.muli c2_i32_233 v5
  let c1_i32_234 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v337 : BitVec 32 := Scalar.subi c1_i32_234 v7
  let v338 : BitVec 32 := Scalar.addi v336 v337
  let c16_i32_249 : BitVec 32 := 16#32
  let v358 : BitVec 32 := Scalar.muli v338 c16_i32_249
  let v359 : BitVec 32 := Scalar.addi v357 v358
  let c0_i32_253 : BitVec 32 := 0#32
  ![v359.toNat, 0]
def k0_dev22 (d0 : Dev nD) : Nat :=
  let c0_i32_252 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_239 : BitVec 32 := 3#32
  let v344 : BitVec 32 := Scalar.xori v2 c3_i32_239
  let c1_i32_251 : BitVec 32 := 1#32
  let v360 : BitVec 32 := Scalar.muli v344 c1_i32_251
  let v361 : BitVec 32 := Scalar.addi c0_i32_252 v360
  v361.toNat
def k0_off13 (d0 : Dev nD) (c256_i32_254 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c64_i32_61 : BitVec 32 := 64#32
  let v82 : BitVec 32 := Scalar.muli v9 c64_i32_61
  let v367 : BitVec 32 := Scalar.addi c256_i32_254 v82
  let c2_i32_236 : BitVec 32 := 2#32
  let c1_i32_235 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v339 : BitVec 32 := Scalar.subi c1_i32_235 v5
  let v340 : BitVec 32 := Scalar.muli c2_i32_236 v339
  let c1_i32_237 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v341 : BitVec 32 := Scalar.subi c1_i32_237 v7
  let v342 : BitVec 32 := Scalar.addi v340 v341
  let c16_i32_255 : BitVec 32 := 16#32
  let v368 : BitVec 32 := Scalar.muli v342 c16_i32_255
  let v369 : BitVec 32 := Scalar.addi v367 v368
  let c0_i32_259 : BitVec 32 := 0#32
  ![v369.toNat, 0]
def k0_dev23 (d0 : Dev nD) : Nat :=
  let c0_i32_258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_240 : BitVec 32 := 1#32
  let v345 : BitVec 32 := Scalar.xori v2 c1_i32_240
  let c3_i32_241 : BitVec 32 := 3#32
  let v346 : BitVec 32 := Scalar.xori v345 c3_i32_241
  let c1_i32_257 : BitVec 32 := 1#32
  let v370 : BitVec 32 := Scalar.muli v346 c1_i32_257
  let v371 : BitVec 32 := Scalar.addi c0_i32_258 v370
  v371.toNat
def k0_dev24 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_278 : BitVec 32 := 3#32
  let v403 : BitVec 32 := Scalar.xori v2 c3_i32_278
  let c1_i32_285 : BitVec 32 := 1#32
  let v410 : BitVec 32 := Scalar.muli v403 c1_i32_285
  let v411 : BitVec 32 := Scalar.addi c0_i32_286 v410
  v411.toNat
def k0_dev25 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_279 : BitVec 32 := 4#32
  let v404 : BitVec 32 := Scalar.xori v2 c4_i32_279
  let c1_i32_291 : BitVec 32 := 1#32
  let v420 : BitVec 32 := Scalar.muli v404 c1_i32_291
  let v421 : BitVec 32 := Scalar.addi c0_i32_292 v420
  v421.toNat
def k0_dev26 (d0 : Dev nD) : Nat :=
  let c0_i32_298 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_280 : BitVec 32 := 3#32
  let v405 : BitVec 32 := Scalar.xori v2 c3_i32_280
  let c4_i32_281 : BitVec 32 := 4#32
  let v406 : BitVec 32 := Scalar.xori v405 c4_i32_281
  let c1_i32_297 : BitVec 32 := 1#32
  let v430 : BitVec 32 := Scalar.muli v406 c1_i32_297
  let v431 : BitVec 32 := Scalar.addi c0_i32_298 v430
  v431.toNat
def k0_dev27 (d0 : Dev nD) : Nat :=
  let c0_i32_326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_318 : BitVec 32 := 4#32
  let v463 : BitVec 32 := Scalar.xori v2 c4_i32_318
  let c1_i32_325 : BitVec 32 := 1#32
  let v470 : BitVec 32 := Scalar.muli v463 c1_i32_325
  let v471 : BitVec 32 := Scalar.addi c0_i32_326 v470
  v471.toNat
def k0_dev28 (d0 : Dev nD) : Nat :=
  let c0_i32_332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_319 : BitVec 32 := 1#32
  let v464 : BitVec 32 := Scalar.xori v2 c1_i32_319
  let c1_i32_331 : BitVec 32 := 1#32
  let v480 : BitVec 32 := Scalar.muli v464 c1_i32_331
  let v481 : BitVec 32 := Scalar.addi c0_i32_332 v480
  v481.toNat
def k0_dev29 (d0 : Dev nD) : Nat :=
  let c0_i32_338 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_320 : BitVec 32 := 4#32
  let v465 : BitVec 32 := Scalar.xori v2 c4_i32_320
  let c1_i32_321 : BitVec 32 := 1#32
  let v466 : BitVec 32 := Scalar.xori v465 c1_i32_321
  let c1_i32_337 : BitVec 32 := 1#32
  let v490 : BitVec 32 := Scalar.muli v466 c1_i32_337
  let v491 : BitVec 32 := Scalar.addi c0_i32_338 v490
  v491.toNat
def k0_dev30 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_358 : BitVec 32 := 1#32
  let v523 : BitVec 32 := Scalar.xori v2 c1_i32_358
  let c1_i32_365 : BitVec 32 := 1#32
  let v530 : BitVec 32 := Scalar.muli v523 c1_i32_365
  let v531 : BitVec 32 := Scalar.addi c0_i32_366 v530
  v531.toNat
def k0_dev31 (d0 : Dev nD) : Nat :=
  let c0_i32_372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_359 : BitVec 32 := 3#32
  let v524 : BitVec 32 := Scalar.xori v2 c3_i32_359
  let c1_i32_371 : BitVec 32 := 1#32
  let v540 : BitVec 32 := Scalar.muli v524 c1_i32_371
  let v541 : BitVec 32 := Scalar.addi c0_i32_372 v540
  v541.toNat
def k0_dev32 (d0 : Dev nD) : Nat :=
  let c0_i32_378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_360 : BitVec 32 := 1#32
  let v525 : BitVec 32 := Scalar.xori v2 c1_i32_360
  let c3_i32_361 : BitVec 32 := 3#32
  let v526 : BitVec 32 := Scalar.xori v525 c3_i32_361
  let c1_i32_377 : BitVec 32 := 1#32
  let v550 : BitVec 32 := Scalar.muli v526 c1_i32_377
  let v551 : BitVec 32 := Scalar.addi c0_i32_378 v550
  v551.toNat
def k0_dev33 (d0 : Dev nD) : Nat :=
  let c0_i32_406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_398 : BitVec 32 := 3#32
  let v583 : BitVec 32 := Scalar.xori v2 c3_i32_398
  let c1_i32_405 : BitVec 32 := 1#32
  let v590 : BitVec 32 := Scalar.muli v583 c1_i32_405
  let v591 : BitVec 32 := Scalar.addi c0_i32_406 v590
  v591.toNat
def k0_dev34 (d0 : Dev nD) : Nat :=
  let c0_i32_412 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_399 : BitVec 32 := 4#32
  let v584 : BitVec 32 := Scalar.xori v2 c4_i32_399
  let c1_i32_411 : BitVec 32 := 1#32
  let v600 : BitVec 32 := Scalar.muli v584 c1_i32_411
  let v601 : BitVec 32 := Scalar.addi c0_i32_412 v600
  v601.toNat
def k0_dev35 (d0 : Dev nD) : Nat :=
  let c0_i32_418 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_400 : BitVec 32 := 3#32
  let v585 : BitVec 32 := Scalar.xori v2 c3_i32_400
  let c4_i32_401 : BitVec 32 := 4#32
  let v586 : BitVec 32 := Scalar.xori v585 c4_i32_401
  let c1_i32_417 : BitVec 32 := 1#32
  let v610 : BitVec 32 := Scalar.muli v586 c1_i32_417
  let v611 : BitVec 32 := Scalar.addi c0_i32_418 v610
  v611.toNat
def k0_dev36 (d0 : Dev nD) : Nat :=
  let c0_i32_446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_438 : BitVec 32 := 4#32
  let v643 : BitVec 32 := Scalar.xori v2 c4_i32_438
  let c1_i32_445 : BitVec 32 := 1#32
  let v650 : BitVec 32 := Scalar.muli v643 c1_i32_445
  let v651 : BitVec 32 := Scalar.addi c0_i32_446 v650
  v651.toNat
def k0_dev37 (d0 : Dev nD) : Nat :=
  let c0_i32_452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_439 : BitVec 32 := 1#32
  let v644 : BitVec 32 := Scalar.xori v2 c1_i32_439
  let c1_i32_451 : BitVec 32 := 1#32
  let v660 : BitVec 32 := Scalar.muli v644 c1_i32_451
  let v661 : BitVec 32 := Scalar.addi c0_i32_452 v660
  v661.toNat
def k0_dev38 (d0 : Dev nD) : Nat :=
  let c0_i32_458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_440 : BitVec 32 := 4#32
  let v645 : BitVec 32 := Scalar.xori v2 c4_i32_440
  let c1_i32_441 : BitVec 32 := 1#32
  let v646 : BitVec 32 := Scalar.xori v645 c1_i32_441
  let c1_i32_457 : BitVec 32 := 1#32
  let v670 : BitVec 32 := Scalar.muli v646 c1_i32_457
  let v671 : BitVec 32 := Scalar.addi c0_i32_458 v670
  v671.toNat
def k0_off14 (d0 : Dev nD) (c0_i32_476 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_30 : BitVec 32 := 64#32
  let v40 : BitVec 32 := Scalar.muli v5 c64_i32_30
  let c2_i32_147 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v211 : BitVec 32 := Scalar.muli c2_i32_147 v7
  let c2_i32 : BitVec 32 := 2#32
  let v8 : BitVec 32 := Scalar.shrsi v2 c2_i32
  let c1_i32_4 : BitVec 32 := 1#32
  let v9 : BitVec 32 := Scalar.andi v8 c1_i32_4
  let v212 : BitVec 32 := Scalar.addi v211 v9
  let c16_i32_475 : BitVec 32 := 16#32
  let v692 : BitVec 32 := Scalar.muli v212 c16_i32_475
  let v693 : BitVec 32 := Scalar.addi v40 v692
  let v694 : BitVec 32 := Scalar.addi c0_i32_476 v693
  let v695 : Index := Scalar.indexCast v694
  let c0_477 : Index := 0#32
  ![v695.toNat, 0]
def k0_off15 (d0 : Dev nD) (c0_i32_492 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_30 : BitVec 32 := 64#32
  let v40 : BitVec 32 := Scalar.muli v5 c64_i32_30
  let c2_i32_147 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v211 : BitVec 32 := Scalar.muli c2_i32_147 v7
  let c2_i32 : BitVec 32 := 2#32
  let v8 : BitVec 32 := Scalar.shrsi v2 c2_i32
  let c1_i32_4 : BitVec 32 := 1#32
  let v9 : BitVec 32 := Scalar.andi v8 c1_i32_4
  let v212 : BitVec 32 := Scalar.addi v211 v9
  let c16_i32_475 : BitVec 32 := 16#32
  let v692 : BitVec 32 := Scalar.muli v212 c16_i32_475
  let v693 : BitVec 32 := Scalar.addi v40 v692
  let v715 : BitVec 32 := Scalar.addi c0_i32_492 v693
  let c0_i32_497 : BitVec 32 := 0#32
  ![v715.toNat, 0]
def k0_dev39 (d0 : Dev nD) : Nat :=
  let c0_i32_496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_487 : BitVec 32 := 3#32
  let v710 : BitVec 32 := Scalar.xori v2 c3_i32_487
  let c1_i32_495 : BitVec 32 := 1#32
  let v716 : BitVec 32 := Scalar.muli v710 c1_i32_495
  let v717 : BitVec 32 := Scalar.addi c0_i32_496 v716
  v717.toNat
def k0_dev40 (d0 : Dev nD) : Nat :=
  let c0_i32_504 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_488 : BitVec 32 := 4#32
  let v711 : BitVec 32 := Scalar.xori v2 c4_i32_488
  let c1_i32_503 : BitVec 32 := 1#32
  let v726 : BitVec 32 := Scalar.muli v711 c1_i32_503
  let v727 : BitVec 32 := Scalar.addi c0_i32_504 v726
  v727.toNat
def k0_dev41 (d0 : Dev nD) : Nat :=
  let c0_i32_512 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_489 : BitVec 32 := 3#32
  let v712 : BitVec 32 := Scalar.xori v2 c3_i32_489
  let c4_i32_490 : BitVec 32 := 4#32
  let v713 : BitVec 32 := Scalar.xori v712 c4_i32_490
  let c1_i32_511 : BitVec 32 := 1#32
  let v736 : BitVec 32 := Scalar.muli v713 c1_i32_511
  let v737 : BitVec 32 := Scalar.addi c0_i32_512 v736
  v737.toNat
def k0_off16 (d0 : Dev nD) (c128_i32_538 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c64_i32_46 : BitVec 32 := 64#32
  let v61 : BitVec 32 := Scalar.muli v7 c64_i32_46
  let c2_i32_190 : BitVec 32 := 2#32
  let c2_i32 : BitVec 32 := 2#32
  let v8 : BitVec 32 := Scalar.shrsi v2 c2_i32
  let c1_i32_4 : BitVec 32 := 1#32
  let v9 : BitVec 32 := Scalar.andi v8 c1_i32_4
  let v271 : BitVec 32 := Scalar.muli c2_i32_190 v9
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v272 : BitVec 32 := Scalar.addi v271 v5
  let c16_i32_537 : BitVec 32 := 16#32
  let v771 : BitVec 32 := Scalar.muli v272 c16_i32_537
  let v772 : BitVec 32 := Scalar.addi v61 v771
  let v773 : BitVec 32 := Scalar.addi c128_i32_538 v772
  let v774 : Index := Scalar.indexCast v773
  let c0_539 : Index := 0#32
  ![v774.toNat, 0]
def k0_off17 (d0 : Dev nD) (c128_i32_554 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c64_i32_46 : BitVec 32 := 64#32
  let v61 : BitVec 32 := Scalar.muli v7 c64_i32_46
  let c2_i32_190 : BitVec 32 := 2#32
  let c2_i32 : BitVec 32 := 2#32
  let v8 : BitVec 32 := Scalar.shrsi v2 c2_i32
  let c1_i32_4 : BitVec 32 := 1#32
  let v9 : BitVec 32 := Scalar.andi v8 c1_i32_4
  let v271 : BitVec 32 := Scalar.muli c2_i32_190 v9
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v272 : BitVec 32 := Scalar.addi v271 v5
  let c16_i32_537 : BitVec 32 := 16#32
  let v771 : BitVec 32 := Scalar.muli v272 c16_i32_537
  let v772 : BitVec 32 := Scalar.addi v61 v771
  let v794 : BitVec 32 := Scalar.addi c128_i32_554 v772
  let c0_i32_558 : BitVec 32 := 0#32
  ![v794.toNat, 0]
def k0_dev42 (d0 : Dev nD) : Nat :=
  let c0_i32_557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_549 : BitVec 32 := 4#32
  let v789 : BitVec 32 := Scalar.xori v2 c4_i32_549
  let c1_i32_556 : BitVec 32 := 1#32
  let v795 : BitVec 32 := Scalar.muli v789 c1_i32_556
  let v796 : BitVec 32 := Scalar.addi c0_i32_557 v795
  v796.toNat
def k0_dev43 (d0 : Dev nD) : Nat :=
  let c0_i32_564 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_550 : BitVec 32 := 1#32
  let v790 : BitVec 32 := Scalar.xori v2 c1_i32_550
  let c1_i32_563 : BitVec 32 := 1#32
  let v805 : BitVec 32 := Scalar.muli v790 c1_i32_563
  let v806 : BitVec 32 := Scalar.addi c0_i32_564 v805
  v806.toNat
def k0_dev44 (d0 : Dev nD) : Nat :=
  let c0_i32_571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_551 : BitVec 32 := 4#32
  let v791 : BitVec 32 := Scalar.xori v2 c4_i32_551
  let c1_i32_552 : BitVec 32 := 1#32
  let v792 : BitVec 32 := Scalar.xori v791 c1_i32_552
  let c1_i32_570 : BitVec 32 := 1#32
  let v815 : BitVec 32 := Scalar.muli v792 c1_i32_570
  let v816 : BitVec 32 := Scalar.addi c0_i32_571 v815
  v816.toNat
def k0_off18 (d0 : Dev nD) (c256_i32_597 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c64_i32_61 : BitVec 32 := 64#32
  let v82 : BitVec 32 := Scalar.muli v9 c64_i32_61
  let c2_i32_230 : BitVec 32 := 2#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v331 : BitVec 32 := Scalar.muli c2_i32_230 v5
  let c1_i32_2 : BitVec 32 := 1#32
  let v6 : BitVec 32 := Scalar.shrsi v2 c1_i32_2
  let c1_i32_3 : BitVec 32 := 1#32
  let v7 : BitVec 32 := Scalar.andi v6 c1_i32_3
  let v332 : BitVec 32 := Scalar.addi v331 v7
  let c16_i32_596 : BitVec 32 := 16#32
  let v850 : BitVec 32 := Scalar.muli v332 c16_i32_596
  let v851 : BitVec 32 := Scalar.addi v82 v850
  let v852 : BitVec 32 := Scalar.addi c256_i32_597 v851
  let v853 : Index := Scalar.indexCast v852
  let c0_598 : Index := 0#32
  ![v853.toNat, 0]
def k0_off19 (d0 : Dev nD) (c256_i32_613 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c64_i32_61 : BitVec 32 := 64#32
  let v82 : BitVec 32 := Scalar.muli v9 c64_i32_61
  let c2_i32_230 : BitVec 32 := 2#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v331 : BitVec 32 := Scalar.muli c2_i32_230 v5
  let c1_i32_2 : BitVec 32 := 1#32
  let v6 : BitVec 32 := Scalar.shrsi v2 c1_i32_2
  let c1_i32_3 : BitVec 32 := 1#32
  let v7 : BitVec 32 := Scalar.andi v6 c1_i32_3
  let v332 : BitVec 32 := Scalar.addi v331 v7
  let c16_i32_596 : BitVec 32 := 16#32
  let v850 : BitVec 32 := Scalar.muli v332 c16_i32_596
  let v851 : BitVec 32 := Scalar.addi v82 v850
  let v873 : BitVec 32 := Scalar.addi c256_i32_613 v851
  let c0_i32_617 : BitVec 32 := 0#32
  ![v873.toNat, 0]
def k0_dev45 (d0 : Dev nD) : Nat :=
  let c0_i32_616 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_608 : BitVec 32 := 1#32
  let v868 : BitVec 32 := Scalar.xori v2 c1_i32_608
  let c1_i32_615 : BitVec 32 := 1#32
  let v874 : BitVec 32 := Scalar.muli v868 c1_i32_615
  let v875 : BitVec 32 := Scalar.addi c0_i32_616 v874
  v875.toNat
def k0_dev46 (d0 : Dev nD) : Nat :=
  let c0_i32_623 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_609 : BitVec 32 := 3#32
  let v869 : BitVec 32 := Scalar.xori v2 c3_i32_609
  let c1_i32_622 : BitVec 32 := 1#32
  let v884 : BitVec 32 := Scalar.muli v869 c1_i32_622
  let v885 : BitVec 32 := Scalar.addi c0_i32_623 v884
  v885.toNat
def k0_dev47 (d0 : Dev nD) : Nat :=
  let c0_i32_630 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_610 : BitVec 32 := 1#32
  let v870 : BitVec 32 := Scalar.xori v2 c1_i32_610
  let c3_i32_611 : BitVec 32 := 3#32
  let v871 : BitVec 32 := Scalar.xori v870 c3_i32_611
  let c1_i32_629 : BitVec 32 := 1#32
  let v894 : BitVec 32 := Scalar.muli v871 c1_i32_629
  let v895 : BitVec 32 := Scalar.addi c0_i32_630 v894
  v895.toNat
def k0_dev48 (d0 : Dev nD) : Nat :=
  let c0_i32_675 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_667 : BitVec 32 := 3#32
  let v947 : BitVec 32 := Scalar.xori v2 c3_i32_667
  let c1_i32_674 : BitVec 32 := 1#32
  let v953 : BitVec 32 := Scalar.muli v947 c1_i32_674
  let v954 : BitVec 32 := Scalar.addi c0_i32_675 v953
  v954.toNat
def k0_dev49 (d0 : Dev nD) : Nat :=
  let c0_i32_682 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_668 : BitVec 32 := 4#32
  let v948 : BitVec 32 := Scalar.xori v2 c4_i32_668
  let c1_i32_681 : BitVec 32 := 1#32
  let v963 : BitVec 32 := Scalar.muli v948 c1_i32_681
  let v964 : BitVec 32 := Scalar.addi c0_i32_682 v963
  v964.toNat
def k0_dev50 (d0 : Dev nD) : Nat :=
  let c0_i32_689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_669 : BitVec 32 := 3#32
  let v949 : BitVec 32 := Scalar.xori v2 c3_i32_669
  let c4_i32_670 : BitVec 32 := 4#32
  let v950 : BitVec 32 := Scalar.xori v949 c4_i32_670
  let c1_i32_688 : BitVec 32 := 1#32
  let v973 : BitVec 32 := Scalar.muli v950 c1_i32_688
  let v974 : BitVec 32 := Scalar.addi c0_i32_689 v973
  v974.toNat
def k0_dev51 (d0 : Dev nD) : Nat :=
  let c0_i32_733 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_725 : BitVec 32 := 4#32
  let v1026 : BitVec 32 := Scalar.xori v2 c4_i32_725
  let c1_i32_732 : BitVec 32 := 1#32
  let v1032 : BitVec 32 := Scalar.muli v1026 c1_i32_732
  let v1033 : BitVec 32 := Scalar.addi c0_i32_733 v1032
  v1033.toNat
def k0_dev52 (d0 : Dev nD) : Nat :=
  let c0_i32_740 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_726 : BitVec 32 := 1#32
  let v1027 : BitVec 32 := Scalar.xori v2 c1_i32_726
  let c1_i32_739 : BitVec 32 := 1#32
  let v1042 : BitVec 32 := Scalar.muli v1027 c1_i32_739
  let v1043 : BitVec 32 := Scalar.addi c0_i32_740 v1042
  v1043.toNat
def k0_dev53 (d0 : Dev nD) : Nat :=
  let c0_i32_747 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_727 : BitVec 32 := 4#32
  let v1028 : BitVec 32 := Scalar.xori v2 c4_i32_727
  let c1_i32_728 : BitVec 32 := 1#32
  let v1029 : BitVec 32 := Scalar.xori v1028 c1_i32_728
  let c1_i32_746 : BitVec 32 := 1#32
  let v1052 : BitVec 32 := Scalar.muli v1029 c1_i32_746
  let v1053 : BitVec 32 := Scalar.addi c0_i32_747 v1052
  v1053.toNat
def k0_dev54 (d0 : Dev nD) : Nat :=
  let c0_i32_792 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_784 : BitVec 32 := 1#32
  let v1105 : BitVec 32 := Scalar.xori v2 c1_i32_784
  let c1_i32_791 : BitVec 32 := 1#32
  let v1111 : BitVec 32 := Scalar.muli v1105 c1_i32_791
  let v1112 : BitVec 32 := Scalar.addi c0_i32_792 v1111
  v1112.toNat
def k0_dev55 (d0 : Dev nD) : Nat :=
  let c0_i32_799 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_785 : BitVec 32 := 3#32
  let v1106 : BitVec 32 := Scalar.xori v2 c3_i32_785
  let c1_i32_798 : BitVec 32 := 1#32
  let v1121 : BitVec 32 := Scalar.muli v1106 c1_i32_798
  let v1122 : BitVec 32 := Scalar.addi c0_i32_799 v1121
  v1122.toNat
def k0_dev56 (d0 : Dev nD) : Nat :=
  let c0_i32_806 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_786 : BitVec 32 := 1#32
  let v1107 : BitVec 32 := Scalar.xori v2 c1_i32_786
  let c3_i32_787 : BitVec 32 := 3#32
  let v1108 : BitVec 32 := Scalar.xori v1107 c3_i32_787
  let c1_i32_805 : BitVec 32 := 1#32
  let v1131 : BitVec 32 := Scalar.muli v1108 c1_i32_805
  let v1132 : BitVec 32 := Scalar.addi c0_i32_806 v1131
  v1132.toNat
def k0_dev57 (d0 : Dev nD) : Nat :=
  let c0_i32_851 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_843 : BitVec 32 := 3#32
  let v1184 : BitVec 32 := Scalar.xori v2 c3_i32_843
  let c1_i32_850 : BitVec 32 := 1#32
  let v1190 : BitVec 32 := Scalar.muli v1184 c1_i32_850
  let v1191 : BitVec 32 := Scalar.addi c0_i32_851 v1190
  v1191.toNat
def k0_dev58 (d0 : Dev nD) : Nat :=
  let c0_i32_858 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_844 : BitVec 32 := 4#32
  let v1185 : BitVec 32 := Scalar.xori v2 c4_i32_844
  let c1_i32_857 : BitVec 32 := 1#32
  let v1200 : BitVec 32 := Scalar.muli v1185 c1_i32_857
  let v1201 : BitVec 32 := Scalar.addi c0_i32_858 v1200
  v1201.toNat
def k0_dev59 (d0 : Dev nD) : Nat :=
  let c0_i32_865 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_845 : BitVec 32 := 3#32
  let v1186 : BitVec 32 := Scalar.xori v2 c3_i32_845
  let c4_i32_846 : BitVec 32 := 4#32
  let v1187 : BitVec 32 := Scalar.xori v1186 c4_i32_846
  let c1_i32_864 : BitVec 32 := 1#32
  let v1210 : BitVec 32 := Scalar.muli v1187 c1_i32_864
  let v1211 : BitVec 32 := Scalar.addi c0_i32_865 v1210
  v1211.toNat
def k0_dev60 (d0 : Dev nD) : Nat :=
  let c0_i32_910 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_902 : BitVec 32 := 4#32
  let v1263 : BitVec 32 := Scalar.xori v2 c4_i32_902
  let c1_i32_909 : BitVec 32 := 1#32
  let v1269 : BitVec 32 := Scalar.muli v1263 c1_i32_909
  let v1270 : BitVec 32 := Scalar.addi c0_i32_910 v1269
  v1270.toNat
def k0_dev61 (d0 : Dev nD) : Nat :=
  let c0_i32_917 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_903 : BitVec 32 := 1#32
  let v1264 : BitVec 32 := Scalar.xori v2 c1_i32_903
  let c1_i32_916 : BitVec 32 := 1#32
  let v1279 : BitVec 32 := Scalar.muli v1264 c1_i32_916
  let v1280 : BitVec 32 := Scalar.addi c0_i32_917 v1279
  v1280.toNat
def k0_dev62 (d0 : Dev nD) : Nat :=
  let c0_i32_924 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_904 : BitVec 32 := 4#32
  let v1265 : BitVec 32 := Scalar.xori v2 c4_i32_904
  let c1_i32_905 : BitVec 32 := 1#32
  let v1266 : BitVec 32 := Scalar.xori v1265 c1_i32_905
  let c1_i32_923 : BitVec 32 := 1#32
  let v1289 : BitVec 32 := Scalar.muli v1266 c1_i32_923
  let v1290 : BitVec 32 := Scalar.addi c0_i32_924 v1289
  v1290.toNat
def k0_off20 (d0 : Dev nD) (c0_i32_953 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_30 : BitVec 32 := 64#32
  let v40 : BitVec 32 := Scalar.muli v5 c64_i32_30
  let v1328 : BitVec 32 := Scalar.addi c0_i32_953 v40
  let c0_i32_959 : BitVec 32 := 0#32
  ![v1328.toNat, 0]
def k0_dev63 (d0 : Dev nD) : Nat :=
  let c0_i32_958 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_954 : BitVec 32 := 1#32
  let v1329 : BitVec 32 := Scalar.xori v2 c1_i32_954
  let c1_i32_957 : BitVec 32 := 1#32
  let v1330 : BitVec 32 := Scalar.muli v1329 c1_i32_957
  let v1331 : BitVec 32 := Scalar.addi c0_i32_958 v1330
  v1331.toNat
def k0_off21 (d0 : Dev nD) (c0_i32_962 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_30 : BitVec 32 := 64#32
  let v40 : BitVec 32 := Scalar.muli v5 c64_i32_30
  let c2_i32_149 : BitVec 32 := 2#32
  let c1_i32_148 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v213 : BitVec 32 := Scalar.subi c1_i32_148 v7
  let v214 : BitVec 32 := Scalar.muli c2_i32_149 v213
  let c2_i32 : BitVec 32 := 2#32
  let v8 : BitVec 32 := Scalar.shrsi v2 c2_i32
  let c1_i32_4 : BitVec 32 := 1#32
  let v9 : BitVec 32 := Scalar.andi v8 c1_i32_4
  let v215 : BitVec 32 := Scalar.addi v214 v9
  let c16_i32_961 : BitVec 32 := 16#32
  let v1338 : BitVec 32 := Scalar.muli v215 c16_i32_961
  let v1339 : BitVec 32 := Scalar.addi v40 v1338
  let v1340 : BitVec 32 := Scalar.addi c0_i32_962 v1339
  let v1341 : Index := Scalar.indexCast v1340
  let c0_963 : Index := 0#32
  ![v1341.toNat, 0]
def k0_off22 (d0 : Dev nD) (c0_i32_967 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_30 : BitVec 32 := 64#32
  let v40 : BitVec 32 := Scalar.muli v5 c64_i32_30
  let c2_i32_149 : BitVec 32 := 2#32
  let c1_i32_148 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v213 : BitVec 32 := Scalar.subi c1_i32_148 v7
  let v214 : BitVec 32 := Scalar.muli c2_i32_149 v213
  let c2_i32 : BitVec 32 := 2#32
  let v8 : BitVec 32 := Scalar.shrsi v2 c2_i32
  let c1_i32_4 : BitVec 32 := 1#32
  let v9 : BitVec 32 := Scalar.andi v8 c1_i32_4
  let v215 : BitVec 32 := Scalar.addi v214 v9
  let c16_i32_961 : BitVec 32 := 16#32
  let v1338 : BitVec 32 := Scalar.muli v215 c16_i32_961
  let v1339 : BitVec 32 := Scalar.addi v40 v1338
  let v1350 : BitVec 32 := Scalar.addi c0_i32_967 v1339
  let c0_i32_969 : BitVec 32 := 0#32
  ![v1350.toNat, 0]
def k0_off23 (d0 : Dev nD) (c0_i32_972 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_30 : BitVec 32 := 64#32
  let v40 : BitVec 32 := Scalar.muli v5 c64_i32_30
  let c2_i32_150 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v216 : BitVec 32 := Scalar.muli c2_i32_150 v7
  let c1_i32_151 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v217 : BitVec 32 := Scalar.subi c1_i32_151 v9
  let v218 : BitVec 32 := Scalar.addi v216 v217
  let c16_i32_971 : BitVec 32 := 16#32
  let v1355 : BitVec 32 := Scalar.muli v218 c16_i32_971
  let v1356 : BitVec 32 := Scalar.addi v40 v1355
  let v1357 : BitVec 32 := Scalar.addi c0_i32_972 v1356
  let v1358 : Index := Scalar.indexCast v1357
  let c0_973 : Index := 0#32
  ![v1358.toNat, 0]
def k0_off24 (d0 : Dev nD) (c0_i32_977 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_30 : BitVec 32 := 64#32
  let v40 : BitVec 32 := Scalar.muli v5 c64_i32_30
  let c2_i32_150 : BitVec 32 := 2#32
  let c1_i32_2 : BitVec 32 := 1#32
  let v6 : BitVec 32 := Scalar.shrsi v2 c1_i32_2
  let c1_i32_3 : BitVec 32 := 1#32
  let v7 : BitVec 32 := Scalar.andi v6 c1_i32_3
  let v216 : BitVec 32 := Scalar.muli c2_i32_150 v7
  let c1_i32_151 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v217 : BitVec 32 := Scalar.subi c1_i32_151 v9
  let v218 : BitVec 32 := Scalar.addi v216 v217
  let c16_i32_971 : BitVec 32 := 16#32
  let v1355 : BitVec 32 := Scalar.muli v218 c16_i32_971
  let v1356 : BitVec 32 := Scalar.addi v40 v1355
  let v1367 : BitVec 32 := Scalar.addi c0_i32_977 v1356
  let c0_i32_979 : BitVec 32 := 0#32
  ![v1367.toNat, 0]
def k0_off25 (d0 : Dev nD) (c0_i32_982 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_30 : BitVec 32 := 64#32
  let v40 : BitVec 32 := Scalar.muli v5 c64_i32_30
  let c2_i32_153 : BitVec 32 := 2#32
  let c1_i32_152 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v219 : BitVec 32 := Scalar.subi c1_i32_152 v7
  let v220 : BitVec 32 := Scalar.muli c2_i32_153 v219
  let c1_i32_154 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v221 : BitVec 32 := Scalar.subi c1_i32_154 v9
  let v222 : BitVec 32 := Scalar.addi v220 v221
  let c16_i32_981 : BitVec 32 := 16#32
  let v1372 : BitVec 32 := Scalar.muli v222 c16_i32_981
  let v1373 : BitVec 32 := Scalar.addi v40 v1372
  let v1374 : BitVec 32 := Scalar.addi c0_i32_982 v1373
  let v1375 : Index := Scalar.indexCast v1374
  let c0_983 : Index := 0#32
  ![v1375.toNat, 0]
def k0_off26 (d0 : Dev nD) (c0_i32_987 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_30 : BitVec 32 := 64#32
  let v40 : BitVec 32 := Scalar.muli v5 c64_i32_30
  let c2_i32_153 : BitVec 32 := 2#32
  let c1_i32_152 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v219 : BitVec 32 := Scalar.subi c1_i32_152 v7
  let v220 : BitVec 32 := Scalar.muli c2_i32_153 v219
  let c1_i32_154 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v221 : BitVec 32 := Scalar.subi c1_i32_154 v9
  let v222 : BitVec 32 := Scalar.addi v220 v221
  let c16_i32_981 : BitVec 32 := 16#32
  let v1372 : BitVec 32 := Scalar.muli v222 c16_i32_981
  let v1373 : BitVec 32 := Scalar.addi v40 v1372
  let v1384 : BitVec 32 := Scalar.addi c0_i32_987 v1373
  let c0_i32_989 : BitVec 32 := 0#32
  ![v1384.toNat, 0]
def k0_off27 (d0 : Dev nD) (c128_i32_1010 : BitVec 32) (c1_i32_2 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let c64_i32_46 : BitVec 32 := 64#32
  let v61 : BitVec 32 := Scalar.muli v7 c64_i32_46
  let v1408 : BitVec 32 := Scalar.addi c128_i32_1010 v61
  let c0_i32_1016 : BitVec 32 := 0#32
  ![v1408.toNat, 0]
def k0_off27_at (r : Fin 5) : BitVec 32 × BitVec 32 :=
  if r.val < 2 then
    if r.val < 1 then
      (128#32, 1#32)
    else
      (256#32, 2#32)
  else
    if r.val < 3 then
      (512#32, 1#32)
    else
      if r.val < 4 then
        (640#32, 2#32)
      else
        (896#32, 1#32)
def k0_dev64 (d0 : Dev nD) : Nat :=
  let c0_i32_1015 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1011 : BitVec 32 := 3#32
  let v1409 : BitVec 32 := Scalar.xori v2 c3_i32_1011
  let c1_i32_1014 : BitVec 32 := 1#32
  let v1410 : BitVec 32 := Scalar.muli v1409 c1_i32_1014
  let v1411 : BitVec 32 := Scalar.addi c0_i32_1015 v1410
  v1411.toNat
def k0_off28 (d0 : Dev nD) (c128_i32_1019 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c64_i32_46 : BitVec 32 := 64#32
  let v61 : BitVec 32 := Scalar.muli v7 c64_i32_46
  let c2_i32_192 : BitVec 32 := 2#32
  let c1_i32_191 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v273 : BitVec 32 := Scalar.subi c1_i32_191 v9
  let v274 : BitVec 32 := Scalar.muli c2_i32_192 v273
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v275 : BitVec 32 := Scalar.addi v274 v5
  let c16_i32_1018 : BitVec 32 := 16#32
  let v1418 : BitVec 32 := Scalar.muli v275 c16_i32_1018
  let v1419 : BitVec 32 := Scalar.addi v61 v1418
  let v1420 : BitVec 32 := Scalar.addi c128_i32_1019 v1419
  let v1421 : Index := Scalar.indexCast v1420
  let c0_1020 : Index := 0#32
  ![v1421.toNat, 0]
def k0_off29 (d0 : Dev nD) (c128_i32_1024 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c64_i32_46 : BitVec 32 := 64#32
  let v61 : BitVec 32 := Scalar.muli v7 c64_i32_46
  let c2_i32_192 : BitVec 32 := 2#32
  let c1_i32_191 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v273 : BitVec 32 := Scalar.subi c1_i32_191 v9
  let v274 : BitVec 32 := Scalar.muli c2_i32_192 v273
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v275 : BitVec 32 := Scalar.addi v274 v5
  let c16_i32_1018 : BitVec 32 := 16#32
  let v1418 : BitVec 32 := Scalar.muli v275 c16_i32_1018
  let v1419 : BitVec 32 := Scalar.addi v61 v1418
  let v1430 : BitVec 32 := Scalar.addi c128_i32_1024 v1419
  let c0_i32_1026 : BitVec 32 := 0#32
  ![v1430.toNat, 0]
def k0_off30 (d0 : Dev nD) (c128_i32_1029 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c64_i32_46 : BitVec 32 := 64#32
  let v61 : BitVec 32 := Scalar.muli v7 c64_i32_46
  let c2_i32_193 : BitVec 32 := 2#32
  let c2_i32 : BitVec 32 := 2#32
  let v8 : BitVec 32 := Scalar.shrsi v2 c2_i32
  let c1_i32_4 : BitVec 32 := 1#32
  let v9 : BitVec 32 := Scalar.andi v8 c1_i32_4
  let v276 : BitVec 32 := Scalar.muli c2_i32_193 v9
  let c1_i32_194 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v277 : BitVec 32 := Scalar.subi c1_i32_194 v5
  let v278 : BitVec 32 := Scalar.addi v276 v277
  let c16_i32_1028 : BitVec 32 := 16#32
  let v1435 : BitVec 32 := Scalar.muli v278 c16_i32_1028
  let v1436 : BitVec 32 := Scalar.addi v61 v1435
  let v1437 : BitVec 32 := Scalar.addi c128_i32_1029 v1436
  let v1438 : Index := Scalar.indexCast v1437
  let c0_1030 : Index := 0#32
  ![v1438.toNat, 0]
def k0_off31 (d0 : Dev nD) (c128_i32_1034 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c64_i32_46 : BitVec 32 := 64#32
  let v61 : BitVec 32 := Scalar.muli v7 c64_i32_46
  let c2_i32_193 : BitVec 32 := 2#32
  let c2_i32 : BitVec 32 := 2#32
  let v8 : BitVec 32 := Scalar.shrsi v2 c2_i32
  let c1_i32_4 : BitVec 32 := 1#32
  let v9 : BitVec 32 := Scalar.andi v8 c1_i32_4
  let v276 : BitVec 32 := Scalar.muli c2_i32_193 v9
  let c1_i32_194 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v277 : BitVec 32 := Scalar.subi c1_i32_194 v5
  let v278 : BitVec 32 := Scalar.addi v276 v277
  let c16_i32_1028 : BitVec 32 := 16#32
  let v1435 : BitVec 32 := Scalar.muli v278 c16_i32_1028
  let v1436 : BitVec 32 := Scalar.addi v61 v1435
  let v1447 : BitVec 32 := Scalar.addi c128_i32_1034 v1436
  let c0_i32_1036 : BitVec 32 := 0#32
  ![v1447.toNat, 0]
def k0_off32 (d0 : Dev nD) (c128_i32_1039 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c64_i32_46 : BitVec 32 := 64#32
  let v61 : BitVec 32 := Scalar.muli v7 c64_i32_46
  let c2_i32_196 : BitVec 32 := 2#32
  let c1_i32_195 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v279 : BitVec 32 := Scalar.subi c1_i32_195 v9
  let v280 : BitVec 32 := Scalar.muli c2_i32_196 v279
  let c1_i32_197 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v281 : BitVec 32 := Scalar.subi c1_i32_197 v5
  let v282 : BitVec 32 := Scalar.addi v280 v281
  let c16_i32_1038 : BitVec 32 := 16#32
  let v1452 : BitVec 32 := Scalar.muli v282 c16_i32_1038
  let v1453 : BitVec 32 := Scalar.addi v61 v1452
  let v1454 : BitVec 32 := Scalar.addi c128_i32_1039 v1453
  let v1455 : Index := Scalar.indexCast v1454
  let c0_1040 : Index := 0#32
  ![v1455.toNat, 0]
def k0_off33 (d0 : Dev nD) (c128_i32_1044 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c64_i32_46 : BitVec 32 := 64#32
  let v61 : BitVec 32 := Scalar.muli v7 c64_i32_46
  let c2_i32_196 : BitVec 32 := 2#32
  let c1_i32_195 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v279 : BitVec 32 := Scalar.subi c1_i32_195 v9
  let v280 : BitVec 32 := Scalar.muli c2_i32_196 v279
  let c1_i32_197 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v281 : BitVec 32 := Scalar.subi c1_i32_197 v5
  let v282 : BitVec 32 := Scalar.addi v280 v281
  let c16_i32_1038 : BitVec 32 := 16#32
  let v1452 : BitVec 32 := Scalar.muli v282 c16_i32_1038
  let v1453 : BitVec 32 := Scalar.addi v61 v1452
  let v1464 : BitVec 32 := Scalar.addi c128_i32_1044 v1453
  let c0_i32_1046 : BitVec 32 := 0#32
  ![v1464.toNat, 0]
def k0_dev65 (d0 : Dev nD) : Nat :=
  let c0_i32_1071 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1068 : BitVec 32 := 4#32
  let v1489 : BitVec 32 := Scalar.xori v2 c4_i32_1068
  let c1_i32_1070 : BitVec 32 := 1#32
  let v1490 : BitVec 32 := Scalar.muli v1489 c1_i32_1070
  let v1491 : BitVec 32 := Scalar.addi c0_i32_1071 v1490
  v1491.toNat
def k0_off34 (d0 : Dev nD) (c256_i32_1075 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c64_i32_61 : BitVec 32 := 64#32
  let v82 : BitVec 32 := Scalar.muli v9 c64_i32_61
  let c2_i32_232 : BitVec 32 := 2#32
  let c1_i32_231 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v333 : BitVec 32 := Scalar.subi c1_i32_231 v5
  let v334 : BitVec 32 := Scalar.muli c2_i32_232 v333
  let c1_i32_2 : BitVec 32 := 1#32
  let v6 : BitVec 32 := Scalar.shrsi v2 c1_i32_2
  let c1_i32_3 : BitVec 32 := 1#32
  let v7 : BitVec 32 := Scalar.andi v6 c1_i32_3
  let v335 : BitVec 32 := Scalar.addi v334 v7
  let c16_i32_1074 : BitVec 32 := 16#32
  let v1498 : BitVec 32 := Scalar.muli v335 c16_i32_1074
  let v1499 : BitVec 32 := Scalar.addi v82 v1498
  let v1500 : BitVec 32 := Scalar.addi c256_i32_1075 v1499
  let v1501 : Index := Scalar.indexCast v1500
  let c0_1076 : Index := 0#32
  ![v1501.toNat, 0]
def k0_off35 (d0 : Dev nD) (c256_i32_1080 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c64_i32_61 : BitVec 32 := 64#32
  let v82 : BitVec 32 := Scalar.muli v9 c64_i32_61
  let c2_i32_232 : BitVec 32 := 2#32
  let c1_i32_231 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v333 : BitVec 32 := Scalar.subi c1_i32_231 v5
  let v334 : BitVec 32 := Scalar.muli c2_i32_232 v333
  let c1_i32_2 : BitVec 32 := 1#32
  let v6 : BitVec 32 := Scalar.shrsi v2 c1_i32_2
  let c1_i32_3 : BitVec 32 := 1#32
  let v7 : BitVec 32 := Scalar.andi v6 c1_i32_3
  let v335 : BitVec 32 := Scalar.addi v334 v7
  let c16_i32_1074 : BitVec 32 := 16#32
  let v1498 : BitVec 32 := Scalar.muli v335 c16_i32_1074
  let v1499 : BitVec 32 := Scalar.addi v82 v1498
  let v1510 : BitVec 32 := Scalar.addi c256_i32_1080 v1499
  let c0_i32_1082 : BitVec 32 := 0#32
  ![v1510.toNat, 0]
def k0_off36 (d0 : Dev nD) (c256_i32_1085 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c64_i32_61 : BitVec 32 := 64#32
  let v82 : BitVec 32 := Scalar.muli v9 c64_i32_61
  let c2_i32_233 : BitVec 32 := 2#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v336 : BitVec 32 := Scalar.muli c2_i32_233 v5
  let c1_i32_234 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v337 : BitVec 32 := Scalar.subi c1_i32_234 v7
  let v338 : BitVec 32 := Scalar.addi v336 v337
  let c16_i32_1084 : BitVec 32 := 16#32
  let v1515 : BitVec 32 := Scalar.muli v338 c16_i32_1084
  let v1516 : BitVec 32 := Scalar.addi v82 v1515
  let v1517 : BitVec 32 := Scalar.addi c256_i32_1085 v1516
  let v1518 : Index := Scalar.indexCast v1517
  let c0_1086 : Index := 0#32
  ![v1518.toNat, 0]
def k0_off37 (d0 : Dev nD) (c256_i32_1090 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c64_i32_61 : BitVec 32 := 64#32
  let v82 : BitVec 32 := Scalar.muli v9 c64_i32_61
  let c2_i32_233 : BitVec 32 := 2#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v336 : BitVec 32 := Scalar.muli c2_i32_233 v5
  let c1_i32_234 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v337 : BitVec 32 := Scalar.subi c1_i32_234 v7
  let v338 : BitVec 32 := Scalar.addi v336 v337
  let c16_i32_1084 : BitVec 32 := 16#32
  let v1515 : BitVec 32 := Scalar.muli v338 c16_i32_1084
  let v1516 : BitVec 32 := Scalar.addi v82 v1515
  let v1527 : BitVec 32 := Scalar.addi c256_i32_1090 v1516
  let c0_i32_1092 : BitVec 32 := 0#32
  ![v1527.toNat, 0]
def k0_off38 (d0 : Dev nD) (c256_i32_1095 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c64_i32_61 : BitVec 32 := 64#32
  let v82 : BitVec 32 := Scalar.muli v9 c64_i32_61
  let c2_i32_236 : BitVec 32 := 2#32
  let c1_i32_235 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v339 : BitVec 32 := Scalar.subi c1_i32_235 v5
  let v340 : BitVec 32 := Scalar.muli c2_i32_236 v339
  let c1_i32_237 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v341 : BitVec 32 := Scalar.subi c1_i32_237 v7
  let v342 : BitVec 32 := Scalar.addi v340 v341
  let c16_i32_1094 : BitVec 32 := 16#32
  let v1532 : BitVec 32 := Scalar.muli v342 c16_i32_1094
  let v1533 : BitVec 32 := Scalar.addi v82 v1532
  let v1534 : BitVec 32 := Scalar.addi c256_i32_1095 v1533
  let v1535 : Index := Scalar.indexCast v1534
  let c0_1096 : Index := 0#32
  ![v1535.toNat, 0]
def k0_off39 (d0 : Dev nD) (c256_i32_1100 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c64_i32_61 : BitVec 32 := 64#32
  let v82 : BitVec 32 := Scalar.muli v9 c64_i32_61
  let c2_i32_236 : BitVec 32 := 2#32
  let c1_i32_235 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v339 : BitVec 32 := Scalar.subi c1_i32_235 v5
  let v340 : BitVec 32 := Scalar.muli c2_i32_236 v339
  let c1_i32_237 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v341 : BitVec 32 := Scalar.subi c1_i32_237 v7
  let v342 : BitVec 32 := Scalar.addi v340 v341
  let c16_i32_1094 : BitVec 32 := 16#32
  let v1532 : BitVec 32 := Scalar.muli v342 c16_i32_1094
  let v1533 : BitVec 32 := Scalar.addi v82 v1532
  let v1544 : BitVec 32 := Scalar.addi c256_i32_1100 v1533
  let c0_i32_1102 : BitVec 32 := 0#32
  ![v1544.toNat, 0]
def k0_dev66 (d0 : Dev nD) : Nat :=
  let c0_i32_1127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1124 : BitVec 32 := 1#32
  let v1569 : BitVec 32 := Scalar.xori v2 c1_i32_1124
  let c1_i32_1126 : BitVec 32 := 1#32
  let v1570 : BitVec 32 := Scalar.muli v1569 c1_i32_1126
  let v1571 : BitVec 32 := Scalar.addi c0_i32_1127 v1570
  v1571.toNat
def k0_dev67 (d0 : Dev nD) : Nat :=
  let c0_i32_1183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1180 : BitVec 32 := 3#32
  let v1649 : BitVec 32 := Scalar.xori v2 c3_i32_1180
  let c1_i32_1182 : BitVec 32 := 1#32
  let v1650 : BitVec 32 := Scalar.muli v1649 c1_i32_1182
  let v1651 : BitVec 32 := Scalar.addi c0_i32_1183 v1650
  v1651.toNat
def k0_dev68 (d0 : Dev nD) : Nat :=
  let c0_i32_1239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1236 : BitVec 32 := 4#32
  let v1729 : BitVec 32 := Scalar.xori v2 c4_i32_1236
  let c1_i32_1238 : BitVec 32 := 1#32
  let v1730 : BitVec 32 := Scalar.muli v1729 c1_i32_1238
  let v1731 : BitVec 32 := Scalar.addi c0_i32_1239 v1730
  v1731.toNat
def k0_dev69 (d0 : Dev nD) : Nat :=
  let c0_i32_1295 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1292 : BitVec 32 := 1#32
  let v1809 : BitVec 32 := Scalar.xori v2 c1_i32_1292
  let c1_i32_1294 : BitVec 32 := 1#32
  let v1810 : BitVec 32 := Scalar.muli v1809 c1_i32_1294
  let v1811 : BitVec 32 := Scalar.addi c0_i32_1295 v1810
  v1811.toNat
def k0_dev70 (d0 : Dev nD) : Nat :=
  let c0_i32_1351 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1348 : BitVec 32 := 3#32
  let v1889 : BitVec 32 := Scalar.xori v2 c3_i32_1348
  let c1_i32_1350 : BitVec 32 := 1#32
  let v1890 : BitVec 32 := Scalar.muli v1889 c1_i32_1350
  let v1891 : BitVec 32 := Scalar.addi c0_i32_1351 v1890
  v1891.toNat
def k0_off40 (d0 : Dev nD) (c0_i32_1392 : BitVec 32) : Fin 2 → Nat :=
  let c1_i32_1390 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v1955 : BitVec 32 := Scalar.subi c1_i32_1390 v5
  let c64_i32_1391 : BitVec 32 := 64#32
  let v1956 : BitVec 32 := Scalar.muli v1955 c64_i32_1391
  let v1957 : BitVec 32 := Scalar.addi c0_i32_1392 v1956
  let v1958 : Index := Scalar.indexCast v1957
  let c0_1393 : Index := 0#32
  ![v1958.toNat, 0]
def k0_off41 (d0 : Dev nD) (c128_i32_1409 : BitVec 32) (c1_i32_2 : BitVec 32) : Fin 2 → Nat :=
  let c1_i32_1407 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let v1978 : BitVec 32 := Scalar.subi c1_i32_1407 v7
  let c64_i32_1408 : BitVec 32 := 64#32
  let v1979 : BitVec 32 := Scalar.muli v1978 c64_i32_1408
  let v1980 : BitVec 32 := Scalar.addi c128_i32_1409 v1979
  let v1981 : Index := Scalar.indexCast v1980
  let c0_1410 : Index := 0#32
  ![v1981.toNat, 0]
def k0_off41_at (r : Fin 5) : BitVec 32 × BitVec 32 :=
  if r.val < 2 then
    if r.val < 1 then
      (128#32, 1#32)
    else
      (256#32, 2#32)
  else
    if r.val < 3 then
      (512#32, 1#32)
    else
      if r.val < 4 then
        (640#32, 2#32)
      else
        (896#32, 1#32)
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x4096 : Shape := ⟨2, ![1024, 4096]⟩
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Kernel.ProgEq.lean ====
/- The printed body is the tabled program. -/
module

public import proofs.«01_k».proof.Proof.Kernel.Prog

@[expose] public section

noncomputable section

namespace Cert.Kernel.Pf

open Idealize.ShloMosaic Idealize.SL.Sem Cert.Kernel Cert.Kernel.Gen

variable {F : FTy → Type} [FloatOps F]

set_option maxRecDepth 65536 in
/-- The printed body, on the launch's buffers, is the tabled program: by unfolding both. -/
theorem printed_eq : printed (F := F) = bodyAll := by chain_rfl

end Cert.Kernel.Pf
-- ==== Proof.KernelIdeal.Prog.lean ====
/- The kernel's body as one program over tables: every chunk runs the same phases, and only the rows and the
   devices depend on the chunk. The last theorem says the printed body is this program. -/
module

public import proofs.«01_k».proof.Proof.Gen.KernelIdeal
public import proofs.«01_k».proof.Proof.Gen.KernelIdeal.Skeleton
public import Idealize.ShloMosaic.Lib.Pipeline.Regions

@[expose] public section

noncomputable section

namespace Cert.KernelIdeal.Pf

open Idealize.ShloMosaic Idealize.SL.Sem Cert.KernelIdeal Cert.KernelIdeal.Gen

variable {F : FTy → Type} [FloatOps F]

/-- The half device `d` sends away in the first round. -/
def tSend (c : Fin 8) (d : Dev nD) : Fin 2 → Nat :=
  match c with
  | 0 => k0_off1 d 0#32
  | 1 => k0_off2 d 128#32 1#32
  | 2 => k0_off2 d 256#32 2#32
  | 3 => k0_off1 d 384#32
  | 4 => k0_off2 d 512#32 1#32
  | 5 => k0_off2 d 640#32 2#32
  | 6 => k0_off1 d 768#32
  | 7 => k0_off2 d 896#32 1#32
theorem tSend_inb (c : Fin 8) (d : Dev nD) : ∀ a, tSend c d a + S64x1024.size a ≤ S1024x1024.size a :=
  match c with
  | 0 => k0_off1_inb d 0
  | 1 => k0_off2_inb d 0
  | 2 => k0_off2_inb d 1
  | 3 => k0_off1_inb d 1
  | 4 => k0_off2_inb d 2
  | 5 => k0_off2_inb d 3
  | 6 => k0_off1_inb d 2
  | 7 => k0_off2_inb d 4
theorem tSend_words (c : Fin 8) (d : Dev nD) : (Rect.unit (s := S1024x1024) (tSend c d) S64x1024.size (tSend_inb c d)).WholeWords (EltTy.packing .bf16) :=
  match c with
  | 0 => k0_off1_wordsbf16 d 0
  | 1 => k0_off2_wordsbf16 d 0
  | 2 => k0_off2_wordsbf16 d 1
  | 3 => k0_off1_wordsbf16 d 1
  | 4 => k0_off2_wordsbf16 d 2
  | 5 => k0_off2_wordsbf16 d 3
  | 6 => k0_off1_wordsbf16 d 2
  | 7 => k0_off2_wordsbf16 d 4

/-- The half it keeps, as the loads and the store name it. -/
def tKeep (c : Fin 8) (d : Dev nD) : Fin 2 → Nat :=
  match c with
  | 0 => k0_off3 d 0#32
  | 1 => k0_off7 d 128#32 1#32
  | 2 => k0_off7 d 256#32 2#32
  | 3 => k0_off3 d 384#32
  | 4 => k0_off7 d 512#32 1#32
  | 5 => k0_off7 d 640#32 2#32
  | 6 => k0_off3 d 768#32
  | 7 => k0_off7 d 896#32 1#32
theorem tKeep_inb (c : Fin 8) (d : Dev nD) : ∀ a, tKeep c d a + S64x1024.size a ≤ S1024x1024.size a :=
  match c with
  | 0 => k0_off3_inb d 0
  | 1 => k0_off7_inb d 0
  | 2 => k0_off7_inb d 1
  | 3 => k0_off3_inb d 1
  | 4 => k0_off7_inb d 2
  | 5 => k0_off7_inb d 3
  | 6 => k0_off3_inb d 2
  | 7 => k0_off7_inb d 4
theorem tKeep_packed (c : Fin 8) (d : Dev nD) : (Rect.unit (s := S1024x1024) (tKeep c d) S64x1024.size (tKeep_inb c d)).PackedRows (EltTy.packing .bf16) :=
  match c with
  | 0 => k0_off3_packedbf16 d 0
  | 1 => k0_off7_packedbf16 d 0
  | 2 => k0_off7_packedbf16 d 1
  | 3 => k0_off3_packedbf16 d 1
  | 4 => k0_off7_packedbf16 d 2
  | 5 => k0_off7_packedbf16 d 3
  | 6 => k0_off3_packedbf16 d 2
  | 7 => k0_off7_packedbf16 d 4

/-- The half it keeps, as the last transfer names it. -/
def tHalf (c : Fin 8) (d : Dev nD) : Fin 2 → Nat :=
  match c with
  | 0 => k0_off20 d 0#32
  | 1 => k0_off27 d 128#32 1#32
  | 2 => k0_off27 d 256#32 2#32
  | 3 => k0_off20 d 384#32
  | 4 => k0_off27 d 512#32 1#32
  | 5 => k0_off27 d 640#32 2#32
  | 6 => k0_off20 d 768#32
  | 7 => k0_off27 d 896#32 1#32
theorem tHalf_inb (c : Fin 8) (d : Dev nD) : ∀ a, tHalf c d a + S64x1024.size a ≤ S1024x1024.size a :=
  match c with
  | 0 => k0_off20_inb d 0
  | 1 => k0_off27_inb d 0
  | 2 => k0_off27_inb d 1
  | 3 => k0_off20_inb d 1
  | 4 => k0_off27_inb d 2
  | 5 => k0_off27_inb d 3
  | 6 => k0_off20_inb d 2
  | 7 => k0_off27_inb d 4
theorem tHalf_words (c : Fin 8) (d : Dev nD) : (Rect.unit (s := S1024x1024) (tHalf c d) S64x1024.size (tHalf_inb c d)).WholeWords (EltTy.packing .bf16) :=
  match c with
  | 0 => k0_off20_wordsbf16 d 0
  | 1 => k0_off27_wordsbf16 d 0
  | 2 => k0_off27_wordsbf16 d 1
  | 3 => k0_off20_wordsbf16 d 1
  | 4 => k0_off27_wordsbf16 d 2
  | 5 => k0_off27_wordsbf16 d 3
  | 6 => k0_off20_wordsbf16 d 2
  | 7 => k0_off27_wordsbf16 d 4

/-- The half it sent away, as the last loads name it. -/
def tOther (c : Fin 8) (d : Dev nD) : Fin 2 → Nat :=
  match c with
  | 0 => k0_off40 d 0#32
  | 1 => k0_off41 d 128#32 1#32
  | 2 => k0_off41 d 256#32 2#32
  | 3 => k0_off40 d 384#32
  | 4 => k0_off41 d 512#32 1#32
  | 5 => k0_off41 d 640#32 2#32
  | 6 => k0_off40 d 768#32
  | 7 => k0_off41 d 896#32 1#32
theorem tOther_inb (c : Fin 8) (d : Dev nD) : ∀ a, tOther c d a + S64x1024.size a ≤ S1024x1024.size a :=
  match c with
  | 0 => k0_off40_inb d 0
  | 1 => k0_off41_inb d 0
  | 2 => k0_off41_inb d 1
  | 3 => k0_off40_inb d 1
  | 4 => k0_off41_inb d 2
  | 5 => k0_off41_inb d 3
  | 6 => k0_off40_inb d 2
  | 7 => k0_off41_inb d 4

/-- The sixteen rows it finishes, as the loads and the store name them. -/
def tMine (c : Fin 8) (d : Dev nD) : Fin 2 → Nat :=
  match c with
  | 0 => k0_off14 d 0#32
  | 1 => k0_off16 d 128#32
  | 2 => k0_off18 d 256#32
  | 3 => k0_off14 d 384#32
  | 4 => k0_off16 d 512#32
  | 5 => k0_off18 d 640#32
  | 6 => k0_off14 d 768#32
  | 7 => k0_off16 d 896#32
theorem tMine_inb (c : Fin 8) (d : Dev nD) : ∀ a, tMine c d a + S16x1024.size a ≤ S1024x1024.size a :=
  match c with
  | 0 => k0_off14_inb d 0
  | 1 => k0_off16_inb d 0
  | 2 => k0_off18_inb d 0
  | 3 => k0_off14_inb d 1
  | 4 => k0_off16_inb d 1
  | 5 => k0_off18_inb d 1
  | 6 => k0_off14_inb d 2
  | 7 => k0_off16_inb d 2
theorem tMine_packed (c : Fin 8) (d : Dev nD) : (Rect.unit (s := S1024x1024) (tMine c d) S16x1024.size (tMine_inb c d)).PackedRows (EltTy.packing .bf16) :=
  match c with
  | 0 => k0_off14_packedbf16 d 0
  | 1 => k0_off16_packedbf16 d 0
  | 2 => k0_off18_packedbf16 d 0
  | 3 => k0_off14_packedbf16 d 1
  | 4 => k0_off16_packedbf16 d 1
  | 5 => k0_off18_packedbf16 d 1
  | 6 => k0_off14_packedbf16 d 2
  | 7 => k0_off16_packedbf16 d 2

/-- The sixteen rows it finishes, as the transfers name them. -/
def tMineV (c : Fin 8) (d : Dev nD) : Fin 2 → Nat :=
  match c with
  | 0 => k0_off15 d 0#32
  | 1 => k0_off17 d 128#32
  | 2 => k0_off19 d 256#32
  | 3 => k0_off15 d 384#32
  | 4 => k0_off17 d 512#32
  | 5 => k0_off19 d 640#32
  | 6 => k0_off15 d 768#32
  | 7 => k0_off17 d 896#32
theorem tMineV_inb (c : Fin 8) (d : Dev nD) : ∀ a, tMineV c d a + S16x1024.size a ≤ S1024x1024.size a :=
  match c with
  | 0 => k0_off15_inb d 0
  | 1 => k0_off17_inb d 0
  | 2 => k0_off19_inb d 0
  | 3 => k0_off15_inb d 1
  | 4 => k0_off17_inb d 1
  | 5 => k0_off19_inb d 1
  | 6 => k0_off15_inb d 2
  | 7 => k0_off17_inb d 2
theorem tMineV_words (c : Fin 8) (d : Dev nD) : (Rect.unit (s := S1024x1024) (tMineV c d) S16x1024.size (tMineV_inb c d)).WholeWords (EltTy.packing .bf16) :=
  match c with
  | 0 => k0_off15_wordsbf16 d 0
  | 1 => k0_off17_wordsbf16 d 0
  | 2 => k0_off19_wordsbf16 d 0
  | 3 => k0_off15_wordsbf16 d 1
  | 4 => k0_off17_wordsbf16 d 1
  | 5 => k0_off19_wordsbf16 d 1
  | 6 => k0_off15_wordsbf16 d 2
  | 7 => k0_off17_wordsbf16 d 2

/-- The sixteen rows peer `j` finishes, as the transfers name them (sub 0) -/
def tSub0 (c : Fin 8) (d : Dev nD) : Fin 2 → Nat :=
  match c with
  | 0 => k0_off4 d 0#32
  | 1 => k0_off8 d 128#32
  | 2 => k0_off11 d 256#32
  | 3 => k0_off4 d 384#32
  | 4 => k0_off8 d 512#32
  | 5 => k0_off11 d 640#32
  | 6 => k0_off4 d 768#32
  | 7 => k0_off8 d 896#32
theorem tSub0_inb (c : Fin 8) (d : Dev nD) : ∀ a, tSub0 c d a + S16x1024.size a ≤ S1024x1024.size a :=
  match c with
  | 0 => k0_off4_inb d 0
  | 1 => k0_off8_inb d 0
  | 2 => k0_off11_inb d 0
  | 3 => k0_off4_inb d 1
  | 4 => k0_off8_inb d 1
  | 5 => k0_off11_inb d 1
  | 6 => k0_off4_inb d 2
  | 7 => k0_off8_inb d 2
theorem tSub0_words (c : Fin 8) (d : Dev nD) : (Rect.unit (s := S1024x1024) (tSub0 c d) S16x1024.size (tSub0_inb c d)).WholeWords (EltTy.packing .bf16) :=
  match c with
  | 0 => k0_off4_wordsbf16 d 0
  | 1 => k0_off8_wordsbf16 d 0
  | 2 => k0_off11_wordsbf16 d 0
  | 3 => k0_off4_wordsbf16 d 1
  | 4 => k0_off8_wordsbf16 d 1
  | 5 => k0_off11_wordsbf16 d 1
  | 6 => k0_off4_wordsbf16 d 2
  | 7 => k0_off8_wordsbf16 d 2

/-- The sixteen rows peer `j` finishes, as the transfers name them (sub 1) -/
def tSub1 (c : Fin 8) (d : Dev nD) : Fin 2 → Nat :=
  match c with
  | 0 => k0_off5 d 0#32
  | 1 => k0_off9 d 128#32
  | 2 => k0_off12 d 256#32
  | 3 => k0_off5 d 384#32
  | 4 => k0_off9 d 512#32
  | 5 => k0_off12 d 640#32
  | 6 => k0_off5 d 768#32
  | 7 => k0_off9 d 896#32
theorem tSub1_inb (c : Fin 8) (d : Dev nD) : ∀ a, tSub1 c d a + S16x1024.size a ≤ S1024x1024.size a :=
  match c with
  | 0 => k0_off5_inb d 0
  | 1 => k0_off9_inb d 0
  | 2 => k0_off12_inb d 0
  | 3 => k0_off5_inb d 1
  | 4 => k0_off9_inb d 1
  | 5 => k0_off12_inb d 1
  | 6 => k0_off5_inb d 2
  | 7 => k0_off9_inb d 2
theorem tSub1_words (c : Fin 8) (d : Dev nD) : (Rect.unit (s := S1024x1024) (tSub1 c d) S16x1024.size (tSub1_inb c d)).WholeWords (EltTy.packing .bf16) :=
  match c with
  | 0 => k0_off5_wordsbf16 d 0
  | 1 => k0_off9_wordsbf16 d 0
  | 2 => k0_off12_wordsbf16 d 0
  | 3 => k0_off5_wordsbf16 d 1
  | 4 => k0_off9_wordsbf16 d 1
  | 5 => k0_off12_wordsbf16 d 1
  | 6 => k0_off5_wordsbf16 d 2
  | 7 => k0_off9_wordsbf16 d 2

/-- The sixteen rows peer `j` finishes, as the transfers name them (sub 2) -/
def tSub2 (c : Fin 8) (d : Dev nD) : Fin 2 → Nat :=
  match c with
  | 0 => k0_off6 d 0#32
  | 1 => k0_off10 d 128#32
  | 2 => k0_off13 d 256#32
  | 3 => k0_off6 d 384#32
  | 4 => k0_off10 d 512#32
  | 5 => k0_off13 d 640#32
  | 6 => k0_off6 d 768#32
  | 7 => k0_off10 d 896#32
theorem tSub2_inb (c : Fin 8) (d : Dev nD) : ∀ a, tSub2 c d a + S16x1024.size a ≤ S1024x1024.size a :=
  match c with
  | 0 => k0_off6_inb d 0
  | 1 => k0_off10_inb d 0
  | 2 => k0_off13_inb d 0
  | 3 => k0_off6_inb d 1
  | 4 => k0_off10_inb d 1
  | 5 => k0_off13_inb d 1
  | 6 => k0_off6_inb d 2
  | 7 => k0_off10_inb d 2
theorem tSub2_words (c : Fin 8) (d : Dev nD) : (Rect.unit (s := S1024x1024) (tSub2 c d) S16x1024.size (tSub2_inb c d)).WholeWords (EltTy.packing .bf16) :=
  match c with
  | 0 => k0_off6_wordsbf16 d 0
  | 1 => k0_off10_wordsbf16 d 0
  | 2 => k0_off13_wordsbf16 d 0
  | 3 => k0_off6_wordsbf16 d 1
  | 4 => k0_off10_wordsbf16 d 1
  | 5 => k0_off13_wordsbf16 d 1
  | 6 => k0_off6_wordsbf16 d 2
  | 7 => k0_off10_wordsbf16 d 2

/-- The sixteen rows peer `j` finishes, as the transfers name them. -/
def tSub (c : Fin 8) (j : Fin 3) (d : Dev nD) : Fin 2 → Nat :=
  match j with
  | 0 => tSub0 c d
  | 1 => tSub1 c d
  | 2 => tSub2 c d
theorem tSub_inb (c : Fin 8) (j : Fin 3) (d : Dev nD) : ∀ a, tSub c j d a + S16x1024.size a ≤ S1024x1024.size a :=
  match j with
  | 0 => tSub0_inb c d
  | 1 => tSub1_inb c d
  | 2 => tSub2_inb c d
theorem tSub_words (c : Fin 8) (j : Fin 3) (d : Dev nD) : (Rect.unit (s := S1024x1024) (tSub c j d) S16x1024.size (tSub_inb c j d)).WholeWords (EltTy.packing .bf16) :=
  match j with
  | 0 => tSub0_words c d
  | 1 => tSub1_words c d
  | 2 => tSub2_words c d

/-- The sixteen rows peer `j` finished, as the last loads name them (sub 0) -/
def tSubL0 (c : Fin 8) (d : Dev nD) : Fin 2 → Nat :=
  match c with
  | 0 => k0_off21 d 0#32
  | 1 => k0_off28 d 128#32
  | 2 => k0_off34 d 256#32
  | 3 => k0_off21 d 384#32
  | 4 => k0_off28 d 512#32
  | 5 => k0_off34 d 640#32
  | 6 => k0_off21 d 768#32
  | 7 => k0_off28 d 896#32
theorem tSubL0_inb (c : Fin 8) (d : Dev nD) : ∀ a, tSubL0 c d a + S16x1024.size a ≤ S1024x1024.size a :=
  match c with
  | 0 => k0_off21_inb d 0
  | 1 => k0_off28_inb d 0
  | 2 => k0_off34_inb d 0
  | 3 => k0_off21_inb d 1
  | 4 => k0_off28_inb d 1
  | 5 => k0_off34_inb d 1
  | 6 => k0_off21_inb d 2
  | 7 => k0_off28_inb d 2

/-- The sixteen rows peer `j` finished, as the last loads name them (sub 1) -/
def tSubL1 (c : Fin 8) (d : Dev nD) : Fin 2 → Nat :=
  match c with
  | 0 => k0_off23 d 0#32
  | 1 => k0_off30 d 128#32
  | 2 => k0_off36 d 256#32
  | 3 => k0_off23 d 384#32
  | 4 => k0_off30 d 512#32
  | 5 => k0_off36 d 640#32
  | 6 => k0_off23 d 768#32
  | 7 => k0_off30 d 896#32
theorem tSubL1_inb (c : Fin 8) (d : Dev nD) : ∀ a, tSubL1 c d a + S16x1024.size a ≤ S1024x1024.size a :=
  match c with
  | 0 => k0_off23_inb d 0
  | 1 => k0_off30_inb d 0
  | 2 => k0_off36_inb d 0
  | 3 => k0_off23_inb d 1
  | 4 => k0_off30_inb d 1
  | 5 => k0_off36_inb d 1
  | 6 => k0_off23_inb d 2
  | 7 => k0_off30_inb d 2

/-- The sixteen rows peer `j` finished, as the last loads name them (sub 2) -/
def tSubL2 (c : Fin 8) (d : Dev nD) : Fin 2 → Nat :=
  match c with
  | 0 => k0_off25 d 0#32
  | 1 => k0_off32 d 128#32
  | 2 => k0_off38 d 256#32
  | 3 => k0_off25 d 384#32
  | 4 => k0_off32 d 512#32
  | 5 => k0_off38 d 640#32
  | 6 => k0_off25 d 768#32
  | 7 => k0_off32 d 896#32
theorem tSubL2_inb (c : Fin 8) (d : Dev nD) : ∀ a, tSubL2 c d a + S16x1024.size a ≤ S1024x1024.size a :=
  match c with
  | 0 => k0_off25_inb d 0
  | 1 => k0_off32_inb d 0
  | 2 => k0_off38_inb d 0
  | 3 => k0_off25_inb d 1
  | 4 => k0_off32_inb d 1
  | 5 => k0_off38_inb d 1
  | 6 => k0_off25_inb d 2
  | 7 => k0_off32_inb d 2

/-- The sixteen rows peer `j` finished, as the last loads name them. -/
def tSubL (c : Fin 8) (j : Fin 3) (d : Dev nD) : Fin 2 → Nat :=
  match j with
  | 0 => tSubL0 c d
  | 1 => tSubL1 c d
  | 2 => tSubL2 c d
theorem tSubL_inb (c : Fin 8) (j : Fin 3) (d : Dev nD) : ∀ a, tSubL c j d a + S16x1024.size a ≤ S1024x1024.size a :=
  match j with
  | 0 => tSubL0_inb c d
  | 1 => tSubL1_inb c d
  | 2 => tSubL2_inb c d

/-- The sixteen rows peer `j` finished, as the copies name them (sub 0) -/
def tSubV0 (c : Fin 8) (d : Dev nD) : Fin 2 → Nat :=
  match c with
  | 0 => k0_off22 d 0#32
  | 1 => k0_off29 d 128#32
  | 2 => k0_off35 d 256#32
  | 3 => k0_off22 d 384#32
  | 4 => k0_off29 d 512#32
  | 5 => k0_off35 d 640#32
  | 6 => k0_off22 d 768#32
  | 7 => k0_off29 d 896#32
theorem tSubV0_inb (c : Fin 8) (d : Dev nD) : ∀ a, tSubV0 c d a + S16x1024.size a ≤ S1024x1024.size a :=
  match c with
  | 0 => k0_off22_inb d 0
  | 1 => k0_off29_inb d 0
  | 2 => k0_off35_inb d 0
  | 3 => k0_off22_inb d 1
  | 4 => k0_off29_inb d 1
  | 5 => k0_off35_inb d 1
  | 6 => k0_off22_inb d 2
  | 7 => k0_off29_inb d 2

/-- The sixteen rows peer `j` finished, as the copies name them (sub 1) -/
def tSubV1 (c : Fin 8) (d : Dev nD) : Fin 2 → Nat :=
  match c with
  | 0 => k0_off24 d 0#32
  | 1 => k0_off31 d 128#32
  | 2 => k0_off37 d 256#32
  | 3 => k0_off24 d 384#32
  | 4 => k0_off31 d 512#32
  | 5 => k0_off37 d 640#32
  | 6 => k0_off24 d 768#32
  | 7 => k0_off31 d 896#32
theorem tSubV1_inb (c : Fin 8) (d : Dev nD) : ∀ a, tSubV1 c d a + S16x1024.size a ≤ S1024x1024.size a :=
  match c with
  | 0 => k0_off24_inb d 0
  | 1 => k0_off31_inb d 0
  | 2 => k0_off37_inb d 0
  | 3 => k0_off24_inb d 1
  | 4 => k0_off31_inb d 1
  | 5 => k0_off37_inb d 1
  | 6 => k0_off24_inb d 2
  | 7 => k0_off31_inb d 2

/-- The sixteen rows peer `j` finished, as the copies name them (sub 2) -/
def tSubV2 (c : Fin 8) (d : Dev nD) : Fin 2 → Nat :=
  match c with
  | 0 => k0_off26 d 0#32
  | 1 => k0_off33 d 128#32
  | 2 => k0_off39 d 256#32
  | 3 => k0_off26 d 384#32
  | 4 => k0_off33 d 512#32
  | 5 => k0_off39 d 640#32
  | 6 => k0_off26 d 768#32
  | 7 => k0_off33 d 896#32
theorem tSubV2_inb (c : Fin 8) (d : Dev nD) : ∀ a, tSubV2 c d a + S16x1024.size a ≤ S1024x1024.size a :=
  match c with
  | 0 => k0_off26_inb d 0
  | 1 => k0_off33_inb d 0
  | 2 => k0_off39_inb d 0
  | 3 => k0_off26_inb d 1
  | 4 => k0_off33_inb d 1
  | 5 => k0_off39_inb d 1
  | 6 => k0_off26_inb d 2
  | 7 => k0_off33_inb d 2

/-- The sixteen rows peer `j` finished, as the copies name them. -/
def tSubV (c : Fin 8) (j : Fin 3) (d : Dev nD) : Fin 2 → Nat :=
  match j with
  | 0 => tSubV0 c d
  | 1 => tSubV1 c d
  | 2 => tSubV2 c d
theorem tSubV_inb (c : Fin 8) (j : Fin 3) (d : Dev nD) : ∀ a, tSubV c j d a + S16x1024.size a ≤ S1024x1024.size a :=
  match j with
  | 0 => tSubV0_inb c d
  | 1 => tSubV1_inb c d
  | 2 => tSubV2_inb c d

/-- The device the first round sends to. -/
def tDev0 (c : Fin 8) (d : Dev nD) : Dev nD :=
  match c with
  | 0 => ⟨k0_dev7 d, k0_dev7_lt d⟩
  | 1 => ⟨k0_dev8 d, k0_dev8_lt d⟩
  | 2 => ⟨k0_dev9 d, k0_dev9_lt d⟩
  | 3 => ⟨k0_dev10 d, k0_dev10_lt d⟩
  | 4 => ⟨k0_dev11 d, k0_dev11_lt d⟩
  | 5 => ⟨k0_dev12 d, k0_dev12_lt d⟩
  | 6 => ⟨k0_dev13 d, k0_dev13_lt d⟩
  | 7 => ⟨k0_dev14 d, k0_dev14_lt d⟩
/-- The device the second round sends sub 0 to. -/
def tDev1_0 (c : Fin 8) (d : Dev nD) : Dev nD :=
  match c with
  | 0 => ⟨k0_dev15 d, k0_dev15_lt d⟩
  | 1 => ⟨k0_dev18 d, k0_dev18_lt d⟩
  | 2 => ⟨k0_dev21 d, k0_dev21_lt d⟩
  | 3 => ⟨k0_dev24 d, k0_dev24_lt d⟩
  | 4 => ⟨k0_dev27 d, k0_dev27_lt d⟩
  | 5 => ⟨k0_dev30 d, k0_dev30_lt d⟩
  | 6 => ⟨k0_dev33 d, k0_dev33_lt d⟩
  | 7 => ⟨k0_dev36 d, k0_dev36_lt d⟩
/-- The device the second round sends sub 1 to. -/
def tDev1_1 (c : Fin 8) (d : Dev nD) : Dev nD :=
  match c with
  | 0 => ⟨k0_dev16 d, k0_dev16_lt d⟩
  | 1 => ⟨k0_dev19 d, k0_dev19_lt d⟩
  | 2 => ⟨k0_dev22 d, k0_dev22_lt d⟩
  | 3 => ⟨k0_dev25 d, k0_dev25_lt d⟩
  | 4 => ⟨k0_dev28 d, k0_dev28_lt d⟩
  | 5 => ⟨k0_dev31 d, k0_dev31_lt d⟩
  | 6 => ⟨k0_dev34 d, k0_dev34_lt d⟩
  | 7 => ⟨k0_dev37 d, k0_dev37_lt d⟩
/-- The device the second round sends sub 2 to. -/
def tDev1_2 (c : Fin 8) (d : Dev nD) : Dev nD :=
  match c with
  | 0 => ⟨k0_dev17 d, k0_dev17_lt d⟩
  | 1 => ⟨k0_dev20 d, k0_dev20_lt d⟩
  | 2 => ⟨k0_dev23 d, k0_dev23_lt d⟩
  | 3 => ⟨k0_dev26 d, k0_dev26_lt d⟩
  | 4 => ⟨k0_dev29 d, k0_dev29_lt d⟩
  | 5 => ⟨k0_dev32 d, k0_dev32_lt d⟩
  | 6 => ⟨k0_dev35 d, k0_dev35_lt d⟩
  | 7 => ⟨k0_dev38 d, k0_dev38_lt d⟩
/-- The device the third round sends to, transfer 0. -/
def tDev2_0 (c : Fin 8) (d : Dev nD) : Dev nD :=
  match c with
  | 0 => ⟨k0_dev39 d, k0_dev39_lt d⟩
  | 1 => ⟨k0_dev42 d, k0_dev42_lt d⟩
  | 2 => ⟨k0_dev45 d, k0_dev45_lt d⟩
  | 3 => ⟨k0_dev48 d, k0_dev48_lt d⟩
  | 4 => ⟨k0_dev51 d, k0_dev51_lt d⟩
  | 5 => ⟨k0_dev54 d, k0_dev54_lt d⟩
  | 6 => ⟨k0_dev57 d, k0_dev57_lt d⟩
  | 7 => ⟨k0_dev60 d, k0_dev60_lt d⟩
/-- The device the third round sends to, transfer 1. -/
def tDev2_1 (c : Fin 8) (d : Dev nD) : Dev nD :=
  match c with
  | 0 => ⟨k0_dev40 d, k0_dev40_lt d⟩
  | 1 => ⟨k0_dev43 d, k0_dev43_lt d⟩
  | 2 => ⟨k0_dev46 d, k0_dev46_lt d⟩
  | 3 => ⟨k0_dev49 d, k0_dev49_lt d⟩
  | 4 => ⟨k0_dev52 d, k0_dev52_lt d⟩
  | 5 => ⟨k0_dev55 d, k0_dev55_lt d⟩
  | 6 => ⟨k0_dev58 d, k0_dev58_lt d⟩
  | 7 => ⟨k0_dev61 d, k0_dev61_lt d⟩
/-- The device the third round sends to, transfer 2. -/
def tDev2_2 (c : Fin 8) (d : Dev nD) : Dev nD :=
  match c with
  | 0 => ⟨k0_dev41 d, k0_dev41_lt d⟩
  | 1 => ⟨k0_dev44 d, k0_dev44_lt d⟩
  | 2 => ⟨k0_dev47 d, k0_dev47_lt d⟩
  | 3 => ⟨k0_dev50 d, k0_dev50_lt d⟩
  | 4 => ⟨k0_dev53 d, k0_dev53_lt d⟩
  | 5 => ⟨k0_dev56 d, k0_dev56_lt d⟩
  | 6 => ⟨k0_dev59 d, k0_dev59_lt d⟩
  | 7 => ⟨k0_dev62 d, k0_dev62_lt d⟩
/-- The device the last round sends to. -/
def tDev3 (c : Fin 8) (d : Dev nD) : Dev nD :=
  match c with
  | 0 => ⟨k0_dev63 d, k0_dev63_lt d⟩
  | 1 => ⟨k0_dev64 d, k0_dev64_lt d⟩
  | 2 => ⟨k0_dev65 d, k0_dev65_lt d⟩
  | 3 => ⟨k0_dev66 d, k0_dev66_lt d⟩
  | 4 => ⟨k0_dev67 d, k0_dev67_lt d⟩
  | 5 => ⟨k0_dev68 d, k0_dev68_lt d⟩
  | 6 => ⟨k0_dev69 d, k0_dev69_lt d⟩
  | 7 => ⟨k0_dev70 d, k0_dev70_lt d⟩
/-- Round 2's devices together. -/
def tDev1 (c : Fin 8) (j : Fin 3) (d : Dev nD) : Dev nD :=
  match j with
  | 0 => tDev1_0 c d
  | 1 => tDev1_1 c d
  | 2 => tDev1_2 c d
/-- Round 3's devices together. -/
def tDev2 (c : Fin 8) (j : Fin 3) (d : Dev nD) : Dev nD :=
  match j with
  | 0 => tDev2_0 c d
  | 1 => tDev2_1 c d
  | 2 => tDev2_2 c d

/-- The landing buffer of chunk `c` in the first round. -/
def r0M (c : Fin 8) : Memref sig .tc .vmem S64x1024 .bf16 :=
  match c with
  | 0 => Memref.whole cc0_scratch2
  | 1 => Memref.whole cc0_scratch3
  | 2 => Memref.whole cc0_scratch4
  | 3 => Memref.whole cc0_scratch5
  | 4 => Memref.whole cc0_scratch6
  | 5 => Memref.whole cc0_scratch7
  | 6 => Memref.whole cc0_scratch8
  | 7 => Memref.whole cc0_scratch9
theorem r0M_whole (c : Fin 8) : (r0M c).IsWhole :=
  match c with
  | 0 => Memref.isWhole_whole _
  | 1 => Memref.isWhole_whole _
  | 2 => Memref.isWhole_whole _
  | 3 => Memref.isWhole_whole _
  | 4 => Memref.isWhole_whole _
  | 5 => Memref.isWhole_whole _
  | 6 => Memref.isWhole_whole _
  | 7 => Memref.isWhole_whole _
/-- The landing buffer of chunk `c`, peer `j`, in the second round. -/
def r1M (c : Fin 8) (j : Fin 3) : Memref sig .tc .vmem S16x1024 .bf16 :=
  match c, j with
  | 0, 0 => Memref.whole cc0_scratch10
  | 0, 1 => Memref.whole cc0_scratch11
  | 0, 2 => Memref.whole cc0_scratch12
  | 1, 0 => Memref.whole cc0_scratch13
  | 1, 1 => Memref.whole cc0_scratch14
  | 1, 2 => Memref.whole cc0_scratch15
  | 2, 0 => Memref.whole cc0_scratch16
  | 2, 1 => Memref.whole cc0_scratch17
  | 2, 2 => Memref.whole cc0_scratch18
  | 3, 0 => Memref.whole cc0_scratch19
  | 3, 1 => Memref.whole cc0_scratch20
  | 3, 2 => Memref.whole cc0_scratch21
  | 4, 0 => Memref.whole cc0_scratch22
  | 4, 1 => Memref.whole cc0_scratch23
  | 4, 2 => Memref.whole cc0_scratch24
  | 5, 0 => Memref.whole cc0_scratch25
  | 5, 1 => Memref.whole cc0_scratch26
  | 5, 2 => Memref.whole cc0_scratch27
  | 6, 0 => Memref.whole cc0_scratch28
  | 6, 1 => Memref.whole cc0_scratch29
  | 6, 2 => Memref.whole cc0_scratch30
  | 7, 0 => Memref.whole cc0_scratch31
  | 7, 1 => Memref.whole cc0_scratch32
  | 7, 2 => Memref.whole cc0_scratch33
theorem r1M_whole (c : Fin 8) (j : Fin 3) : (r1M c j).IsWhole :=
  match c, j with
  | 0, 0 => Memref.isWhole_whole _
  | 0, 1 => Memref.isWhole_whole _
  | 0, 2 => Memref.isWhole_whole _
  | 1, 0 => Memref.isWhole_whole _
  | 1, 1 => Memref.isWhole_whole _
  | 1, 2 => Memref.isWhole_whole _
  | 2, 0 => Memref.isWhole_whole _
  | 2, 1 => Memref.isWhole_whole _
  | 2, 2 => Memref.isWhole_whole _
  | 3, 0 => Memref.isWhole_whole _
  | 3, 1 => Memref.isWhole_whole _
  | 3, 2 => Memref.isWhole_whole _
  | 4, 0 => Memref.isWhole_whole _
  | 4, 1 => Memref.isWhole_whole _
  | 4, 2 => Memref.isWhole_whole _
  | 5, 0 => Memref.isWhole_whole _
  | 5, 1 => Memref.isWhole_whole _
  | 5, 2 => Memref.isWhole_whole _
  | 6, 0 => Memref.isWhole_whole _
  | 6, 1 => Memref.isWhole_whole _
  | 6, 2 => Memref.isWhole_whole _
  | 7, 0 => Memref.isWhole_whole _
  | 7, 1 => Memref.isWhole_whole _
  | 7, 2 => Memref.isWhole_whole _
/-! ## The memrefs and the cells -/

/-- The staged block of A. -/
abbrev aM : Memref sig .tc .vmem S1024x512 .f32 := Memref.whole cc0_stg0_0
/-- The staged block of B. -/
abbrev bM : Memref sig .tc .vmem S512x1024 .f32 := Memref.whole cc0_stg1_0
/-- The result. -/
abbrev oM : Memref sig .tc .hbm S1024x1024 .f32 := Memref.whole main_v1
/-- The working copy. -/
abbrev wM : Memref sig .tc .vmem S1024x1024 .bf16 := Memref.whole cc0_scratch0
/-- The result's staging buffer. -/
abbrev fM : Memref sig .tc .vmem S1024x1024 .f32 := Memref.whole cc0_scratch1
theorem wM_whole : (wM).IsWhole := Memref.isWhole_whole _

theorem lt64 (c k : Fin 8) : ∀ a, (![8 * c.val + k.val] : Fin 1 → Nat) a + S1.size a ≤ S64.size a := by
  revert c k; decide
theorem lt40 (c : Fin 8) (k : Fin 5) : ∀ a, (![5 * c.val + k.val] : Fin 1 → Nat) a + S1.size a ≤ S40.size a := by
  revert c k; decide

/-- The source cell of chunk `c`, slot `k`. -/
def sS (c k : Fin 8) : DmaSem sig :=
  ((cc0_scratch34.slice (Rect.unit (s := S64) ![8 * c.val + k.val] S1.size (lt64 c k))).squeeze S_ squeezes_S1_S_).sem
/-- The landing cell of chunk `c`, slot `k`. -/
def rS (c k : Fin 8) : DmaSem sig :=
  ((cc0_scratch35.slice (Rect.unit (s := S64) ![8 * c.val + k.val] S1.size (lt64 c k))).squeeze S_ squeezes_S1_S_).sem
/-- The cell of chunk `c`'s `k`-th copy into the result. -/
def cS (c : Fin 8) (k : Fin 5) : DmaSem sig :=
  ((cc0_scratch36.slice (Rect.unit (s := S40) ![5 * c.val + k.val] S1.size (lt40 c k))).squeeze S_ squeezes_S1_S_).sem
/-- The barrier's semaphore. -/
def barS : Sem sig := (SemArray.scalar (sig.barrier 0 rfl) : Sems sig S_).sem

/-! ## Operations, each followed by the rest of the program -/

/-- What a device runs. -/
abbrev Pr (F : FTy → Type) := Prog (TpuEff nD τ sig (Elt F) Λ₀ .tc) PUnit

/-- Rows of a 1024 x 1024 buffer, `z` of them from offset `o` on. -/
abbrev rc (z o : Fin 2 → Nat) (hi : ∀ a, o a + z a ≤ S1024x1024.size a) : Rect S1024x1024 := Rect.unit (s := S1024x1024) o z hi
/-- The working copy's rows. -/
abbrev wR (z o : Fin 2 → Nat) (hi : ∀ a, o a + z a ≤ S1024x1024.size a) : Memref sig .tc .vmem ⟨2, z⟩ .bf16 := wM.slice (rc z o hi) (fun _ => rfl)
/-- The staging buffer's rows. -/
abbrev fR (z o : Fin 2 → Nat) (hi : ∀ a, o a + z a ≤ S1024x1024.size a) : Memref sig .tc .vmem ⟨2, z⟩ .f32 := fM.slice (rc z o hi) (fun _ => rfl)
/-- The result's rows. -/
abbrev oR (z o : Fin 2 → Nat) (hi : ∀ a, o a + z a ≤ S1024x1024.size a) : Memref sig .tc .hbm ⟨2, z⟩ .f32 := oM.slice (rc z o hi) (fun _ => rfl)
/-- The rows split no word of the working copy. -/
abbrev Wd (z o : Fin 2 → Nat) (hi : ∀ a, o a + z a ≤ S1024x1024.size a) : Prop := (rc z o hi).WholeWords (EltTy.packing .bf16)
/-- The rows are whole packed rows of the working copy. -/
abbrev Pk (z o : Fin 2 → Nat) (hi : ∀ a, o a + z a ≤ S1024x1024.size a) : Prop := (rc z o hi).PackedRows (EltTy.packing .bf16)
/-- The rows lie in the buffer. -/
abbrev Ib (z o : Fin 2 → Nat) : Prop := ∀ a, o a + z a ≤ S1024x1024.size a

/-- Send rows of the working copy into a landing buffer of device `n`. -/
def sendTo (z o : Fin 2 → Nat) (hi : Ib z o) (hw : Wd z o hi) (n : Dev nD) (b : Memref sig .tc .vmem ⟨2, z⟩ .bf16) (hb : b.IsWhole)
    (s r : DmaSem sig) (k : Pr F) : Pr F :=
  .op (.enqueueDma (wR z o hi) (.remote (Dev.tc n) b (.dma s)) (.dma r)
    (wM_whole.wordExact_slice rfl _ hw) hb.wordExact ⟨⟨rfl, Or.inl rfl⟩, trivial⟩) fun _ => k
/-- Send rows of the working copy into the same rows of device `n`'s. -/
def sendRows (z o : Fin 2 → Nat) (hi : Ib z o) (hw : Wd z o hi) (n : Dev nD) (s r : DmaSem sig) (k : Pr F) : Pr F :=
  .op (.enqueueDma (wR z o hi) (.remote (Dev.tc n) (wR z o hi) (.dma s)) (.dma r)
    (wM_whole.wordExact_slice rfl _ hw) (wM_whole.wordExact_slice rfl _ hw) ⟨⟨rfl, Or.inl rfl⟩, trivial⟩) fun _ => k
/-- Copy rows of the staging buffer into the result. -/
def copyRows (z o : Fin 2 → Nat) (hi : Ib z o) (s : DmaSem sig) (k : Pr F) : Pr F :=
  .op (.enqueueDma (fR z o hi) (.here (oR z o hi)) (.dma s)
    (View.wordExact_bits rfl) (View.wordExact_bits rfl) ⟨Or.inl rfl, trivial⟩) fun _ => k
/-- Wait for a landing in a landing buffer. -/
def waitBuf (z o : Fin 2 → Nat) (hi : Ib z o) (hw : Wd z o hi) (b : Memref sig .tc .vmem ⟨2, z⟩ .bf16) (hb : b.IsWhole) (s : DmaSem sig) (k : Pr F) : Pr F :=
  .op (.waitDma2 s (wR z o hi) b (wM_whole.wordExact_slice rfl _ hw) hb.wordExact) fun _ => k
/-- Wait for a landing in the working copy, or for its rows to have been read. -/
def waitRows (z o : Fin 2 → Nat) (hi : Ib z o) (hw : Wd z o hi) (s : DmaSem sig) (k : Pr F) : Pr F :=
  .op (.waitDma2 s (wR z o hi) (wR z o hi) (wM_whole.wordExact_slice rfl _ hw) (wM_whole.wordExact_slice rfl _ hw)) fun _ => k
/-- Wait for rows to have been read towards a landing buffer. -/
def waitSent (z o : Fin 2 → Nat) (hi : Ib z o) (hw : Wd z o hi) (b : Memref sig .tc .vmem ⟨2, z⟩ .bf16) (hb : b.IsWhole) (s : DmaSem sig) (k : Pr F) : Pr F :=
  .op (.waitDma2 s b (wR z o hi) hb.wordExact (wM_whole.wordExact_slice rfl _ hw)) fun _ => k
/-- Wait for a copy into the result. -/
def waitCopy (z o : Fin 2 → Nat) (hi : Ib z o) (s : DmaSem sig) (k : Pr F) : Pr F :=
  .op (.waitDma2 s (fR z o hi) (oR z o hi) (View.wordExact_bits rfl) (View.wordExact_bits rfl)) fun _ => k
/-- Load sixty-four rows of the working copy. -/
def load64 (o : Fin 2 → Nat) (hi : Ib S64x1024.size o) (k : Vec F S64x1024 .bf16 → Pr F) : Pr F :=
  .op (.load wM (rc S64x1024.size o hi).toLoadRect (View.loadsAt_vmem h_S64x1024)) k
/-- Load sixteen rows of the working copy. -/
def load16 (o : Fin 2 → Nat) (hi : Ib S16x1024.size o) (k : Vec F S16x1024 .bf16 → Pr F) : Pr F :=
  .op (.load wM (rc S16x1024.size o hi).toLoadRect (View.loadsAt_vmem h_S16x1024)) k
/-- Load sixty-four rows of the staging buffer. -/
def loadf64 (o : Fin 2 → Nat) (hi : Ib S64x1024.size o) (k : Pr F) : Pr F :=
  .op (.load fM (rc S64x1024.size o hi).toLoadRect (View.loadsAt_vmem h_S64x1024)) fun _ => k
/-- Load sixteen rows of the staging buffer. -/
def loadf16 (o : Fin 2 → Nat) (hi : Ib S16x1024.size o) (k : Pr F) : Pr F :=
  .op (.load fM (rc S16x1024.size o hi).toLoadRect (View.loadsAt_vmem h_S16x1024)) fun _ => k
/-- Load a whole first-round landing buffer. -/
def loadB64 (b : Memref sig .tc .vmem S64x1024 .bf16) (k : Vec F S64x1024 .bf16 → Pr F) : Pr F :=
  .op (.load b (Rect.unit (s := S64x1024) ![0, 0] S64x1024.size inb_S64x1024_S64x1024_0_0).toLoadRect (View.loadsAt_vmem h_S64x1024)) k
/-- Load a whole second-round landing buffer. -/
def loadB16 (b : Memref sig .tc .vmem S16x1024 .bf16) (k : Vec F S16x1024 .bf16 → Pr F) : Pr F :=
  .op (.load b (Rect.unit (s := S16x1024) ![0, 0] S16x1024.size inb_S16x1024_S16x1024_0_0).toLoadRect (View.loadsAt_vmem h_S16x1024)) k
/-- Store sixty-four rows of the working copy. -/
def store64 (o : Fin 2 → Nat) (hi : Ib S64x1024.size o) (hp : Pk S64x1024.size o hi) (v : FVec F S64x1024 .bf16) (k : Pr F) : Pr F :=
  .op (.store wM (rc S64x1024.size o hi) v Finset.univ (View.stores_vmem h_S64x1024 (wM_whole.storeExact_slice rfl _ hp) (fun _ => rfl)) (.inl rfl)) fun _ => k
/-- Store sixteen rows of the working copy. -/
def store16 (o : Fin 2 → Nat) (hi : Ib S16x1024.size o) (hp : Pk S16x1024.size o hi) (v : FVec F S16x1024 .bf16) (k : Pr F) : Pr F :=
  .op (.store wM (rc S16x1024.size o hi) v Finset.univ (View.stores_vmem h_S16x1024 (wM_whole.storeExact_slice rfl _ hp) (fun _ => rfl)) (.inl rfl)) fun _ => k
/-- Store sixty-four rows of the staging buffer. -/
def storef64 (o : Fin 2 → Nat) (hi : Ib S64x1024.size o) (v : FVec F S64x1024 .f32) (k : Pr F) : Pr F :=
  .op (.store fM (rc S64x1024.size o hi) v Finset.univ (View.stores_vmem_bits_univ h_S64x1024 rfl) (.inl rfl)) fun _ => k
/-- Store sixteen rows of the staging buffer. -/
def storef16 (o : Fin 2 → Nat) (hi : Ib S16x1024.size o) (v : FVec F S16x1024 .f32) (k : Pr F) : Pr F :=
  .op (.store fM (rc S16x1024.size o hi) v Finset.univ (View.stores_vmem_bits_univ h_S16x1024 rfl) (.inl rfl)) fun _ => k

theorem inbC (c : Fin 8) : Ib S128x1024.size ![128 * c.val, 0] := by revert c; decide
theorem inbA (c : Fin 8) : ∀ a, (![128 * c.val, 0] : Fin 2 → Nat) a + S128x512.size a ≤ S1024x512.size a := by revert c; decide
theorem packC (c : Fin 8) : Pk S128x1024.size ![128 * c.val, 0] (inbC c) :=
  match c with
  | 0 => packedbf16_S1024x1024_S128x1024_0_0
  | 1 => packedbf16_S1024x1024_S128x1024_128_0
  | 2 => packedbf16_S1024x1024_S128x1024_256_0
  | 3 => packedbf16_S1024x1024_S128x1024_384_0
  | 4 => packedbf16_S1024x1024_S128x1024_512_0
  | 5 => packedbf16_S1024x1024_S128x1024_640_0
  | 6 => packedbf16_S1024x1024_S128x1024_768_0
  | 7 => packedbf16_S1024x1024_S128x1024_896_0

/-! ## The phases of one chunk -/

/-- The local product of a chunk, rounded. -/
abbrev payDot (a : Vec F S128x512 .f32) (b : Vec F S512x1024 .f32) : FVec F S128x1024 .bf16 := k0_pay1 a b
/-- The sum of the kept half and what landed. -/
abbrev payAdd (a b : Vec F S64x1024 .bf16) : FVec F S64x1024 .bf16 := k0_pay15 a b
/-- The finished rows. -/
abbrev payFin (a b c d : Vec F S16x1024 .bf16) : FVec F S16x1024 .bf16 := k0_pay24 a b c d
/-- The finished rows, before the store's cast. -/
abbrev payFin' (a b c d : Vec F S16x1024 .bf16) : FVec F S16x1024 .bf16 := k0_pay23 a b c d
/-- Rows widened for the result. -/
abbrev payExt16 (a : Vec F S16x1024 .bf16) : FVec F S16x1024 .f32 := k0_pay25 a
/-- A half widened for the result. -/
abbrev payExt64 (a : Vec F S64x1024 .bf16) : FVec F S64x1024 .f32 :=
  shapeCast S64x1024 (extf .f32 a bitsLt_bf16_f32) shapeCasts_S64x1024_S64x1024

/-- Phase 0's product. -/
def dotC (c : Fin 8) (k : Pr F) : Pr F :=
  .op (.load aM (Rect.unit (s := S1024x512) ![128 * c.val, 0] S128x512.size (inbA c)).toLoadRect (View.loadsAt_vmem h_S128x512)) fun a =>
  .op (.load bM (Rect.unit (s := S512x1024) ![0, 0] S512x1024.size inb_S512x1024_S512x1024_0_0).toLoadRect (View.loadsAt_vmem h_S512x1024)) fun b =>
  .op (.load wM (rc S128x1024.size ![128 * c.val, 0] (inbC c)).toLoadRect (View.loadsAt_vmem h_S128x1024)) fun _ =>
  .op (.store wM (rc S128x1024.size ![128 * c.val, 0] (inbC c)) (payDot a b) Finset.univ
    (View.stores_vmem h_S128x1024 (wM_whole.storeExact_slice rfl _ (packC c)) (fun _ => rfl)) (.inl rfl)) fun _ => k
/-- Phase 0's send. -/
def snd0 (c : Fin 8) (d : Dev nD) (k : Pr F) : Pr F :=
  sendTo S64x1024.size (tSend c d) (tSend_inb c d) (tSend_words c d) (tDev0 c d) (r0M c) (r0M_whole c) (sS c 0) (rS c 0) k
/-- Phase 1: add what landed to the kept half, send three quarters of it. -/
def ph1 (c : Fin 8) (d : Dev nD) (k : Pr F) : Pr F :=
  waitBuf S64x1024.size (tSend c d) (tSend_inb c d) (tSend_words c d) (r0M c) (r0M_whole c) (rS c 0) <|
  load64 (tKeep c d) (tKeep_inb c d) fun a => loadB64 (r0M c) fun b => load64 (tKeep c d) (tKeep_inb c d) fun _ =>
  store64 (tKeep c d) (tKeep_inb c d) (tKeep_packed c d) (payAdd a b) <|
  sendTo S16x1024.size (tSub c 0 d) (tSub_inb c 0 d) (tSub_words c 0 d) (tDev1 c 0 d) (r1M c 0) (r1M_whole c 0) (sS c 1) (rS c 1) <|
  sendTo S16x1024.size (tSub c 1 d) (tSub_inb c 1 d) (tSub_words c 1 d) (tDev1 c 1 d) (r1M c 1) (r1M_whole c 1) (sS c 2) (rS c 2) <|
  sendTo S16x1024.size (tSub c 2 d) (tSub_inb c 2 d) (tSub_words c 2 d) (tDev1 c 2 d) (r1M c 2) (r1M_whole c 2) (sS c 3) (rS c 3) k
/-- Phase 2: finish sixteen rows and send them to three devices. -/
def ph2 (c : Fin 8) (d : Dev nD) (k : Pr F) : Pr F :=
  waitBuf S16x1024.size (tSub c 0 d) (tSub_inb c 0 d) (tSub_words c 0 d) (r1M c 0) (r1M_whole c 0) (rS c 1) <|
  waitBuf S16x1024.size (tSub c 1 d) (tSub_inb c 1 d) (tSub_words c 1 d) (r1M c 1) (r1M_whole c 1) (rS c 2) <|
  waitBuf S16x1024.size (tSub c 2 d) (tSub_inb c 2 d) (tSub_words c 2 d) (r1M c 2) (r1M_whole c 2) (rS c 3) <|
  load16 (tMine c d) (tMine_inb c d) fun a => loadB16 (r1M c 0) fun x => loadB16 (r1M c 1) fun y => loadB16 (r1M c 2) fun z =>
  load16 (tMine c d) (tMine_inb c d) fun _ =>
  store16 (tMine c d) (tMine_inb c d) (tMine_packed c d) (payFin a x y z) <|
  sendRows S16x1024.size (tMineV c d) (tMineV_inb c d) (tMineV_words c d) (tDev2 c 0 d) (sS c 4) (rS c 4) <|
  sendRows S16x1024.size (tMineV c d) (tMineV_inb c d) (tMineV_words c d) (tDev2 c 1 d) (sS c 5) (rS c 5) <|
  sendRows S16x1024.size (tMineV c d) (tMineV_inb c d) (tMineV_words c d) (tDev2 c 2 d) (sS c 6) (rS c 6) <|
  loadf16 (tMine c d) (tMine_inb c d) <| storef16 (tMine c d) (tMine_inb c d) (payExt16 (payFin' a x y z)) <|
  copyRows S16x1024.size (tMineV c d) (tMineV_inb c d) (cS c 0) k
/-- One quarter of phase 3's output. -/
def out3 (c : Fin 8) (j : Fin 3) (d : Dev nD) (s : DmaSem sig) (k : Pr F) : Pr F :=
  load16 (tSubL c j d) (tSubL_inb c j d) fun a => loadf16 (tSubL c j d) (tSubL_inb c j d) <|
  storef16 (tSubL c j d) (tSubL_inb c j d) (payExt16 a) <|
  copyRows S16x1024.size (tSubV c j d) (tSubV_inb c j d) s k
/-- Phase 3: with the kept half finished, send it and write it out. -/
def ph3 (c : Fin 8) (d : Dev nD) (k : Pr F) : Pr F :=
  waitRows S16x1024.size (tMineV c d) (tMineV_inb c d) (tMineV_words c d) (rS c 4) <|
  waitRows S16x1024.size (tMineV c d) (tMineV_inb c d) (tMineV_words c d) (rS c 5) <|
  waitRows S16x1024.size (tMineV c d) (tMineV_inb c d) (tMineV_words c d) (rS c 6) <|
  sendRows S64x1024.size (tHalf c d) (tHalf_inb c d) (tHalf_words c d) (tDev3 c d) (sS c 7) (rS c 7) <|
  out3 c 0 d (cS c 1) <| out3 c 1 d (cS c 2) <| out3 c 2 d (cS c 3) k
/-- Phase 4: the other half has landed; write it out. -/
def ph4 (c : Fin 8) (d : Dev nD) (k : Pr F) : Pr F :=
  waitRows S64x1024.size (tHalf c d) (tHalf_inb c d) (tHalf_words c d) (rS c 7) <|
  load64 (tOther c d) (tOther_inb c d) fun a => loadf64 (tOther c d) (tOther_inb c d) <|
  storef64 (tOther c d) (tOther_inb c d) (payExt64 a) <|
  copyRows S64x1024.size (tSend c d) (tSend_inb c d) (cS c 4) k
/-- The first round's source is free. -/
def end0 (c : Fin 8) (d : Dev nD) (k : Pr F) : Pr F :=
  waitSent S64x1024.size (tSend c d) (tSend_inb c d) (tSend_words c d) (r0M c) (r0M_whole c) (sS c 0) k
/-- The second round's sources are free. -/
def end1 (c : Fin 8) (d : Dev nD) (k : Pr F) : Pr F :=
  waitSent S16x1024.size (tSub c 0 d) (tSub_inb c 0 d) (tSub_words c 0 d) (r1M c 0) (r1M_whole c 0) (sS c 1) <|
  waitSent S16x1024.size (tSub c 1 d) (tSub_inb c 1 d) (tSub_words c 1 d) (r1M c 1) (r1M_whole c 1) (sS c 2) <|
  waitSent S16x1024.size (tSub c 2 d) (tSub_inb c 2 d) (tSub_words c 2 d) (r1M c 2) (r1M_whole c 2) (sS c 3) k
/-- The third round's sources are free. -/
def end2 (c : Fin 8) (d : Dev nD) (k : Pr F) : Pr F :=
  waitRows S16x1024.size (tMineV c d) (tMineV_inb c d) (tMineV_words c d) (sS c 4) <|
  waitRows S16x1024.size (tMineV c d) (tMineV_inb c d) (tMineV_words c d) (sS c 5) <|
  waitRows S16x1024.size (tMineV c d) (tMineV_inb c d) (tMineV_words c d) (sS c 6) k
/-- The last round's source is free. -/
def end3 (c : Fin 8) (d : Dev nD) (k : Pr F) : Pr F :=
  waitRows S64x1024.size (tHalf c d) (tHalf_inb c d) (tHalf_words c d) (sS c 7) k
/-- The finished rows are in the result. -/
def endA (c : Fin 8) (d : Dev nD) (k : Pr F) : Pr F :=
  waitCopy S16x1024.size (tMineV c d) (tMineV_inb c d) (cS c 0) k
/-- The other three quarters are in the result. -/
def endB (c : Fin 8) (d : Dev nD) (k : Pr F) : Pr F :=
  waitCopy S16x1024.size (tSubV c 0 d) (tSubV_inb c 0 d) (cS c 1) <|
  waitCopy S16x1024.size (tSubV c 1 d) (tSubV_inb c 1 d) (cS c 2) <|
  waitCopy S16x1024.size (tSubV c 2 d) (tSubV_inb c 2 d) (cS c 3) k
/-- The other half is in the result. -/
def endC (c : Fin 8) (d : Dev nD) (k : Pr F) : Pr F :=
  waitCopy S64x1024.size (tSend c d) (tSend_inb c d) (cS c 4) k

/-- A phase over the chunks of a list, then the rest. -/
def over (f : Fin 8 → Pr F → Pr F) : List (Fin 8) → Pr F → Pr F
  | [], k => k
  | c :: cs, k => f c (over f cs k)

/-- Every chunk but the first. -/
abbrev seven : List (Fin 8) := [1, 2, 3, 4, 5, 6, 7]
/-- Every chunk. -/
abbrev eight : List (Fin 8) := [0, 1, 2, 3, 4, 5, 6, 7]

/-- One signal of the barrier. -/
def sig1 (n : Dev nD) (k : Pr F) : Pr F := .op (.semSignal (Dev.tc n) barS (1#32).toInt) fun _ => k

/-- From the end of the last phase: every transfer has ended. -/
def bodyEnd (d : Dev nD) : Pr F :=
  over (end0 · d) eight <| over (end1 · d) eight <| over (end2 · d) eight <| over (end3 · d) eight <|
  over (endA · d) eight <| over (endB · d) eight <| over (endC · d) eight (.ret ⟨⟩)
/-- From the barrier's wait on. -/
def bodyMid (d : Dev nD) : Pr F :=
  .op (.semWait barS (6#32).toInt) fun _ =>
  snd0 0 d <| over (fun c k => dotC c (snd0 c d k)) seven <|
  over (ph1 · d) eight <| over (ph2 · d) eight <| over (ph3 · d) eight <| over (ph4 · d) eight <| bodyEnd d
/-- The whole body. -/
def bodyAll : Pr F :=
  .op .deviceId fun d =>
  sig1 ⟨k0_dev1 d, k0_dev1_lt d⟩ <| sig1 ⟨k0_dev2 d, k0_dev2_lt d⟩ <| sig1 ⟨k0_dev3 d, k0_dev3_lt d⟩ <|
  sig1 ⟨k0_dev4 d, k0_dev4_lt d⟩ <| sig1 ⟨k0_dev5 d, k0_dev5_lt d⟩ <| sig1 ⟨k0_dev6 d, k0_dev6_lt d⟩ <|
  dotC 0 <| bodyMid d

/-- The printed body, on the buffers the launch gives it. -/
abbrev printed : Pr F :=
  cc0_body aM (Memref.isWhole_whole _) bM (Memref.isWhole_whole _) oM (Memref.isWhole_whole _) (Memref.whole cc0_scratch0) (Memref.isWhole_whole _) (Memref.whole
    cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6)
    (Memref.isWhole_whole _) (Memref.whole cc0_scratch7) (Memref.isWhole_whole _) (Memref.whole cc0_scratch8) (Memref.isWhole_whole _) (Memref.whole
    cc0_scratch9) (Memref.isWhole_whole _) (Memref.whole cc0_scratch10) (Memref.isWhole_whole _) (Memref.whole cc0_scratch11) (Memref.isWhole_whole _)
    (Memref.whole cc0_scratch12) (Memref.isWhole_whole _) (Memref.whole cc0_scratch13) (Memref.isWhole_whole _) (Memref.whole cc0_scratch14)
    (Memref.isWhole_whole _) (Memref.whole cc0_scratch15) (Memref.isWhole_whole _) (Memref.whole cc0_scratch16) (Memref.isWhole_whole _) (Memref.whole
    cc0_scratch17) (Memref.isWhole_whole _) (Memref.whole cc0_scratch18) (Memref.isWhole_whole _) (Memref.whole cc0_scratch19) (Memref.isWhole_whole _)
    (Memref.whole cc0_scratch20) (Memref.isWhole_whole _) (Memref.whole cc0_scratch21) (Memref.isWhole_whole _) (Memref.whole cc0_scratch22)
    (Memref.isWhole_whole _) (Memref.whole cc0_scratch23) (Memref.isWhole_whole _) (Memref.whole cc0_scratch24) (Memref.isWhole_whole _) (Memref.whole
    cc0_scratch25) (Memref.isWhole_whole _) (Memref.whole cc0_scratch26) (Memref.isWhole_whole _) (Memref.whole cc0_scratch27) (Memref.isWhole_whole _)
    (Memref.whole cc0_scratch28) (Memref.isWhole_whole _) (Memref.whole cc0_scratch29) (Memref.isWhole_whole _) (Memref.whole cc0_scratch30)
    (Memref.isWhole_whole _) (Memref.whole cc0_scratch31) (Memref.isWhole_whole _) (Memref.whole cc0_scratch32) (Memref.isWhole_whole _) (Memref.whole
    cc0_scratch33) (Memref.isWhole_whole _) cc0_scratch34 cc0_scratch35 cc0_scratch36

end Cert.KernelIdeal.Pf
-- ==== Proof.KernelIdeal.Tab.lean ====
/- Where each device's rows lie and which device each transfer goes to, as plain numbers. -/
module

public import proofs.«01_k».proof.Proof.KernelIdeal.Prog

@[expose] public section

noncomputable section

namespace Cert.KernelIdeal.Pf

open Idealize.ShloMosaic Idealize.SL.Sem Cert.KernelIdeal Cert.KernelIdeal.Gen

/-! ## The cube: a device's three bits, and the six masks -/

/-- Bit `a` of device `d`: the x, y and z coordinate. -/
def bit (a : Nat) (d : Dev nD) : Nat :=
  match a % 3 with
  | 0 => (d.val % 2 + d.val / 2 % 2) % 2
  | 1 => d.val / 2 % 2
  | _ => d.val / 4 % 2

theorem bit_lt (a : Nat) (d : Dev nD) : bit a d < 2 := by
  unfold bit; split <;> exact Nat.mod_lt _ (by decide)

/-- The six masks, in the order the barrier's signals take them. -/
def mask : Fin 6 → Nat := ![1, 3, 4, 2, 7, 5]
/-- The device across mask `j`. -/
def peer (j : Fin 6) (d : Dev nD) : Dev nD := ⟨(d.val ^^^ mask j) % 8, Nat.mod_lt _ (by decide)⟩
theorem peer_peer (j : Fin 6) (d : Dev nD) : peer j (peer j d) = d := by revert j d; decide
/-- Crossing a mask, as a permutation of the devices. -/
def peerE (j : Fin 6) : Dev nD ≃ Dev nD := ⟨peer j, peer j, peer_peer j, peer_peer j⟩

/-- The mask of chunk `c`'s transfer in slot `k`. -/
def px (c k : Fin 8) : Fin 6 :=
  match c.val % 3, k with
  | 0, 0 | 0, 7 => 0
  | 0, 1 | 0, 4 => 1
  | 0, 2 | 0, 5 => 2
  | 0, _ => 4
  | 1, 0 | 1, 7 => 1
  | 1, 1 | 1, 4 => 2
  | 1, 2 | 1, 5 => 0
  | 1, _ => 5
  | _, 0 | _, 7 => 2
  | _, 1 | _, 4 => 0
  | _, 2 | _, 5 => 1
  | _, _ => 3
/-- The device at the other end of chunk `c`'s transfer in slot `k`. -/
def P (c k : Fin 8) (d : Dev nD) : Dev nD := peer (px c k) d
theorem P_P (c k : Fin 8) (d : Dev nD) : P c k (P c k d) = d := peer_peer _ d

/-- Slot `1 + j`. -/
abbrev k1 (j : Fin 3) : Fin 8 := ⟨1 + j.val, by omega⟩
/-- Slot `4 + j`. -/
abbrev k4 (j : Fin 3) : Fin 8 := ⟨4 + j.val, by omega⟩

/-! ## The rows -/

/-- Where the half device `d` keeps begins. -/
def keepLo (c : Fin 8) (d : Dev nD) : Nat := 128 * c.val + 64 * bit c.val d
/-- Where the half it sends away begins. -/
def sendLo (c : Fin 8) (d : Dev nD) : Nat := 128 * c.val + 64 * (1 - bit c.val d)
/-- Where the sixteen rows it finishes begin. -/
def mineLo (c : Fin 8) (d : Dev nD) : Nat := keepLo c d + 16 * (2 * bit (c.val + 1) d + bit (c.val + 2) d)
/-- Where the sixteen rows it sends to its `j`-th partner of the second round begin. -/
def subLo (c : Fin 8) (j : Fin 3) (d : Dev nD) : Nat :=
  keepLo c d + 16 *
    match j with
    | 0 => 2 * (1 - bit (c.val + 1) d) + bit (c.val + 2) d
    | 1 => 2 * bit (c.val + 1) d + (1 - bit (c.val + 2) d)
    | 2 => 2 * (1 - bit (c.val + 1) d) + (1 - bit (c.val + 2) d)

theorem tSend_eq (c : Fin 8) (d : Dev nD) : tSend c d = ![sendLo c d, 0] := by revert c d; decide
theorem tKeep_eq (c : Fin 8) (d : Dev nD) : tKeep c d = ![keepLo c d, 0] := by revert c d; decide
theorem tHalf_eq (c : Fin 8) (d : Dev nD) : tHalf c d = ![keepLo c d, 0] := by revert c d; decide
theorem tOther_eq (c : Fin 8) (d : Dev nD) : tOther c d = ![sendLo c d, 0] := by revert c d; decide
theorem tMine_eq (c : Fin 8) (d : Dev nD) : tMine c d = ![mineLo c d, 0] := by revert c d; decide
theorem tMineV_eq (c : Fin 8) (d : Dev nD) : tMineV c d = ![mineLo c d, 0] := by revert c d; decide
theorem tSub_eq (c : Fin 8) (j : Fin 3) (d : Dev nD) : tSub c j d = ![subLo c j d, 0] := by revert c j d; decide
theorem tSubL_eq (c : Fin 8) (j : Fin 3) (d : Dev nD) : tSubL c j d = ![subLo c j d, 0] := by revert c j d; decide
theorem tSubV_eq (c : Fin 8) (j : Fin 3) (d : Dev nD) : tSubV c j d = ![subLo c j d, 0] := by revert c j d; decide
theorem tDev0_eq (c : Fin 8) (d : Dev nD) : tDev0 c d = P c 0 d := by revert c d; decide
theorem tDev1_eq (c : Fin 8) (j : Fin 3) (d : Dev nD) : tDev1 c j d = P c (k1 j) d := by revert c j d; decide
theorem tDev2_eq (c : Fin 8) (j : Fin 3) (d : Dev nD) : tDev2 c j d = P c (k4 j) d := by revert c j d; decide
theorem tDev3_eq (c : Fin 8) (d : Dev nD) : tDev3 c d = P c 7 d := by revert c d; decide
theorem sig1_eq (d : Dev nD) : (⟨k0_dev1 d, k0_dev1_lt d⟩ : Dev nD) = peer 0 d := by revert d; decide
theorem sig2_eq (d : Dev nD) : (⟨k0_dev2 d, k0_dev2_lt d⟩ : Dev nD) = peer 1 d := by revert d; decide
theorem sig3_eq (d : Dev nD) : (⟨k0_dev3 d, k0_dev3_lt d⟩ : Dev nD) = peer 2 d := by revert d; decide
theorem sig4_eq (d : Dev nD) : (⟨k0_dev4 d, k0_dev4_lt d⟩ : Dev nD) = peer 3 d := by revert d; decide
theorem sig5_eq (d : Dev nD) : (⟨k0_dev5 d, k0_dev5_lt d⟩ : Dev nD) = peer 4 d := by revert d; decide
theorem sig6_eq (d : Dev nD) : (⟨k0_dev6 d, k0_dev6_lt d⟩ : Dev nD) = peer 5 d := by revert d; decide

theorem sendLo_P (c : Fin 8) (d : Dev nD) : sendLo c (P c 0 d) = keepLo c d := by revert c d; decide
theorem keepLo_P (c : Fin 8) (d : Dev nD) : keepLo c (P c 0 d) = sendLo c d := by revert c d; decide
theorem subLo_P (c : Fin 8) (j : Fin 3) (d : Dev nD) : subLo c j (P c (k1 j) d) = mineLo c d := by revert c j d; decide
theorem mineLo_P (c : Fin 8) (j : Fin 3) (d : Dev nD) : mineLo c (P c (k1 j) d) = subLo c j d := by revert c j d; decide
theorem P_k4 (c : Fin 8) (j : Fin 3) (d : Dev nD) : P c (k4 j) d = P c (k1 j) d := by revert c j d; decide
theorem P_7 (c : Fin 8) (d : Dev nD) : P c 7 d = P c 0 d := by revert c d; decide

/-- The device that finishes rows `16 b` to `16 b + 16` of chunk `c`. -/
def own (c b : Fin 8) : Dev nD :=
  let h := b.val / 4
  let s := b.val / 2 % 2
  let t := b.val % 2
  let v := match c.val % 3 with
    | 0 => (h, s, t)
    | 1 => (t, h, s)
    | _ => (s, t, h)
  ⟨(4 * v.2.2 + 2 * v.2.1 + (v.1 + v.2.1) % 2) % 8, Nat.mod_lt _ (by decide)⟩
theorem own_mine (c : Fin 8) (d : Dev nD) : own c ⟨mineLo c d / 16 % 8, Nat.mod_lt _ (by decide)⟩ = d := by revert c d; decide
theorem mine_own (c b : Fin 8) : mineLo c (own c b) = 128 * c.val + 16 * b.val := by revert c b; decide

/-! ## The semaphores' numbers -/

theorem sS_val (c k : Fin 8) : (sS c k).val = 2 + (8 * c.val + k.val) := by revert c k; decide
theorem rS_val (c k : Fin 8) : (rS c k).val = 66 + (8 * c.val + k.val) := by revert c k; decide
theorem cS_val (c : Fin 8) (k : Fin 5) : (cS c k).val = 130 + (5 * c.val + k.val) := by revert c k; decide

end Cert.KernelIdeal.Pf

end
-- ==== Proof.KernelIdeal.Inv.lean ====
/- What the rows hold at each step, and what every semaphore cell hands over. -/
module

public import proofs.«01_k».proof.Proof.KernelIdeal.Tab
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Pf

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the launch's own, and the kernel's cells with six duties at most. -/
abbrev UU : Type := UR sig nD τ × URounds (GSem nD τ sig) (Fin 6)

local notation "𝕄" => MT nD τ sig Unit (Elt F) ℕ UU ℕ

abbrev EP : Emb (UR sig nD τ) (MT nD τ sig Unit (Elt F) ℕ UU ℕ) := embL
abbrev ER : Emb (URounds (GSem nD τ sig) (Fin 6)) (MT nD τ sig Unit (Elt F) ℕ UU ℕ) := embR

variable (m : (ℓ : Loc nD τ sig) → Buf (Elt F) ℓ)

/-! ## Sets of rows -/

/-- Rows `lo` to `lo + n`. -/
def rows (lo n : Nat) : Finset S1024x1024.Idx := Finset.univ.filter fun i => lo ≤ (i 0).val ∧ (i 0).val < lo + n

theorem mem_rows {lo n : Nat} {i : S1024x1024.Idx} : i ∈ rows lo n ↔ lo ≤ (i 0).val ∧ (i 0).val < lo + n := by
  unfold rows; rw [Finset.mem_filter]; exact and_iff_right (Finset.mem_univ _)

theorem rows_add (lo n k : Nat) : rows lo (n + k) = rows lo n ∪ rows (lo + n) k := by
  ext i; rw [Finset.mem_union, mem_rows, mem_rows, mem_rows]; omega
theorem rows_disj (lo n k : Nat) : Disjoint (rows lo n) (rows (lo + n) k) := by
  rw [Finset.disjoint_left]; intro i h; rw [mem_rows] at h ⊢; omega
theorem rows_all : rows 0 1024 = Finset.univ := by
  ext i; rw [mem_rows]; have := (i 0).isLt; exact ⟨fun _ => Finset.mem_univ _, fun _ => ⟨Nat.zero_le _, by simpa using this⟩⟩

/-- A rectangle of whole rows is its rows. -/
theorem rc_set {n lo : Nat} {o : Fin 2 → Nat} (ho : o = ![lo, 0]) (hi : Ib ![n, 1024] o) : (rc ![n, 1024] o hi).set = rows lo n := by
  subst ho
  ext i
  rw [Rect.mem_set_unit, mem_rows]
  have h1 := (i 1).isLt
  constructor
  · intro h; exact h 0
  · intro h a
    match a with
    | 0 => exact h
    | 1 => exact ⟨Nat.zero_le _, by simpa using h1⟩

/-! ## Contents -/

/-- Device `d`'s block of the first argument, as the launch stages it. -/
def aX (d : Dev nD) : (cc0_stg0_0 : Ref sig .tc).ty.Contents (Elt F) :=
  (win0_0.blk (0 : Fin 1)).view.read (Elt F) (m ((d : Thread nD τ).loc main_arg0))
/-- Device `d`'s block of the second argument, as the launch stages it. -/
def bX (d : Dev nD) : (cc0_stg1_0 : Ref sig .tc).ty.Contents (Elt F) :=
  (win0_1.blk (0 : Fin 1)).view.read (Elt F) (m ((d : Thread nD τ).loc main_arg1))

/-- The rows of chunk `c` of the first argument's block. -/
def aT (c : Fin 8) (d : Dev nD) : Vec F S128x512 .f32 :=
  (aM.access (Rect.unit (s := S1024x512) ![128 * c.val, 0] S128x512.size (inbA c))).read (Elt F) (aX m d)
/-- The second argument's block. -/
def bT (d : Dev nD) : Vec F S512x1024 .f32 :=
  (bM.access (Rect.unit (s := S512x1024) ![0, 0] S512x1024.size inb_S512x1024_S512x1024_0_0)).read (Elt F) (bX m d)

/-- The chunk a row lies in. -/
def chunkOf (i : S1024x1024.Idx) : Fin 8 := ⟨(i 0).val / 128, Nat.div_lt_of_lt_mul (i 0).isLt⟩
/-- A row's place in its chunk. -/
def inChunk (i : S1024x1024.Idx) : S128x1024.Idx := fun a =>
  match a with
  | 0 => ⟨(i 0).val % 128, Nat.mod_lt _ (by decide)⟩
  | 1 => i 1

/-- The local product. -/
def W0 (d : Dev nD) : S1024x1024.Idx → Elt F .bf16 := fun i => payDot (aT m (chunkOf i) d) (bT m d) (inChunk i)
/-- The local product and the first round's partner's, added. -/
def W1 (c : Fin 8) (d : Dev nD) : S1024x1024.Idx → Elt F .bf16 := addf (W0 m d : FVec F S1024x1024 .bf16) (W0 m (P c 0 d))
/-- The finished values, as device `o` finishes them. -/
def FIN (c : Fin 8) (o : Dev nD) : S1024x1024.Idx → Elt F .bf16 :=
  maximumf (addf (addf (addf (W1 m c o : FVec F S1024x1024 .bf16) (W1 m c (P c (k1 0) o))) (W1 m c (P c (k1 1) o))) (W1 m c (P c (k1 2) o)))
    (broadcast S1024x1024 (Scalar.ofBits .bf16 0x0000#16))
/-- The finished values, everywhere. -/
def FB : S1024x1024.Idx → Elt F .bf16 := fun i => FIN m (chunkOf i) (own (chunkOf i) ⟨(i 0).val / 16 % 8, Nat.mod_lt _ (by decide)⟩) i
/-- The result. -/
def OUT : S1024x1024.Idx → Elt F .f32 := extf .f32 (FB m : FVec F S1024x1024 .bf16) bitsLt_bf16_f32

/-! ## Points-tos -/

/-- Rows of device `d`'s working copy. -/
abbrev wB (d : Dev nD) (S : Finset S1024x1024.Idx) (q : PosShare TreeShare) (G : S1024x1024.Idx → Elt F .bf16) : sProp 𝕄 :=
  ((d : Thread nD τ).loc cc0_scratch0) ↦[S]{q} G
/-- Rows of its staging buffer. -/
abbrev fB (d : Dev nD) (S : Finset S1024x1024.Idx) (G : S1024x1024.Idx → Elt F .f32) : sProp 𝕄 :=
  ((d : Thread nD τ).loc cc0_scratch1) ↦[S]{fullShare} G
/-- Rows of its result. -/
abbrev oB (d : Dev nD) (S : Finset S1024x1024.Idx) (G : S1024x1024.Idx → Elt F .f32) : sProp 𝕄 :=
  ((d : Thread nD τ).loc main_v1) ↦[S]{fullShare} G
/-- A landing buffer holding `v`. -/
def holds {s : Shape} (b : Memref sig .tc .vmem s .bf16) (d : Dev nD) (v : s.Idx → Elt F .bf16) : sProp 𝕄 :=
  iprop(∃ f : Buf (Elt F) (b.view.loc (d : Thread nD τ)), ⌜b.view.read (Elt F) f = v⌝ ∗ (b.view.loc (d : Thread nD τ) ↦[b.view.set]{fullShare} f))
/-- A landing buffer holding anything. -/
def anyB {s : Shape} (b : Memref sig .tc .vmem s .bf16) (d : Dev nD) : sProp 𝕄 :=
  iprop(∃ f : Buf (Elt F) (b.view.loc (d : Thread nD τ)), (b.view.loc (d : Thread nD τ) ↦[b.view.set]{fullShare} f))

/-- What rows of the working copy read. -/
abbrev rd (z o : Fin 2 → Nat) (hi : Ib z o) (G : S1024x1024.Idx → Elt F .bf16) : (⟨2, z⟩ : Shape).Idx → Elt F .bf16 :=
  (wR z o hi).view.read (Elt F) G

theorem rd_congr {z o o' : Fin 2 → Nat} (h : o = o') (hi : Ib z o) (hi' : Ib z o') (G : S1024x1024.Idx → Elt F .bf16) :
    HEq (rd z o hi G) (rd z o' hi' G) := by subst h; rfl
theorem rd_congr' {z o o' : Fin 2 → Nat} (h : o = o') (hi : Ib z o) (hi' : Ib z o') (G : S1024x1024.Idx → Elt F .bf16) :
    rd z o hi G = rd z o' hi' G := by subst h; rfl

/-- The shares the finished rows are held at. -/
abbrev qσ : PosShare TreeShare := fullShare.left
abbrev qρ : PosShare TreeShare := fullShare.right
/-- The share the `j`-th send of the finished rows holds. -/
def qτ (j : Fin 3) : PosShare TreeShare :=
  match j with
  | 0 => qρ.left
  | 1 => qρ.right.left
  | 2 => qρ.right.right

/-! ## The cells -/

/-- The cells of one device: the barrier's, the sends', the landings' and the copies'. -/
abbrev Kc : Type := Unit ⊕ ((Fin 8 × Fin 8) ⊕ ((Fin 8 × Fin 8) ⊕ (Fin 8 × Fin 5)))
abbrev kB : Kc := .inl ()
abbrev kS (c k : Fin 8) : Kc := .inr (.inl (c, k))
abbrev kR (c k : Fin 8) : Kc := .inr (.inr (.inl (c, k)))
abbrev kC (c : Fin 8) (k : Fin 5) : Kc := .inr (.inr (.inr (c, k)))

/-- Each cell's semaphore. -/
def sl : Kc → SemLoc sig
  | .inl _ => .reg barS
  | .inr (.inl x) => .dma (sS x.1 x.2)
  | .inr (.inr (.inl x)) => .dma (rS x.1 x.2)
  | .inr (.inr (.inr x)) => .dma (cS x.1 x.2)

theorem sl_injective : Function.Injective sl := by
  have key : ∀ (x y : DmaSem sig), (SemLoc.dma x : SemLoc sig) = .dma y → x.val = y.val := fun x y h => by cases h; rfl
  rintro (a | ⟨c, k⟩ | ⟨c, k⟩ | ⟨c, k⟩) (a' | ⟨c', k'⟩ | ⟨c', k'⟩ | ⟨c', k'⟩) h <;> dsimp only [sl] at h <;>
    first
    | rfl
    | exact absurd h (fun h => by cases h)
    | (have h := key _ _ h
       simp only [sS_val, rS_val, cS_val] at h
       have h1 := c.isLt; have h2 := k.isLt; have h3 := c'.isLt; have h4 := k'.isLt
       first
       | (exfalso; omega)
       | (have e1 : c = c' := Fin.ext (by omega)
          have e2 : k = k' := Fin.ext (by omega)
          subst e1; subst e2; rfl))

/-- A device's cell. -/
def kcell (x : Dev nD × Kc) : GSem nD τ sig := ((x.1 : Thread nD τ), sl x.2)

theorem kcell_injective : Function.Injective kcell := by
  rintro ⟨c, k⟩ ⟨c', k'⟩ h
  have h1 : c = c' := by have := congrArg (fun g : GSem nD τ sig => g.1.1) h; exact this
  have h2 : k = k' := sl_injective (congrArg Prod.snd h)
  subst h1; subst h2; rfl

/-- The units of a sixty-four-row and of a sixteen-row transfer, and of a copy into the result. -/
abbrev N64 : Nat := (View.whole cc0_scratch2).dmaCredit
abbrev N16 : Nat := (View.whole cc0_scratch10).dmaCredit
abbrev M64 : Nat := sig.dmaCredit .tc (Kind.table .tc .hbm) oM.view.buf S64x1024 .f32
abbrev M16 : Nat := sig.dmaCredit .tc (Kind.table .tc .hbm) oM.view.buf S16x1024 .f32

/-- The units of slot `k`. -/
def amtS (k : Fin 8) : Nat :=
  match k with
  | 0 => N64
  | 7 => N64
  | _ => N16
/-- The units of copy `k`. -/
def amtC (k : Fin 5) : Nat :=
  match k with
  | 4 => M64
  | _ => M16
/-- The units a cell counts. -/
def amt : Kc → Nat
  | .inl _ => 1
  | .inr (.inl x) => amtS x.2
  | .inr (.inr (.inl x)) => amtS x.2
  | .inr (.inr (.inr x)) => amtC x.2

theorem amtS_pos (k : Fin 8) : 0 < amtS k := by
  unfold amtS; split
  · exact View.dmaCredit_pos _ (by decide)
  · exact View.dmaCredit_pos _ (by decide)
  · exact View.dmaCredit_pos _ (by decide)
theorem amtC_pos (k : Fin 5) : 0 < amtC k := by
  unfold amtC; split
  · exact sig.dmaCredit_pos _ _ _ S64x1024 .f32 (by decide)
  · exact sig.dmaCredit_pos _ _ _ S16x1024 .f32 (by decide)
theorem amt_pos (k : Kc) : 0 < amt k := by
  rcases k with _ | ⟨c, k⟩ | ⟨c, k⟩ | ⟨c, k⟩
  · exact Nat.one_pos
  · exact amtS_pos k
  · exact amtS_pos k
  · exact amtC_pos k

/-! ## What the cells hand over -/

/-- The landing buffer of chunk `c`, slot `k`, on device `d`. -/
def land (d : Dev nD) (x : Fin 8 × Fin 4) : sProp 𝕄 :=
  match x.2 with
  | 0 => anyB (r0M x.1) d
  | 1 => anyB (r1M x.1 0) d
  | 2 => anyB (r1M x.1 1) d
  | 3 => anyB (r1M x.1 2) d
/-- A slot below four, among all eight. -/
abbrev up (k : Fin 4) : Fin 8 := ⟨k.val, by omega⟩

/-- A barrier signal across mask `j` hands over the landing buffers that mask's transfers fill. -/
def payB (d : Dev nD) (j : Fin 6) : sProp 𝕄 :=
  bigSep Finset.univ fun x : Fin 8 × Fin 4 => if px x.1 (up x.2) = j then land (F := F) (peer j d) x else iprop(emp)
/-- The rows a send has read, at the share it held. -/
def payS (d : Dev nD) (c k : Fin 8) : sProp 𝕄 :=
  match k with
  | 4 => wB d (rows (mineLo c d) 16) (qτ 0) (FB m)
  | 5 => wB d (rows (mineLo c d) 16) (qτ 1) (FB m)
  | 6 => wB d (rows (mineLo c d) 16) (qτ 2) (FB m)
  | 7 => wB d (rows (keepLo c d) 64) qσ (FB m)
  | _ => iprop(emp)
/-- What landed in the second round's buffer `j`, with the rows it came from. -/
def payR1 (d : Dev nD) (c : Fin 8) (j : Fin 3) : sProp 𝕄 :=
  iprop(holds (r1M c j) d (rd S16x1024.size (tMine c d) (tMine_inb c d) (W1 m c (P c (k1 j) d)))
    ∗ wB (P c (k1 j) d) (rows (mineLo c d) 16) fullShare (W1 m c (P c (k1 j) d)))
/-- What landed. -/
def payR (d : Dev nD) (c k : Fin 8) : sProp 𝕄 :=
  match k with
  | 0 => iprop(holds (r0M c) d (rd S64x1024.size (tKeep c d) (tKeep_inb c d) (W0 m (P c 0 d)))
      ∗ wB (P c 0 d) (rows (keepLo c d) 64) fullShare (W0 m (P c 0 d)))
  | 1 => payR1 m d c 0
  | 2 => payR1 m d c 1
  | 3 => payR1 m d c 2
  | 4 => wB d (rows (subLo c 0 d) 16) fullShare (FB m)
  | 5 => wB d (rows (subLo c 1 d) 16) fullShare (FB m)
  | 6 => wB d (rows (subLo c 2 d) 16) fullShare (FB m)
  | 7 => wB d (rows (sendLo c d) 64) fullShare (FB m)
/-- The rows copy `k` writes. -/
def cpRows (c : Fin 8) (k : Fin 5) (d : Dev nD) : Finset S1024x1024.Idx :=
  match k with
  | 0 => rows (mineLo c d) 16
  | 1 => rows (subLo c 0 d) 16
  | 2 => rows (subLo c 1 d) 16
  | 3 => rows (subLo c 2 d) 16
  | 4 => rows (sendLo c d) 64
/-- What a copy hands over: its rows of the result and of the staging buffer. -/
def payC (d : Dev nD) (c : Fin 8) (k : Fin 5) : sProp 𝕄 :=
  iprop(oB d (cpRows c k d) (OUT m) ∗ fB d (cpRows c k d) (OUT m))

/-- What cell `k`'s duty `j` hands over. -/
def pay (d : Dev nD) : Kc → Fin 6 → sProp 𝕄
  | .inl _, j => payB d j
  | .inr (.inl x), _ => payS m d x.1 x.2
  | .inr (.inr (.inl x)), _ => payR m d x.1 x.2
  | .inr (.inr (.inr x)), _ => payC m d x.1 x.2
/-- A cell's duties. -/
def dut : Kc → Finset (Fin 6)
  | .inl _ => Finset.univ
  | .inr _ => {0}

instance holds_storable {s : Shape} (b : Memref sig .tc .vmem s .bf16) (d : Dev nD) (v : s.Idx → Elt F .bf16) :
    BI.Storable (upEmb : UEmb _ 𝕄) (holds (F := F) b d v) := by unfold holds; infer_instance
instance anyB_storable {s : Shape} (b : Memref sig .tc .vmem s .bf16) (d : Dev nD) :
    BI.Storable (upEmb : UEmb _ 𝕄) (anyB (F := F) b d) := by unfold anyB; infer_instance
instance land_storable (d : Dev nD) (x : Fin 8 × Fin 4) : BI.Storable (upEmb : UEmb _ 𝕄) (land (F := F) d x) := by
  unfold land; split <;> infer_instance
instance payB_storable (d : Dev nD) (j : Fin 6) : BI.Storable (upEmb : UEmb _ 𝕄) (payB (F := F) d j) := by
  unfold payB
  have (x : Fin 8 × Fin 4) : BI.Storable (upEmb : UEmb _ 𝕄) (if px x.1 (up x.2) = j then land (F := F) (peer j d) x else iprop(emp)) := by
    split <;> infer_instance
  infer_instance
instance pay_storable (d : Dev nD) (k : Kc) (j : Fin 6) : BI.Storable (upEmb : UEmb _ 𝕄) (pay m d k j) := by
  rcases k with _ | ⟨c, k⟩ | ⟨c, k⟩ | ⟨c, k⟩
  · exact payB_storable d j
  · show BI.Storable upEmb (payS m d c k); unfold payS; split <;> infer_instance
  · show BI.Storable upEmb (payR m d c k); unfold payR payR1; split <;> infer_instance
  · show BI.Storable upEmb (payC m d c k); unfold payC; infer_instance

/-- The schedule: every cell has one round. -/
def Rd : Rounds.Schedule (GSem nD τ sig) (Fin 6) 𝕄 where
  duties g r := if r = 0 then Function.extend kcell (fun x => dut x.2) (fun _ => ∅) g else ∅
  amount g _ _ := Function.extend kcell (fun x => amt x.2) (fun _ => 1) g
  payload g _ j := Function.extend kcell (fun x => pay m x.1 x.2 j) (fun _ => iprop(emp)) g
  amount_pos g _ _ _ := by
    by_cases h : ∃ x, kcell x = g
    · obtain ⟨x, rfl⟩ := h; rw [kcell_injective.extend_apply]; exact amt_pos _
    · rw [Function.extend_apply' _ _ _ h]; exact Nat.one_pos

instance Rd_storable (g : GSem nD τ sig) (r : ℕ) (j : Fin 6) : BI.Storable (upEmb : UEmb _ 𝕄) ((Rd (F := F) m).payload g r j) := by
  show BI.Storable upEmb (Function.extend kcell (fun x => pay m x.1 x.2 j) (fun _ => iprop(emp)) g)
  by_cases h : ∃ x, kcell x = g
  · obtain ⟨x, rfl⟩ := h; rw [kcell_injective.extend_apply]; infer_instance
  · rw [Function.extend_apply' _ _ _ h]; infer_instance

theorem Rd_duties (d : Dev nD) (k : Kc) : (Rd (F := F) m).duties ((d : Thread nD τ), sl k) 0 = dut k := by
  show (if (0 : ℕ) = 0 then Function.extend kcell (fun x => dut x.2) (fun _ => ∅) (kcell (d, k)) else ∅) = dut k
  rw [if_pos rfl, kcell_injective.extend_apply]
theorem Rd_later (g : GSem nD τ sig) : ∀ r, 1 ≤ r → (Rd (F := F) m).duties g r = ∅ :=
  fun r hr => if_neg (by omega)
theorem Rd_amount (d : Dev nD) (k : Kc) (r : ℕ) (j : Fin 6) : (Rd (F := F) m).amount ((d : Thread nD τ), sl k) r j = amt k :=
  kcell_injective.extend_apply (fun x => amt x.2) (fun _ => 1) (d, k)
theorem Rd_payload (d : Dev nD) (k : Kc) (r : ℕ) (j : Fin 6) : (Rd (F := F) m).payload ((d : Thread nD τ), sl k) r j = pay m d k j :=
  kcell_injective.extend_apply (fun x => pay m x.1 x.2 j) (fun _ => iprop(emp)) (d, k)
theorem Rd_expect (d : Dev nD) (k : Kc) : (Rd (F := F) m).expect ((d : Thread nD τ), sl k) 0 = (dut k).card * amt k := by
  unfold Schedule.expect Schedule.amountOf
  rw [Rd_duties, Finset.sum_congr rfl fun j _ => Rd_amount m d k 0 j, Finset.sum_const, smul_eq_mul]

/-! ## The order of the waits -/

/-- A cell's level: later transfers are higher. -/
def lvl : Kc → ℕ
  | .inl _ => 1
  | .inr (.inl _) => 0
  | .inr (.inr (.inl x)) =>
    match x.2 with
    | 0 => 2
    | 1 => 3
    | 2 => 3
    | 3 => 3
    | 7 => 5
    | _ => 4
  | .inr (.inr (.inr _)) => 0

/-- A transfer or signal a device owes: across a mask, or a chunk's slot. -/
abbrev Sl : Type := Fin 6 ⊕ (Fin 8 × Fin 8)
/-- Who it goes to. -/
def tgt : Sl → Dev nD → Dev nD
  | .inl j => peer j
  | .inr x => P x.1 x.2
theorem tgt_tgt (x : Sl) (d : Dev nD) : tgt x (tgt x d) = d := by rcases x with j | x <;> exact peer_peer _ _
/-- The cell it raises there. -/
def kd : Sl → Kc
  | .inl _ => kB
  | .inr x => kR x.1 x.2

/-- What a device owes, by the transfers still to come. -/
def owed (d : Dev nD) : List Sl → CellTallies nD τ sig Unit
  | [] => 0
  | x :: l => owed d l + tallyAt ((tgt x d : Thread nD τ), sl (kd x)) () (amt (kd x))

/-- Chunk `c`'s transfers of one phase. -/
def its (φ : Nat) (c : Fin 8) : List Sl :=
  match φ with
  | 0 => [.inr (c, 0)]
  | 1 => [.inr (c, 1), .inr (c, 2), .inr (c, 3)]
  | 2 => [.inr (c, 4), .inr (c, 5), .inr (c, 6)]
  | 3 => [.inr (c, 7)]
  | _ => []
/-- What is still to come: of phase `φ` the chunks `l`, and every later phase. -/
def rem (φ : Nat) (l : List (Fin 8)) : List Sl :=
  l.flatMap (its φ) ++
    match φ with
    | 0 => eight.flatMap (its 1) ++ (eight.flatMap (its 2) ++ (eight.flatMap (its 3) ++ []))
    | 1 => eight.flatMap (its 2) ++ (eight.flatMap (its 3) ++ [])
    | 2 => eight.flatMap (its 3) ++ []
    | _ => []
/-- The six signals. -/
def sigs : List Sl := [.inl 0, .inl 1, .inl 2, .inl 3, .inl 4, .inl 5]

theorem rem_cons (φ : Nat) (c : Fin 8) (l : List (Fin 8)) : rem φ (c :: l) = its φ c ++ rem φ l := by
  unfold rem; rw [List.flatMap_cons, List.append_assoc]
theorem rem_nil0 : rem 0 [] = rem 1 eight := rfl
theorem rem_nil1 : rem 1 [] = rem 2 eight := rfl
theorem rem_nil2 : rem 2 [] = rem 3 eight := rfl
theorem rem_nil3 : rem 3 [] = [] := rfl

theorem its_lvl (φ : Nat) (c : Fin 8) : ∀ x ∈ its φ c, φ + 2 ≤ lvl (kd x) := by
  intro x h
  unfold its at h
  split at h <;> simp only [List.mem_cons, List.not_mem_nil, or_false] at h
  · subst h; exact Nat.le_refl _
  · rcases h with rfl | rfl | rfl <;> exact Nat.le_refl _
  · rcases h with rfl | rfl | rfl <;> exact Nat.le_refl _
  · subst h; exact Nat.le_refl _
theorem flat_lvl (φ : Nat) (l : List (Fin 8)) : ∀ x ∈ l.flatMap (its φ), φ + 2 ≤ lvl (kd x) := by
  intro x h
  obtain ⟨c, _, hc⟩ := List.mem_flatMap.mp h
  exact its_lvl φ c x hc
theorem rem_lvl (φ : Nat) (l : List (Fin 8)) : ∀ x ∈ rem φ l, φ + 2 ≤ lvl (kd x) := by
  intro x h
  unfold rem at h
  rcases List.mem_append.mp h with h | h
  · exact flat_lvl φ l x h
  · split at h
    · simp only [List.mem_append, List.not_mem_nil, or_false] at h
      rcases h with h | h | h <;> exact le_trans (by omega) (flat_lvl _ _ x h)
    · simp only [List.mem_append, List.not_mem_nil, or_false] at h
      rcases h with h | h <;> exact le_trans (by omega) (flat_lvl _ _ x h)
    · simp only [List.mem_append, List.not_mem_nil, or_false] at h
      exact le_trans (by omega) (flat_lvl _ _ x h)
    · cases h

/-- The indices of the waits' order: one on each TensorCore cell. -/
def L (g : GSem nD τ sig) : Finset Unit := if g.1.2 = .tc then {()} else ∅
/-- The waits' order. -/
def lv (g : GSem nD τ sig) (_ : Unit) : ℕ := Function.extend kcell (fun x => lvl x.2) (fun _ => 0) g
theorem lv_at (d : Dev nD) (k : Kc) (u : Unit) : lv ((d : Thread nD τ), sl k) u = lvl k :=
  kcell_injective.extend_apply (fun x => lvl x.2) (fun _ => 0) (d, k)
theorem mem_L (d : Dev nD) (s : SemLoc sig) (u : Unit) : u ∈ L ((d : Thread nD τ), s) := by
  unfold L; rw [if_pos rfl]; exact Finset.mem_singleton_self _
theorem L_of_ne (g : GSem nD τ sig) (h : g.1.2 ≠ .tc) : L g = ∅ := if_neg h

theorem owed_pos (d : Dev nD) (l : List Sl) (g : GSem nD τ sig) (u : Unit) (h : 0 < owed d l g u) :
    ∃ x ∈ l, g = ((tgt x d : Thread nD τ), sl (kd x)) := by
  induction l with
  | nil => exact absurd h (by show ¬ 0 < (0 : ℕ); omega)
  | cons x l ih =>
    by_cases hx : g = ((tgt x d : Thread nD τ), sl (kd x))
    · exact ⟨x, List.mem_cons_self, hx⟩
    · have : owed d (x :: l) g u = owed d l g u := by
        show ((owed d l + tallyAt ((tgt x d : Thread nD τ), sl (kd x)) () (amt (kd x)) : CellTallies nD τ sig Unit) g) u = _
        rw [Pi.add_apply, Finsupp.add_apply, tallyAt_ne_cell hx, Finsupp.zero_apply, Nat.add_zero]
      rw [this] at h
      obtain ⟨y, hy, e⟩ := ih h
      exact ⟨y, List.mem_cons_of_mem _ hy, e⟩

/-- A device may wait on a cell lower than everything it still owes. -/
theorem mayWait_of (d : Dev nD) (s : SemLoc sig) (b : ℕ) (hb : lv ((d : Thread nD τ), s) () ≤ b) (l : List Sl) (h : ∀ x ∈ l, b < lvl (kd x)) :
    (levAts L lv : sProp 𝕄) ⊢ MayWait (d : Thread nD τ) s () (owed d l) :=
  Pipeline.mayWait_of_levAts (mem_L d s ()) fun g i hg => by
    obtain ⟨x, hx, e⟩ := owed_pos d l g i hg
    subst e
    exact ⟨mem_L _ _ _, by rw [lv_at]; exact lt_of_le_of_lt hb (h x hx)⟩

end Cert.KernelIdeal.Pf

end
-- ==== Proof.KernelIdeal.Ops.lean ====
/- Each operation of the body as one step: what it takes and what it gives. -/
module

public import proofs.«01_k».proof.Proof.KernelIdeal.Inv

@[expose] public section

noncomputable section

namespace Cert.KernelIdeal.Pf

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Kc → ℕ)

/-- No loop or recursion, so no variant. -/
abbrev 𝒱₀ : Variants := Variants.none

/-- What a device's program comes to. -/
abbrev wpd (d : Dev nD) (k : Pr F) (Q : PUnit → sProp 𝕄) : sProp 𝕄 :=
  wp frame (wpE (defs₀ (F := F)) 𝒱₀ (d : Thread nD τ) none) Set.univ k Q

theorem bigSep_elim_c {I : Type} {s : Finset I} {i : I} (hi : i ∈ s) {Φ : I → sProp 𝕄} : bigSep s Φ ⊢ Φ i := by
  classical exact bigSep_elim hi

/-- What every step may use again and again: the cells' invariants, their first rounds, the waits' order. -/
def Rec : sProp 𝕄 :=
  iprop((bigSep Finset.univ fun x : Dev nD × Kc => cellInv ER (Rd (F := F) m) (K x) (kcell x))
    ∗ (bigSep Finset.univ fun x : Dev nD × Kc => reached ER (kcell x) 0) ∗ levAts L lv)
instance Rec_persistent : BI.Persistent (Rec (F := F) m K) := by unfold Rec; infer_instance

theorem Rec_inv (d : Dev nD) (k : Kc) : Rec (F := F) m K ⊢ cellInv ER (Rd (F := F) m) (K (d, k)) ((d : Thread nD τ), sl k) := by
  unfold Rec
  iintro ⟨H, -, -⟩
  iapply (show _ ⊢ cellInv ER (Rd (F := F) m) (K (d, k)) ((d : Thread nD τ), sl k) from bigSep_elim_c (Finset.mem_univ (d, k))) $$ H
theorem Rec_reached (d : Dev nD) (k : Kc) : Rec (F := F) m K ⊢ (reached ER ((d : Thread nD τ), sl k) 0 : sProp 𝕄) := by
  unfold Rec
  iintro ⟨-, H, -⟩
  iapply (show _ ⊢ (reached ER ((d : Thread nD τ), sl k) 0 : sProp 𝕄) from bigSep_elim_c (Finset.mem_univ (d, k))) $$ H
theorem Rec_lev : Rec (F := F) m K ⊢ (levAts L lv : sProp 𝕄) := by
  unfold Rec; iintro ⟨-, -, H⟩; iexact H

/-- What a device owes, the transfers `l` still to come. -/
def Ow (d : Dev nD) (l : List Sl) : sProp 𝕄 := iprop(∃ W, owes (d : Thread nD τ) (owed d l) W)
/-- The token of a cell's duty. -/
abbrev tok (d : Dev nD) (k : Kc) (j : Fin 6) : sProp 𝕄 := dutyTok ER ((d : Thread nD τ), sl k) 0 j
/-- Credit for all a DMA cell counts. -/
abbrev crd (d : Dev nD) (k : Kc) : sProp 𝕄 := cred (tallyAt ((d : Thread nD τ), sl k) () (amt k))
/-- The cell's owner, before any wait. -/
abbrev pos (d : Dev nD) (k : Kc) : sProp 𝕄 := atPos ER ((d : Thread nD τ), sl k) 0 ∅ 0
/-- The cell's counter, at zero for good. -/
abbrev zro (d : Dev nD) (k : Kc) : sProp 𝕄 := semVal ((d : Thread nD τ), sl k) 0

/-- Waiting for all of a cell's round: its payloads come, and the cell is closed. -/
theorem wp_wait_cell (d : Dev nD) (kc : Kc) (l : List Sl) (hl : ∀ x ∈ l, lvl kc < lvl (kd x))
    {w : TpuEff nD τ sig (Elt F) Λ₀ .tc PUnit} {n : ℕ}
    (hw : ∀ Q : PUnit → sProp 𝕄, wpE (defs₀ (F := F)) 𝒱₀ (d : Thread nD τ) none Set.univ w Q = waitSpec (d : Thread nD τ) Set.univ (sl kc) n Q)
    (hn : n = (dut kc).card * amt kc) (k : PUnit → Pr F) (Q : PUnit → sProp 𝕄) :
    iprop(Rec m K ∗ cred (tallyAt ((d : Thread nD τ), sl kc) () n) ∗ Ow d l ∗ pos d kc)
      ⊢ iprop(((Ow d l ∗ zro d kc ∗ bigSep (dut kc) fun j => pay m d kc j) -∗ wpd d (k ⟨⟩) Q) -∗ wpd d (.op w k) Q) := by
  unfold Ow
  iintro ⟨#HR, Hc, ⟨%W, HO⟩, Hp⟩
  iintro Hk
  iapply (Rounds.wp_wait_rest_token 𝒱₀ ER (Rd m) (d : Thread nD τ) none (κ := K (d, kc)) hw (Set.mem_univ _) () (O := owed d l) (W := W) (R := 0) (m := 0) (T := ∅)
      (by rw [Rd_expect, Nat.zero_add, hn])) $$ [Hc HO Hp]
  · isplitr; · iapply (Rec_inv m K d kc); iexact HR
    isplitl [Hc]; · iexact Hc
    isplitl [HO]; · iexact HO
    isplitr
    · iapply (mayWait_of d (sl kc) (lvl kc) (le_of_eq (lv_at d kc ())) l hl); iapply (Rec_lev m K); iexact HR
    iexact Hp
  iintro ⟨HO, Hat, -, Hpay⟩
  imod (Rounds.cell_close ER (Rd m) (Set.mem_univ (K (d, kc))) (fun h => h) (R := 0 + 1) (Rd_later m ((d : Thread nD τ), sl kc))) $$ [Hat] with Hz
  · isplitr; · iapply (Rec_inv m K d kc); iexact HR
    iexact Hat
  iapply Hk
  isplitl [HO]; · iexists _; iexact HO
  isplitl [Hz]; · iexact Hz
  iapply (Entails.of_eq (show _ = (bigSep (dut kc) fun j => pay m d kc j) by
    rw [Finset.sdiff_empty, Rd_duties, bigSep_congr fun j _ => Rd_payload m d kc 0 j])) $$ Hpay

theorem pay_one (d : Dev nD) (x : (Fin 8 × Fin 8) ⊕ ((Fin 8 × Fin 8) ⊕ (Fin 8 × Fin 5))) :
    (bigSep (dut (.inr x)) fun j => pay (F := F) m d (.inr x) j) = pay m d (.inr x) 0 := bigSep_singleton

/-- The same at a cell with one duty. -/
theorem wp_wait_dma (d : Dev nD) (x : (Fin 8 × Fin 8) ⊕ ((Fin 8 × Fin 8) ⊕ (Fin 8 × Fin 5))) (l : List Sl) (hl : ∀ y ∈ l, lvl (.inr x) < lvl (kd y))
    {w : TpuEff nD τ sig (Elt F) Λ₀ .tc PUnit} {n : ℕ}
    (hw : ∀ Q : PUnit → sProp 𝕄, wpE (defs₀ (F := F)) 𝒱₀ (d : Thread nD τ) none Set.univ w Q = waitSpec (d : Thread nD τ) Set.univ (sl (.inr x)) n Q)
    (hn : n = amt (.inr x)) (k : PUnit → Pr F) (Q : PUnit → sProp 𝕄) :
    iprop(Rec m K ∗ crd d (.inr x) ∗ Ow d l ∗ pos d (.inr x))
      ⊢ iprop(((Ow d l ∗ zro d (.inr x) ∗ pay m d (.inr x) 0) -∗ wpd d (k ⟨⟩) Q) -∗ wpd d (.op w k) Q) := by
  have h := wp_wait_cell m K d (.inr x) l hl hw (by rw [hn]; exact (Nat.one_mul _).symm) k Q
  rw [pay_one, hn] at h
  exact h

theorem r0M_amt (c : Fin 8) : (r0M c).view.dmaCredit = N64 := by
  match c with | 0 | 1 | 2 | 3 | 4 | 5 | 6 | 7 => rfl
theorem r1M_amt (c : Fin 8) (j : Fin 3) : (r1M c j).view.dmaCredit = N16 := by
  match c with
  | 0 | 1 | 2 | 3 | 4 | 5 | 6 | 7 => match j with | 0 | 1 | 2 => rfl

/-- Waiting for a landing in a landing buffer. -/
theorem wp_waitBuf (d : Dev nD) (l : List Sl) (c k : Fin 8) (hl : ∀ y ∈ l, lvl (kR c k) < lvl (kd y))
    (z o : Fin 2 → Nat) (hi : Ib z o) (hw : Wd z o hi) (b : Memref sig .tc .vmem ⟨2, z⟩ .bf16) (hb : b.IsWhole)
    (hn : b.view.dmaCredit = amtS k) (p : Pr F) (Q : PUnit → sProp 𝕄) :
    iprop(Rec m K ∗ crd d (kR c k) ∗ Ow d l ∗ pos d (kR c k))
      ⊢ iprop(((Ow d l ∗ zro d (kR c k) ∗ payR m d c k) -∗ wpd d p Q) -∗ wpd d (waitBuf z o hi hw b hb (rS c k) p) Q) :=
  wp_wait_dma m K d (.inr (.inl (c, k))) l hl (wpE_waitDma2_eq 𝒱₀ (d : Thread nD τ) none Set.univ) hn (fun _ => p) Q
/-- Waiting for a landing in the working copy. -/
theorem wp_waitRows (d : Dev nD) (l : List Sl) (c k : Fin 8) (hl : ∀ y ∈ l, lvl (kR c k) < lvl (kd y))
    (z o : Fin 2 → Nat) (hi : Ib z o) (hw : Wd z o hi) (hn : (wR z o hi).view.dmaCredit = amtS k) (p : Pr F) (Q : PUnit → sProp 𝕄) :
    iprop(Rec m K ∗ crd d (kR c k) ∗ Ow d l ∗ pos d (kR c k))
      ⊢ iprop(((Ow d l ∗ zro d (kR c k) ∗ payR m d c k) -∗ wpd d p Q) -∗ wpd d (waitRows z o hi hw (rS c k) p) Q) :=
  wp_wait_dma m K d (.inr (.inl (c, k))) l hl (wpE_waitDma2_eq 𝒱₀ (d : Thread nD τ) none Set.univ) hn (fun _ => p) Q
/-- Waiting for rows to have been read. -/
theorem wp_waitRowsS (d : Dev nD) (c k : Fin 8)
    (z o : Fin 2 → Nat) (hi : Ib z o) (hw : Wd z o hi) (hn : (wR z o hi).view.dmaCredit = amtS k) (p : Pr F) (Q : PUnit → sProp 𝕄) :
    iprop(Rec m K ∗ crd d (kS c k) ∗ Ow d [] ∗ pos d (kS c k))
      ⊢ iprop(((Ow d [] ∗ zro d (kS c k) ∗ payS m d c k) -∗ wpd d p Q) -∗ wpd d (waitRows z o hi hw (sS c k) p) Q) :=
  wp_wait_dma m K d (.inl (c, k)) [] (fun _ h => by cases h) (wpE_waitDma2_eq 𝒱₀ (d : Thread nD τ) none Set.univ) hn (fun _ => p) Q
/-- Waiting for rows to have been read towards a landing buffer. -/
theorem wp_waitSent (d : Dev nD) (c k : Fin 8)
    (z o : Fin 2 → Nat) (hi : Ib z o) (hw : Wd z o hi) (b : Memref sig .tc .vmem ⟨2, z⟩ .bf16) (hb : b.IsWhole)
    (hn : (wR z o hi).view.dmaCredit = amtS k) (p : Pr F) (Q : PUnit → sProp 𝕄) :
    iprop(Rec m K ∗ crd d (kS c k) ∗ Ow d [] ∗ pos d (kS c k))
      ⊢ iprop(((Ow d [] ∗ zro d (kS c k) ∗ payS m d c k) -∗ wpd d p Q) -∗ wpd d (waitSent z o hi hw b hb (sS c k) p) Q) :=
  wp_wait_dma m K d (.inl (c, k)) [] (fun _ h => by cases h) (wpE_waitDma2_eq 𝒱₀ (d : Thread nD τ) none Set.univ) hn (fun _ => p) Q
/-- Waiting for a copy into the result. -/
theorem wp_waitCopy (d : Dev nD) (c : Fin 8) (k : Fin 5)
    (z o : Fin 2 → Nat) (hi : Ib z o) (hn : (oR z o hi).view.dmaCredit = amtC k) (p : Pr F) (Q : PUnit → sProp 𝕄) :
    iprop(Rec m K ∗ crd d (kC c k) ∗ Ow d [] ∗ pos d (kC c k))
      ⊢ iprop(((Ow d [] ∗ zro d (kC c k) ∗ payC m d c k) -∗ wpd d p Q) -∗ wpd d (waitCopy z o hi (cS c k) p) Q) :=
  wp_wait_dma m K d (.inr (.inr (c, k))) [] (fun _ h => by cases h) (wpE_waitDma2_eq 𝒱₀ (d : Thread nD τ) none Set.univ) hn (fun _ => p) Q

/-! ## Sends and copies -/

/-- A send into a landing buffer: the rows go with the landing. -/
theorem wp_sendTo (d : Dev nD) (l : List Sl) (c k : Fin 8) {n lo : Nat} (o : Fin 2 → Nat) (ho : o = ![lo, 0]) (hi : Ib ![n, 1024] o) (hw : Wd ![n, 1024] o hi)
    (n' : Dev nD) (hn' : n' = P c k d) (b : Memref sig .tc .vmem ⟨2, ![n, 1024]⟩ .bf16) (hb : b.IsWhole) (hN : b.view.dmaCredit = amtS k)
    (G : S1024x1024.Idx → Elt F .bf16) (hS : (iprop(emp) : sProp 𝕄) ⊢ payS m d c k)
    (hR : iprop(holds b (P c k d) (rd ![n, 1024] o hi G) ∗ wB d (rows lo n) fullShare G) ⊢ payR m (P c k d) c k) (p : Pr F) (Q : PUnit → sProp 𝕄) :
    iprop(Rec m K ∗ wB d (rows lo n) fullShare G ∗ anyB b (P c k d) ∗ Ow d (.inr (c, k) :: l) ∗ tok d (kS c k) 0 ∗ tok (P c k d) (kR c k) 0)
      ⊢ iprop(((crd (F := F) d (kS c k) ∗ Ow d l) -∗ wpd d p Q) -∗ wpd d (sendTo ![n, 1024] o hi hw n' b hb (sS c k) (rS c k) p) Q) := by
  subst hn'
  unfold Ow anyB
  iintro ⟨#HR, Hs, ⟨%f, Hd⟩, ⟨%W, HO⟩, Ht1, Ht2⟩
  iintro Hk
  have hset : (wR ![n, 1024] o hi).view.set = rows lo n := (View.set_slice_whole _ _).trans (rc_set ho hi)
  have hsrc : (((wR ![n, 1024] o hi).view.loc (d : Thread nD τ) ↦[(wR ![n, 1024] o hi).view.set]{fullShare} G : sProp 𝕄)) = wB d (rows lo n) fullShare G := by
    rw [hset]
  unfold sendTo
  iapply (Rounds.wp_send_landing_pointsTo 𝒱₀ ER (Rd m) (d : Thread nD τ) none (c' := (P c k d : Thread nD τ)) (κ₁ := K (d, kS c k)) (κ₂ := K (P c k d, kR c k))
      (src := wR ![n, 1024] o hi) (dst := b) (sS := sl (kS c k)) (sem := sl (kR c k)) (q := fullShare) (fs := G) (fd := f)
      (r₁ := 0) (r₂ := 0) (d₁ := (0 : Fin 6)) (d₂ := (0 : Fin 6))
      (by rw [Rd_duties]; exact Finset.mem_singleton_self _) (by rw [Rd_duties]; exact Finset.mem_singleton_self _)
      () () (amtS k) hN (Rd_amount m d (kS c k) 0 0) (Rd_amount m (P c k d) (kR c k) 0 0) (owed d l) rfl (W := W)
      (by rw [Rd_payload]; exact hS)
      (by
        rw [Rd_payload, hsrc]
        refine Entails.trans (sep_mono_left ?_) hR
        unfold holds
        iintro H
        iexists (b.view.write (Elt F) f ((wR ![n, 1024] o hi).view.read (Elt F) G) Finset.univ)
        isplitr
        · ipureintro; exact View.read_write_univ (v := b.view) _ _
        iexact H)) $$ [Hs Hd HO Ht1 Ht2]
  · isplitr; · iapply (Rec_inv m K d (kS c k)); iexact HR
    isplitr; · iapply (Rec_inv m K (P c k d) (kR c k)); iexact HR
    isplitl [Hs]; · rw [hsrc]; iexact Hs
    isplitl [Hd]; · iexact Hd
    isplitl [HO]; · iexact HO
    isplitl [Ht1]; · iexact Ht1
    isplitr; · iapply (Rec_reached m K d (kS c k)); iexact HR
    isplitl [Ht2]; · iexact Ht2
    iapply (Rec_reached m K (P c k d) (kR c k)); iexact HR
  iintro ⟨Hc, HO⟩
  iapply Hk
  isplitl [Hc]; · iexact Hc
  iexists _; iexact HO

/-- Writing what `G` reads through a view leaves `G` there. -/
theorem write_read_pts {ℓ : Loc nD τ sig} {sp : Space} {s : Shape} {e : EltTy} (v : View sig .tc sp s e) (d : Dev nD) (f G : v.ty.Contents (Elt F)) :
    ((v.loc (d : Thread nD τ) ↦[v.set]{fullShare} (v.write (Elt F) f (v.read (Elt F) G) Finset.univ) : sProp 𝕄)) = (v.loc (d : Thread nD τ) ↦[v.set]{fullShare} G) := by
  refine pointsTo_congr fun i hi => ?_
  rw [View.write_read_eq_piecewise, View.setOn_univ, Finset.piecewise_eq_of_mem _ _ _ hi]

/-- A send of finished rows into the same rows of another device's working copy. -/
theorem wp_sendRows (d : Dev nD) (l : List Sl) (c k : Fin 8) {n lo : Nat} (o : Fin 2 → Nat) (ho : o = ![lo, 0]) (hi : Ib ![n, 1024] o) (hw : Wd ![n, 1024] o hi)
    (n' : Dev nD) (hn' : n' = P c k d) (hN : (wR ![n, 1024] o hi).view.dmaCredit = amtS k) (q : PosShare TreeShare)
    (G G' : S1024x1024.Idx → Elt F .bf16) (hS : wB d (rows lo n) q G ⊢ payS m d c k)
    (hR : wB (P c k d) (rows lo n) fullShare G ⊢ payR m (P c k d) c k) (p : Pr F) (Q : PUnit → sProp 𝕄) :
    iprop(Rec m K ∗ wB d (rows lo n) q G ∗ wB (P c k d) (rows lo n) fullShare G' ∗ Ow d (.inr (c, k) :: l) ∗ tok d (kS c k) 0 ∗ tok (P c k d) (kR c k) 0)
      ⊢ iprop(((crd (F := F) d (kS c k) ∗ Ow d l) -∗ wpd d p Q) -∗ wpd d (sendRows ![n, 1024] o hi hw n' (sS c k) (rS c k) p) Q) := by
  subst hn'
  unfold Ow
  iintro ⟨#HR, Hs, Hd, ⟨%W, HO⟩, Ht1, Ht2⟩
  iintro Hk
  have hset : (wR ![n, 1024] o hi).view.set = rows lo n := (View.set_slice_whole _ _).trans (rc_set ho hi)
  have hpt (e : Dev nD) (q : PosShare TreeShare) (H : S1024x1024.Idx → Elt F .bf16) :
      (((wR ![n, 1024] o hi).view.loc (e : Thread nD τ) ↦[(wR ![n, 1024] o hi).view.set]{q} H : sProp 𝕄)) = wB e (rows lo n) q H := by
    rw [hset]
  unfold sendRows
  iapply (Rounds.wp_send_pointsTo 𝒱₀ ER (Rd m) (d : Thread nD τ) none (c' := (P c k d : Thread nD τ)) (κ₁ := K (d, kS c k)) (κ₂ := K (P c k d, kR c k))
      (src := wR ![n, 1024] o hi) (dst := wR ![n, 1024] o hi) (sS := sl (kS c k)) (sem := sl (kR c k)) (q := q) (fs := G) (fd := G')
      (r₁ := 0) (r₂ := 0) (d₁ := (0 : Fin 6)) (d₂ := (0 : Fin 6))
      (by rw [Rd_duties]; exact Finset.mem_singleton_self _) (by rw [Rd_duties]; exact Finset.mem_singleton_self _)
      () () (amtS k) hN (Rd_amount m d (kS c k) 0 0) (Rd_amount m (P c k d) (kR c k) 0 0) (owed d l) rfl (W := W)
      (by rw [Rd_payload, hpt]; exact hS)
      (by
        rw [Rd_payload]
        refine Entails.trans (Entails.of_eq ?_) hR
        refine (write_read_pts (ℓ := ((P c k d : Thread nD τ).loc cc0_scratch0)) (wR ![n, 1024] o hi).view (P c k d) G' G).trans (hpt _ _ _))) $$ [Hs Hd HO Ht1 Ht2]
  · isplitr; · iapply (Rec_inv m K d (kS c k)); iexact HR
    isplitr; · iapply (Rec_inv m K (P c k d) (kR c k)); iexact HR
    isplitl [Hs]; · rw [hpt]; iexact Hs
    isplitl [Hd]; · rw [hpt]; iexact Hd
    isplitl [HO]; · iexact HO
    isplitl [Ht1]; · iexact Ht1
    isplitr; · iapply (Rec_reached m K d (kS c k)); iexact HR
    isplitl [Ht2]; · iexact Ht2
    iapply (Rec_reached m K (P c k d) (kR c k)); iexact HR
  iintro ⟨Hc, HO⟩
  iapply Hk
  isplitl [Hc]; · iexact Hc
  iexists _; iexact HO

/-- A copy of finished rows into the result. -/
theorem wp_copyRows (d : Dev nD) (c : Fin 8) (k : Fin 5) {n lo : Nat} (o : Fin 2 → Nat) (ho : o = ![lo, 0]) (hi : Ib ![n, 1024] o)
    (hN : (oR ![n, 1024] o hi).view.dmaCredit = amtC k) (hk : cpRows c k d = rows lo n) (g : S1024x1024.Idx → Elt F .f32) (p : Pr F) (Q : PUnit → sProp 𝕄) :
    iprop(Rec m K ∗ fB d (rows lo n) (OUT m) ∗ oB d (rows lo n) g ∗ tok d (kC c k) 0)
      ⊢ iprop((crd (F := F) d (kC c k) -∗ wpd d p Q) -∗ wpd d (copyRows ![n, 1024] o hi (cS c k) p) Q) := by
  iintro ⟨#HR, Hs, Hd, Ht⟩
  iintro Hk
  have hset : (fR ![n, 1024] o hi).view.set = rows lo n := (View.set_slice_whole _ _).trans (rc_set ho hi)
  have hset' : (oR ![n, 1024] o hi).view.set = rows lo n := (View.set_slice_whole _ _).trans (rc_set ho hi)
  have hpt (H : S1024x1024.Idx → Elt F .f32) :
      (((fR ![n, 1024] o hi).view.loc (d : Thread nD τ) ↦[(fR ![n, 1024] o hi).view.set]{fullShare} H : sProp 𝕄)) = fB d (rows lo n) H := by
    rw [hset]
  have hpt' (H : S1024x1024.Idx → Elt F .f32) :
      (((oR ![n, 1024] o hi).view.loc (d : Thread nD τ) ↦[(oR ![n, 1024] o hi).view.set]{fullShare} H : sProp 𝕄)) = oB d (rows lo n) H := by
    rw [hset']
  unfold copyRows
  iapply (Rounds.wp_copy_pointsTo 𝒱₀ ER (Rd m) (d : Thread nD τ) none (κ := K (d, kC c k))
      (src := fR ![n, 1024] o hi) (dst := oR ![n, 1024] o hi) (sem := sl (kC c k)) (q := fullShare) (fs := OUT m) (fd := g)
      (r := 0) (d := (0 : Fin 6))
      (by rw [Rd_duties]; exact Finset.mem_singleton_self _)
      () (amtC k) hN (Rd_amount m d (kC c k) 0 0)
      (by
        rw [Rd_payload, hpt]
        show _ ⊢ payC m d c k
        unfold payC
        rw [hk]
        refine sep_mono_left (Entails.of_eq ?_)
        exact (write_read_pts (ℓ := ((d : Thread nD τ).loc main_v1)) (oR ![n, 1024] o hi).view d g (OUT m)).trans (hpt' _))) $$ [Hs Hd Ht]
  · isplitr; · iapply (Rec_inv m K d (kC c k)); iexact HR
    isplitl [Hs]; · rw [hpt]; iexact Hs
    isplitl [Hd]; · rw [hpt']; iexact Hd
    isplitl [Ht]; · iexact Ht
    iapply (Rec_reached m K d (kC c k)); iexact HR
  iintro Hc
  iapply Hk
  iexact Hc

end Cert.KernelIdeal.Pf

end
-- ==== Proof.KernelIdeal.Mem.lean ====
/- The loads and stores of the body, and what its arithmetic leaves. -/
module

public import proofs.«01_k».proof.Proof.KernelIdeal.Ops
public import Idealize.ShloMosaic.Lib.Pipeline.Value

@[expose] public section

noncomputable section

namespace Cert.KernelIdeal.Pf

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What rows of the staging buffer read. -/
abbrev rdf (z o : Fin 2 → Nat) (hi : Ib z o) (G : S1024x1024.Idx → Elt F .f32) : (⟨2, z⟩ : Shape).Idx → Elt F .f32 :=
  (fR z o hi).view.read (Elt F) G

/-! ## Loads -/

theorem w_set {n lo : Nat} {o : Fin 2 → Nat} (ho : o = ![lo, 0]) (hi : Ib ![n, 1024] o) :
    (wM.access (rc ![n, 1024] o hi)).set = rows lo n := (View.set_slice_whole _ _).trans (rc_set ho hi)
theorem f_set {n lo : Nat} {o : Fin 2 → Nat} (ho : o = ![lo, 0]) (hi : Ib ![n, 1024] o) :
    (fM.access (rc ![n, 1024] o hi)).set = rows lo n := (View.set_slice_whole _ _).trans (rc_set ho hi)

/-- Loading rows held of the working copy. -/
theorem wp_loadW (d : Dev nD) {n lo : Nat} (o : Fin 2 → Nat) (ho : o = ![lo, 0]) (hi : Ib ![n, 1024] o) (q : PosShare TreeShare)
    (G : S1024x1024.Idx → Elt F .bf16) {hl : wM.view.LoadsAt (rc ![n, 1024] o hi).toLoadRect} (k : Vec F ⟨2, ![n, 1024]⟩ .bf16 → Pr F) (Q : PUnit → sProp 𝕄) :
    wB d (rows lo n) q G
      ⊢ iprop((wB d (rows lo n) q G -∗ wpd d (k (rd ![n, 1024] o hi G)) Q) -∗ wpd d (.op (.load wM (rc ![n, 1024] o hi).toLoadRect hl) k) Q) :=
  wp_load_rect 𝒱₀ (d : Thread nD τ) none Set.univ (m := wM) (r := rc ![n, 1024] o hi) (Finset.subset_of_eq (w_set ho hi))
/-- Loading rows held of the staging buffer. -/
theorem wp_loadF (d : Dev nD) {n lo : Nat} (o : Fin 2 → Nat) (ho : o = ![lo, 0]) (hi : Ib ![n, 1024] o)
    (G : S1024x1024.Idx → Elt F .f32) {hl : fM.view.LoadsAt (rc ![n, 1024] o hi).toLoadRect} (p : Pr F) (Q : PUnit → sProp 𝕄) :
    fB d (rows lo n) G
      ⊢ iprop((fB d (rows lo n) G -∗ wpd d p Q) -∗ wpd d (.op (.load fM (rc ![n, 1024] o hi).toLoadRect hl) fun _ => p) Q) :=
  wp_load_rect 𝒱₀ (d : Thread nD τ) none Set.univ (m := fM) (r := rc ![n, 1024] o hi) (k := fun _ => p) (Finset.subset_of_eq (f_set ho hi))
/-- Loading a whole landing buffer. -/
theorem wp_loadB (d : Dev nD) {n : Nat} (b : Memref sig .tc .vmem ⟨2, ![n, 1024]⟩ .bf16) (v : (⟨2, ![n, 1024]⟩ : Shape).Idx → Elt F .bf16)
    (hi : ∀ a, (![0, 0] : Fin 2 → Nat) a + (![n, 1024] : Fin 2 → Nat) a ≤ (![n, 1024] : Fin 2 → Nat) a)
    {hl : b.view.LoadsAt (Rect.unit (s := ⟨2, ![n, 1024]⟩) ![0, 0] ![n, 1024] hi).toLoadRect} (k : Vec F ⟨2, ![n, 1024]⟩ .bf16 → Pr F) (Q : PUnit → sProp 𝕄) :
    holds b d v
      ⊢ iprop((holds b d v -∗ wpd d (k v) Q) -∗ wpd d (.op (.load b (Rect.unit (s := ⟨2, ![n, 1024]⟩) ![0, 0] ![n, 1024] hi).toLoadRect hl) k) Q) := by
  unfold holds
  iintro ⟨%f, %hf, H⟩
  iintro Hk
  have hr : (b.access (Rect.unit (s := ⟨2, ![n, 1024]⟩) ![0, 0] ![n, 1024] hi)).read (Elt F) f = v := by
    rw [← hf]
    funext x
    rw [View.read_apply, View.read_apply]
    have hx : (Rect.unit (s := ⟨2, ![n, 1024]⟩) ![0, 0] ![n, 1024] hi).emb x = x := by
      funext a
      apply Fin.ext
      match a with
      | 0 => exact (Nat.zero_add _).trans (Nat.one_mul _)
      | 1 => exact (Nat.zero_add _).trans (Nat.one_mul _)
    exact congrArg (fun y => _root_.cast (congrArg (Elt F) b.view.elt_eq) (f (b.view.emb y))) hx
  iapply (wp_load_rect 𝒱₀ (d : Thread nD τ) none Set.univ (m := b) (r := Rect.unit (s := ⟨2, ![n, 1024]⟩) ![0, 0] ![n, 1024] hi) (S := b.view.set) (q := fullShare) (f := f)
    (View.set_slice_subset _ _)) $$ H
  iintro H
  rw [hr]
  iapply Hk
  iexists f
  isplitr; · ipureintro; exact hf
  iexact H

/-! ## Stores -/

/-- Storing what `G'` reads into rows held of the working copy. -/
theorem wp_storeW (d : Dev nD) {n lo : Nat} (o : Fin 2 → Nat) (ho : o = ![lo, 0]) (hi : Ib ![n, 1024] o) (v : (⟨2, ![n, 1024]⟩ : Shape).Idx → Elt F .bf16)
    (G G' : S1024x1024.Idx → Elt F .bf16) (hv : v = rd ![n, 1024] o hi G') {hx : (wM.access (rc ![n, 1024] o hi)).Stores Finset.univ} {hm} (p : Pr F) (Q : PUnit → sProp 𝕄) :
    wB d (rows lo n) fullShare G
      ⊢ iprop((wB d (rows lo n) fullShare G' -∗ wpd d p Q) -∗ wpd d (.op (.store wM (rc ![n, 1024] o hi) v Finset.univ hx hm) fun _ => p) Q) := by
  subst hv
  have hpt (H : S1024x1024.Idx → Elt F .bf16) :
      (((wM.access (rc ![n, 1024] o hi)).loc (d : Thread nD τ) ↦[(wM.access (rc ![n, 1024] o hi)).set]{fullShare} H : sProp 𝕄)) = wB d (rows lo n) fullShare H := by
    rw [w_set ho hi]
  rw [← hpt, ← hpt, ← write_read_pts (ℓ := ((d : Thread nD τ).loc cc0_scratch0)) (wM.access (rc ![n, 1024] o hi)) d G G']
  exact wp_store 𝒱₀ (d : Thread nD τ) none Set.univ (m := wM) (r := rc ![n, 1024] o hi) (k := fun _ => p) (Finset.Subset.refl _)
/-- Storing what `G'` reads into rows held of the staging buffer. -/
theorem wp_storeF (d : Dev nD) {n lo : Nat} (o : Fin 2 → Nat) (ho : o = ![lo, 0]) (hi : Ib ![n, 1024] o) (v : (⟨2, ![n, 1024]⟩ : Shape).Idx → Elt F .f32)
    (G G' : S1024x1024.Idx → Elt F .f32) (hv : v = rdf ![n, 1024] o hi G') {hx : (fM.access (rc ![n, 1024] o hi)).Stores Finset.univ} {hm} (p : Pr F) (Q : PUnit → sProp 𝕄) :
    fB d (rows lo n) G
      ⊢ iprop((fB d (rows lo n) G' -∗ wpd d p Q) -∗ wpd d (.op (.store fM (rc ![n, 1024] o hi) v Finset.univ hx hm) fun _ => p) Q) := by
  subst hv
  have hpt (H : S1024x1024.Idx → Elt F .f32) :
      (((fM.access (rc ![n, 1024] o hi)).loc (d : Thread nD τ) ↦[(fM.access (rc ![n, 1024] o hi)).set]{fullShare} H : sProp 𝕄)) = fB d (rows lo n) H := by
    rw [f_set ho hi]
  rw [← hpt, ← hpt, ← write_read_pts (ℓ := ((d : Thread nD τ).loc cc0_scratch1)) (fM.access (rc ![n, 1024] o hi)) d G G']
  exact wp_store 𝒱₀ (d : Thread nD τ) none Set.univ (m := fM) (r := rc ![n, 1024] o hi) (k := fun _ => p) (Finset.Subset.refl _)

/-! ## What the arithmetic leaves -/

theorem payAdd_rd (o : Fin 2 → Nat) (hi : Ib S64x1024.size o) (G H : S1024x1024.Idx → Elt F .bf16) :
    payAdd (rd S64x1024.size o hi G) (rd S64x1024.size o hi H) = rd S64x1024.size o hi (addf (G : FVec F S1024x1024 .bf16) H) :=
  shapeCast_self _ _
theorem payFin'_rd (c : Fin 8) (d : Dev nD) (o : Fin 2 → Nat) (hi : Ib S16x1024.size o) :
    payFin' (rd S16x1024.size o hi (W1 m c d)) (rd S16x1024.size o hi (W1 m c (P c (k1 0) d))) (rd S16x1024.size o hi (W1 m c (P c (k1 1) d)))
      (rd S16x1024.size o hi (W1 m c (P c (k1 2) d))) = rd S16x1024.size o hi (FIN m c d) := rfl
theorem payFin_eq (a b x y : Vec F S16x1024 .bf16) : payFin a b x y = payFin' a b x y := shapeCast_self _ _
theorem payExt16_rd (o : Fin 2 → Nat) (hi : Ib S16x1024.size o) (G : S1024x1024.Idx → Elt F .bf16) :
    payExt16 (rd S16x1024.size o hi G) = rdf S16x1024.size o hi (extf .f32 (G : FVec F S1024x1024 .bf16) bitsLt_bf16_f32) :=
  shapeCast_self _ _
theorem payExt64_rd (o : Fin 2 → Nat) (hi : Ib S64x1024.size o) (G : S1024x1024.Idx → Elt F .bf16) :
    payExt64 (rd S64x1024.size o hi G) = rdf S64x1024.size o hi (extf .f32 (G : FVec F S1024x1024 .bf16) bitsLt_bf16_f32) :=
  shapeCast_self _ _

theorem mineLo_div (c : Fin 8) (d : Dev nD) : 16 * (mineLo c d / 16) = mineLo c d := by revert c d; decide
theorem mineLo_chunk (c : Fin 8) (d : Dev nD) : mineLo c d / 128 = c.val := by revert c d; decide

/-- On the rows a device finishes, the finished values are its own. -/
theorem FB_mine (c : Fin 8) (d : Dev nD) {i : S1024x1024.Idx} (h : i ∈ rows (mineLo c d) 16) : FB m i = FIN m c d i := by
  rw [mem_rows] at h
  have h1 := mineLo_div c d
  have h2 := mineLo_chunk c d
  have hc : chunkOf i = c := Fin.ext (show (i 0).val / 128 = c.val by omega)
  have hb : (i 0).val / 16 % 8 = mineLo c d / 16 % 8 := by omega
  unfold FB
  rw [hc]
  have ho : own c ⟨(i 0).val / 16 % 8, Nat.mod_lt _ (by decide)⟩ = d := by
    exact (congrArg (own c) (Fin.ext hb)).trans (own_mine c d)
  rw [ho]

theorem wB_mine (c : Fin 8) (d e : Dev nD) (q : PosShare TreeShare) :
    (wB e (rows (mineLo c d) 16) q (FIN m c d) : sProp 𝕄) = wB e (rows (mineLo c d) 16) q (FB m) :=
  pointsTo_congr fun i hi => (FB_mine m c d hi).symm
theorem fB_mine (c : Fin 8) (d e : Dev nD) :
    (fB e (rows (mineLo c d) 16) (extf .f32 (FIN m c d : FVec F S1024x1024 .bf16) bitsLt_bf16_f32) : sProp 𝕄) = fB e (rows (mineLo c d) 16) (OUT m) :=
  pointsTo_congr fun i hi => by
    show extf .f32 (FIN m c d : FVec F S1024x1024 .bf16) bitsLt_bf16_f32 i = extf .f32 (FB m : FVec F S1024x1024 .bf16) bitsLt_bf16_f32 i
    unfold extf
    simp only [FB_mine m c d hi]

/-- The product of a chunk, stored. -/
theorem payDot_rd (c : Fin 8) (d : Dev nD) :
    payDot (aT m c d) (bT m d) = rd S128x1024.size ![128 * c.val, 0] (inbC c) (W0 m d) := by
  funext x
  have h0 : (x 0).val < 128 := (x 0).isLt
  have hx : ∀ a, ((rc S128x1024.size ![128 * c.val, 0] (inbC c)).emb x a).val = (![128 * c.val, 0] : Fin 2 → Nat) a + 1 * (x a).val := fun _ => rfl
  have e0 := hx 0
  have e1 := hx 1
  have hc : chunkOf ((rc S128x1024.size ![128 * c.val, 0] (inbC c)).emb x) = c := Fin.ext (by
    show ((rc S128x1024.size ![128 * c.val, 0] (inbC c)).emb x 0).val / 128 = c.val
    rw [e0]; show (128 * c.val + 1 * (x 0).val) / 128 = c.val; omega)
  have hi : inChunk ((rc S128x1024.size ![128 * c.val, 0] (inbC c)).emb x) = x := by
    funext a
    match a with
    | 0 =>
      apply Fin.ext
      show ((rc S128x1024.size ![128 * c.val, 0] (inbC c)).emb x 0).val % 128 = (x 0).val
      rw [e0]; show (128 * c.val + 1 * (x 0).val) % 128 = (x 0).val; omega
    | 1 =>
      apply Fin.ext
      show ((rc S128x1024.size ![128 * c.val, 0] (inbC c)).emb x 1).val = (x 1).val
      rw [e1]; show 0 + 1 * (x 1).val = (x 1).val; omega
  show _ = W0 m d ((rc S128x1024.size ![128 * c.val, 0] (inbC c)).emb x)
  unfold W0
  rw [hc, hi]

end Cert.KernelIdeal.Pf

end
-- ==== Proof.KernelIdeal.Rows.lean ====
/- Rows of a buffer split by chunk, half and quarter; the separating product over a list of chunks. -/
module

public import proofs.«01_k».proof.Proof.KernelIdeal.Mem

@[expose] public section

noncomputable section

namespace Cert.KernelIdeal.Pf

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Kc → ℕ)

/-! ## Products over chunks -/

theorem eq_of {P Q : sProp 𝕄} (h₁ : P ⊢ Q) (h₂ : Q ⊢ P) : P = Q := Entails.antisymm h₁ h₂
theorem eq_biE {P Q : sProp 𝕄} (h : P ⊣⊢ Q) : P = Q := Entails.antisymm h.1 h.2
theorem sepC (P Q : sProp 𝕄) : iprop(P ∗ Q) = iprop(Q ∗ P) :=
  eq_of (by iintro ⟨H1, H2⟩; isplitl [H2] <;> iassumption) (by iintro ⟨H1, H2⟩; isplitl [H2] <;> iassumption)
theorem sepA (P Q R : sProp 𝕄) : iprop((P ∗ Q) ∗ R) = iprop(P ∗ (Q ∗ R)) :=
  eq_of (by iintro ⟨⟨H1, H2⟩, H3⟩; isplitl [H1]; iassumption; isplitl [H2] <;> iassumption)
    (by iintro ⟨H1, H2, H3⟩; isplitl [H1 H2]; (isplitl [H1] <;> iassumption); iassumption)
theorem sepE (P : sProp 𝕄) : iprop(P ∗ emp) = P :=
  eq_of (by iintro ⟨H, -⟩; iexact H) (by iintro H; isplitl [H]; iexact H; iempintro)
instance : Std.Commutative (fun P Q : sProp 𝕄 => iprop(P ∗ Q)) := ⟨sepC⟩
instance : Std.Associative (fun P Q : sProp 𝕄 => iprop(P ∗ Q)) := ⟨sepA⟩

/-- One assertion for each chunk of the list. -/
def bl (A : Fin 8 → sProp 𝕄) : List (Fin 8) → sProp 𝕄
  | [] => iprop(emp)
  | c :: l => iprop(A c ∗ bl A l)

theorem bl_sep (A B : Fin 8 → sProp 𝕄) (l : List (Fin 8)) : bl (fun c => iprop(A c ∗ B c)) l = iprop(bl A l ∗ bl B l) := by
  induction l with
  | nil => exact (sepE (F := F) _).symm
  | cons c l ih =>
    show iprop((A c ∗ B c) ∗ bl (fun c => iprop(A c ∗ B c)) l) = iprop((A c ∗ bl A l) ∗ (B c ∗ bl B l))
    rw [ih]
    ac_rfl
theorem bl_mono {A B : Fin 8 → sProp 𝕄} (h : ∀ c, A c ⊢ B c) (l : List (Fin 8)) : bl A l ⊢ bl B l := by
  induction l with
  | nil => exact Entails.rfl
  | cons c l ih => exact BI.sep_mono (h c) ih
theorem bl_univ (A : Fin 8 → sProp 𝕄) : bigSep Finset.univ A = bl A eight := by
  rw [bigSep_univ_eq_bigSepL eight (by decide) (by decide)]
  have h : ∀ l, bigSepL l A = bl A l := fun l => by
    induction l with
    | nil => rfl
    | cons c l ih => rw [bigSepL_cons, ih]; rfl
  exact h eight

/-- A phase over a list of chunks, from one chunk's. -/
theorem wp_over (d : Dev nD) (R : sProp 𝕄) [BI.Persistent R] (S : List (Fin 8) → sProp 𝕄) (A B : Fin 8 → sProp 𝕄) (f : Fin 8 → Pr F → Pr F) (Q : PUnit → sProp 𝕄)
    (h : ∀ c l p, iprop(R ∗ S (c :: l) ∗ A c) ⊢ iprop(((S l ∗ B c) -∗ wpd d p Q) -∗ wpd d (f c p) Q)) (p : Pr F) :
    ∀ l, iprop(R ∗ S l ∗ bl A l) ⊢ iprop(((S [] ∗ bl B l) -∗ wpd d p Q) -∗ wpd d (over f l p) Q) := by
  intro l
  induction l with
  | nil =>
    iintro ⟨-, HO, H⟩
    iintro Hk
    iapply Hk
    isplitl [HO]; · iexact HO
    iexact H
  | cons c l ih =>
    show iprop(R ∗ S (c :: l) ∗ (A c ∗ bl A l)) ⊢ iprop(((S [] ∗ (B c ∗ bl B l)) -∗ wpd d p Q) -∗ wpd d (f c (over f l p)) Q)
    iintro ⟨#HR, HO, HA, HL⟩
    iintro Hk
    iapply (h c l (over f l p)) $$ [HO HA]
    · isplitr; · iexact HR
      isplitl [HO] <;> iassumption
    iintro ⟨HO, HB⟩
    iapply ih $$ [HO HL]
    · isplitr; · iexact HR
      isplitl [HO] <;> iassumption
    iintro ⟨HO, HL⟩
    iapply Hk
    isplitl [HO]; · iexact HO
    isplitl [HB] <;> iassumption

/-! ## Splitting rows -/

section split
variable (pt : Finset S1024x1024.Idx → sProp (MT nD τ sig Unit (Elt F) ℕ UU ℕ)) (hpt : ∀ I J, Disjoint I J → pt (I ∪ J) = iprop(pt I ∗ pt J))
include hpt

theorem rows_split (lo n k : Nat) : pt (rows lo (n + k)) = iprop(pt (rows lo n) ∗ pt (rows (lo + n) k)) := by
  rw [rows_add, hpt _ _ (rows_disj lo n k)]
/-- A chunk is its kept half and its sent half. -/
theorem chunk_split (c : Fin 8) (d : Dev nD) :
    pt (rows (128 * c.val) 128) = iprop(pt (rows (keepLo c d) 64) ∗ pt (rows (sendLo c d) 64)) := by
  rw [rows_split pt hpt _ 64 64]
  unfold keepLo sendLo
  have h := bit_lt c.val d
  rcases (show bit c.val d = 0 ∨ bit c.val d = 1 by omega) with h | h <;> rw [h]
  · rfl
  · exact sepC _ _
/-- The kept half is the sixteen rows finished here and the three sixteens finished elsewhere. -/
theorem keep_split (c : Fin 8) (d : Dev nD) :
    pt (rows (keepLo c d) 64) = iprop(pt (rows (mineLo c d) 16) ∗ (pt (rows (subLo c 0 d) 16) ∗ pt (rows (subLo c 1 d) 16) ∗ pt (rows (subLo c 2 d) 16))) := by
  have e : pt (rows (keepLo c d) 64) = iprop(pt (rows (keepLo c d + 16 * 0) 16) ∗ pt (rows (keepLo c d + 16 * 1) 16) ∗ pt (rows (keepLo c d + 16 * 2) 16) ∗ pt (rows (keepLo c d + 16 * 3) 16)) := by
    rw [rows_split pt hpt _ 16 48, rows_split pt hpt _ 16 32, rows_split pt hpt _ 16 16]
    simp only [Nat.add_assoc, Nat.reduceMul, Nat.reduceAdd, Nat.add_zero]
  rw [e]
  unfold mineLo subLo
  have h := bit_lt (c.val + 1) d
  have h' := bit_lt (c.val + 2) d
  rcases (show bit (c.val + 1) d = 0 ∨ bit (c.val + 1) d = 1 by omega) with h | h <;>
    rcases (show bit (c.val + 2) d = 0 ∨ bit (c.val + 2) d = 1 by omega) with h' | h' <;> simp only [h, h', Nat.reduceMul, Nat.reduceAdd, Nat.reduceSub, Nat.add_zero] <;>
  · generalize pt (rows (keepLo c d) 16) = A
    generalize pt (rows (keepLo c d + 16) 16) = B
    generalize pt (rows (keepLo c d + 32) 16) = C
    generalize pt (rows (keepLo c d + 48) 16) = D
    ac_rfl
/-- All the rows, by chunk. -/
theorem all_split : pt Finset.univ = bl (F := F) (fun c => pt (rows (128 * c.val) 128)) eight := by
  rw [← rows_all, rows_split pt hpt 0 128 896, rows_split pt hpt _ 128 768, rows_split pt hpt _ 128 640, rows_split pt hpt _ 128 512,
    rows_split pt hpt _ 128 384, rows_split pt hpt _ 128 256, rows_split pt hpt _ 128 128]
  exact congrArg (fun X => iprop(pt _ ∗ pt _ ∗ pt _ ∗ pt _ ∗ pt _ ∗ pt _ ∗ pt _ ∗ X)) (sepE (F := F) _).symm
end split

theorem wB_union (d : Dev nD) (q : PosShare TreeShare) (G : S1024x1024.Idx → Elt F .bf16) (I J : Finset S1024x1024.Idx) (h : Disjoint I J) :
    (wB d (I ∪ J) q G : sProp 𝕄) = iprop(wB d I q G ∗ wB d J q G) := eq_biE (pointsTo_union h)
theorem fB_union (d : Dev nD) (G : S1024x1024.Idx → Elt F .f32) (I J : Finset S1024x1024.Idx) (h : Disjoint I J) :
    (fB d (I ∪ J) G : sProp 𝕄) = iprop(fB d I G ∗ fB d J G) := eq_biE (pointsTo_union h)
theorem oB_union (d : Dev nD) (G : S1024x1024.Idx → Elt F .f32) (I J : Finset S1024x1024.Idx) (h : Disjoint I J) :
    (oB d (I ∪ J) G : sProp 𝕄) = iprop(oB d I G ∗ oB d J G) := eq_biE (pointsTo_union h)
theorem wB_share (d : Dev nD) (I : Finset S1024x1024.Idx) (q : PosShare TreeShare) (G : S1024x1024.Idx → Elt F .bf16) :
    (wB d I q G : sProp 𝕄) = iprop(wB d I q.left G ∗ wB d I q.right G) := eq_biE (pointsTo_share (PosShare.mem_left_op_right q))

end Cert.KernelIdeal.Pf

end
-- ==== Proof.KernelIdeal.Phase.lean ====
/- One chunk of each phase: what it takes and what it leaves. -/
module

public import proofs.«01_k».proof.Proof.KernelIdeal.Rows

@[expose] public section

noncomputable section

namespace Cert.KernelIdeal.Pf

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Kc → ℕ)

/-! ## What a chunk's steps use -/

/-- The two duties of a send. -/
def tk (d : Dev nD) (c k : Fin 8) : sProp 𝕄 := iprop(tok d (kS c k) 0 ∗ tok (P c k d) (kR c k) 0)
/-- What a landing's wait takes. -/
def rk (d : Dev nD) (c k : Fin 8) : sProp 𝕄 := iprop(crd d (kR c k) ∗ pos d (kR c k))
/-- What a copy takes: its duty, its rows of the staging buffer and of the result. -/
def ck (d : Dev nD) (c : Fin 8) (k : Fin 5) : sProp 𝕄 :=
  iprop(tok d (kC c k) 0 ∗ (∃ g, fB d (cpRows c k d) g) ∗ ∃ g, oB d (cpRows c k d) g)

/-- Before phase 0: the chunk's rows of the working copy. -/
def in0 (d : Dev nD) (c : Fin 8) : sProp 𝕄 := iprop(∃ G, wB d (rows (128 * c.val) 128) fullShare G)
/-- Before the send: the product in them. -/
def in0' (d : Dev nD) (c : Fin 8) : sProp 𝕄 := wB d (rows (128 * c.val) 128) fullShare (W0 m d)
/-- Before phase 1: the product in the kept half. -/
def in1 (d : Dev nD) (c : Fin 8) : sProp 𝕄 := wB d (rows (keepLo c d) 64) fullShare (W0 m d)
/-- Before phase 2: the second sum in the sixteen rows; the partner's half to send the finished one into. -/
def in2 (d : Dev nD) (c : Fin 8) : sProp 𝕄 :=
  iprop(wB d (rows (mineLo c d) 16) fullShare (W1 m c d) ∗ wB (P c 0 d) (rows (keepLo c d) 64) fullShare (W0 m (P c 0 d)))
/-- Before phase 3: the finished rows. -/
def in3 (d : Dev nD) (c : Fin 8) : sProp 𝕄 :=
  iprop(wB d (rows (mineLo c d) 16) qσ (FB m) ∗ wB (P c 0 d) (rows (keepLo c d) 64) fullShare (W0 m (P c 0 d)))

def kit0 (d : Dev nD) (c : Fin 8) : sProp 𝕄 := iprop(tk d c 0 ∗ anyB (r0M c) (P c 0 d))
def kit1 (d : Dev nD) (c : Fin 8) : sProp 𝕄 :=
  iprop(rk d c 0 ∗ (tk d c 1 ∗ anyB (r1M c 0) (P c 1 d)) ∗ (tk d c 2 ∗ anyB (r1M c 1) (P c 2 d)) ∗ (tk d c 3 ∗ anyB (r1M c 2) (P c 3 d)))
def kit2 (d : Dev nD) (c : Fin 8) : sProp 𝕄 :=
  iprop(rk d c 1 ∗ rk d c 2 ∗ rk d c 3 ∗ tk d c 4 ∗ tk d c 5 ∗ tk d c 6 ∗ ck d c 0)
def kit3 (d : Dev nD) (c : Fin 8) : sProp 𝕄 :=
  iprop(rk d c 4 ∗ rk d c 5 ∗ rk d c 6 ∗ tk d c 7 ∗ ck d c 1 ∗ ck d c 2 ∗ ck d c 3)
def kit4 (d : Dev nD) (c : Fin 8) : sProp 𝕄 := iprop(rk d c 7 ∗ ck d c 4)

def left0 (d : Dev nD) (c : Fin 8) : sProp 𝕄 := crd d (kS c 0)
def left1 (d : Dev nD) (c : Fin 8) : sProp 𝕄 :=
  iprop(anyB (r0M c) d ∗ zro d (kR c 0) ∗ crd d (kS c 1) ∗ crd d (kS c 2) ∗ crd d (kS c 3))
def left2 (d : Dev nD) (c : Fin 8) : sProp 𝕄 :=
  iprop((anyB (r1M c 0) d ∗ anyB (r1M c 1) d ∗ anyB (r1M c 2) d) ∗ (zro d (kR c 1) ∗ zro d (kR c 2) ∗ zro d (kR c 3))
    ∗ (crd d (kS c 4) ∗ crd d (kS c 5) ∗ crd d (kS c 6)) ∗ crd d (kC c 0))
def left3 (d : Dev nD) (c : Fin 8) : sProp 𝕄 :=
  iprop((wB d (rows (subLo c 0 d) 16) qρ (FB m) ∗ wB d (rows (subLo c 1 d) 16) qρ (FB m) ∗ wB d (rows (subLo c 2 d) 16) qρ (FB m))
    ∗ (zro d (kR c 4) ∗ zro d (kR c 5) ∗ zro d (kR c 6)) ∗ crd d (kS c 7) ∗ (crd d (kC c 1) ∗ crd d (kC c 2) ∗ crd d (kC c 3)))
def left4 (d : Dev nD) (c : Fin 8) : sProp 𝕄 :=
  iprop(wB d (rows (sendLo c d) 64) fullShare (FB m) ∗ zro d (kR c 7) ∗ crd d (kC c 4))

theorem anyB_of_holds {s : Shape} (b : Memref sig .tc .vmem s .bf16) (d : Dev nD) (v : s.Idx → Elt F .bf16) : holds b d v ⊢ anyB b d := by
  unfold holds anyB
  iintro ⟨%f, -, H⟩
  iexists f; iexact H

/-! ## Phase 0 -/

/-- The two staged blocks. -/
def stgs (d : Dev nD) : sProp 𝕄 :=
  iprop((((d : Thread nD τ).loc cc0_stg0_0) ↦{fullShare} (aX m d)) ∗ (((d : Thread nD τ).loc cc0_stg1_0) ↦{fullShare} (bX m d)))

/-- The product of a chunk. -/
theorem wp_dot (d : Dev nD) (c : Fin 8) (p : Pr F) (Q : PUnit → sProp 𝕄) :
    iprop(stgs m d ∗ in0 d c) ⊢ iprop(((stgs m d ∗ in0' m d c) -∗ wpd d p Q) -∗ wpd d (dotC c p) Q) := by
  unfold stgs in0 in0'
  iintro ⟨⟨Ha, Hb⟩, ⟨%G, Hw⟩⟩
  iintro Hk
  unfold dotC
  iapply (wp_load_rect 𝒱₀ (d : Thread nD τ) none Set.univ (m := aM) (r := Rect.unit (s := S1024x512) ![128 * c.val, 0] S128x512.size (inbA c)) (f := aX m d) (Finset.subset_univ _)) $$ Ha
  iintro Ha
  iapply (wp_load_rect 𝒱₀ (d : Thread nD τ) none Set.univ (m := bM) (r := Rect.unit (s := S512x1024) ![0, 0] S512x1024.size inb_S512x1024_S512x1024_0_0) (f := bX m d) (Finset.subset_univ _)) $$ Hb
  iintro Hb
  iapply (wp_loadW (n := 128) d ![128 * c.val, 0] rfl (inbC c) fullShare G) $$ Hw
  iintro Hw
  iapply (wp_storeW (n := 128) d ![128 * c.val, 0] rfl (inbC c) _ G (W0 m d) (payDot_rd m c d) p Q) $$ Hw
  iintro Hw
  iapply Hk
  isplitl [Ha Hb]
  · isplitl [Ha] <;> iassumption
  iexact Hw

/-- Phase 0's send. -/
theorem wp_snd0 (d : Dev nD) (c : Fin 8) (l : List (Fin 8)) (p : Pr F) (Q : PUnit → sProp 𝕄) :
    iprop(Rec m K ∗ Ow d (rem 0 (c :: l)) ∗ in0' m d c ∗ kit0 d c)
      ⊢ iprop(((Ow d (rem 0 l) ∗ in1 m d c ∗ left0 d c) -∗ wpd d p Q) -∗ wpd d (snd0 c d p) Q) := by
  unfold in0' kit0 tk in1 left0
  rw [chunk_split (fun I => wB d I fullShare (W0 m d)) (wB_union d _ _) c d]
  iintro ⟨#HR, HO, ⟨Hk, Hs⟩, ⟨Ht1, Ht2⟩, Hb⟩
  iintro Hp
  unfold snd0
  iapply (wp_sendTo m K d (rem 0 l) c 0 (n := 64) (lo := sendLo c d) (tSend c d) (tSend_eq c d) (tSend_inb c d) (tSend_words c d) (tDev0 c d) (tDev0_eq c d)
    (r0M c) (r0M_whole c) (r0M_amt c) (W0 m d) Entails.rfl
    (by
      show _ ⊢ iprop(holds (r0M c) (P c 0 d) (rd S64x1024.size (tKeep c (P c 0 d)) (tKeep_inb c (P c 0 d)) (W0 m (P c 0 (P c 0 d))))
        ∗ wB (P c 0 (P c 0 d)) (rows (keepLo c (P c 0 d)) 64) fullShare (W0 m (P c 0 (P c 0 d))))
      rw [P_P, keepLo_P, rd_congr' (show tKeep c (P c 0 d) = tSend c d by rw [tKeep_eq, tSend_eq, keepLo_P]) _ (tSend_inb c d)]) p Q) $$ [HO Hs Hb Ht1 Ht2]
  · isplitr; · iexact HR
    isplitl [Hs]; · iexact Hs
    isplitl [Hb]; · iexact Hb
    isplitl [HO]; · iexact HO
    isplitl [Ht1] <;> iassumption
  iintro ⟨Hc, HO⟩
  iapply Hp
  isplitl [HO]; · iexact HO
  isplitl [Hk] <;> iassumption

/-! ## Phase 1 -/

theorem payR_k1 (e : Dev nD) (c : Fin 8) (j : Fin 3) : payR (F := F) m e c (k1 j) = payR1 m e c j := by
  match j with | 0 | 1 | 2 => rfl
theorem payS_k1 (e : Dev nD) (c : Fin 8) (j : Fin 3) : payS (F := F) m e c (k1 j) = iprop(emp) := by
  match j with | 0 | 1 | 2 => rfl

/-- One of phase 1's sends. -/
theorem wp_snd1 (d : Dev nD) (c : Fin 8) (j : Fin 3) (l : List Sl) (p : Pr F) (Q : PUnit → sProp 𝕄) :
    iprop(Rec m K ∗ Ow d (.inr (c, k1 j) :: l) ∗ wB d (rows (subLo c j d) 16) fullShare (W1 m c d) ∗ tk d c (k1 j) ∗ anyB (r1M c j) (P c (k1 j) d))
      ⊢ iprop(((Ow d l ∗ crd (F := F) d (kS c (k1 j))) -∗ wpd d p Q)
        -∗ wpd d (sendTo S16x1024.size (tSub c j d) (tSub_inb c j d) (tSub_words c j d) (tDev1 c j d) (r1M c j) (r1M_whole c j) (sS c (k1 j)) (rS c (k1 j)) p) Q) := by
  unfold tk
  iintro ⟨#HR, HO, Hs, ⟨Ht1, Ht2⟩, Hb⟩
  iintro Hp
  iapply (wp_sendTo m K d l c (k1 j) (n := 16) (lo := subLo c j d) (tSub c j d) (tSub_eq c j d) (tSub_inb c j d) (tSub_words c j d) (tDev1 c j d) (tDev1_eq c j d)
    (r1M c j) (r1M_whole c j) ((r1M_amt c j).trans (by match j with | 0 | 1 | 2 => rfl)) (W1 m c d) (by rw [payS_k1])
    (by
      rw [payR_k1]
      unfold payR1
      rw [P_P, mineLo_P, rd_congr' (show tMine c (P c (k1 j) d) = tSub c j d by rw [tMine_eq, tSub_eq, mineLo_P]) _ (tSub_inb c j d)]) p Q) $$ [HO Hs Hb Ht1 Ht2]
  · isplitr; · iexact HR
    isplitl [Hs]; · iexact Hs
    isplitl [Hb]; · iexact Hb
    isplitl [HO]; · iexact HO
    isplitl [Ht1] <;> iassumption
  iintro ⟨Hc, HO⟩
  iapply Hp
  isplitl [HO] <;> iassumption

/-- Phase 1 of a chunk. -/
theorem wp_ph1 (d : Dev nD) (c : Fin 8) (l : List (Fin 8)) (p : Pr F) (Q : PUnit → sProp 𝕄) :
    iprop(Rec m K ∗ Ow d (rem 1 (c :: l)) ∗ in1 m d c ∗ kit1 d c)
      ⊢ iprop(((Ow d (rem 1 l) ∗ in2 m d c ∗ left1 d c) -∗ wpd d p Q) -∗ wpd d (ph1 c d p) Q) := by
  unfold in1 kit1 rk in2 left1
  iintro ⟨#HR, HO, Hw, ⟨Hc, Hp⟩, ⟨Ht1, Hb1⟩, ⟨Ht2, Hb2⟩, ⟨Ht3, Hb3⟩⟩
  iintro Hk
  unfold ph1
  iapply (wp_waitBuf m K d (rem 1 (c :: l)) c 0 (fun y hy => lt_of_lt_of_le (show 2 < 1 + 2 by omega) (rem_lvl 1 _ y hy)) S64x1024.size (tSend c d) (tSend_inb c d) (tSend_words c d)
    (r0M c) (r0M_whole c) (r0M_amt c)) $$ [HO Hc Hp]
  · isplitr; · iexact HR
    isplitl [Hc]; · iexact Hc
    isplitl [HO] <;> iassumption
  unfold payR
  iintro ⟨HO, Hz, Hr, Hpw⟩
  unfold load64
  iapply (wp_loadW (n := 64) d (tKeep c d) (tKeep_eq c d) (tKeep_inb c d) fullShare (W0 m d)) $$ Hw
  iintro Hw
  unfold loadB64
  iapply (wp_loadB (n := 64) d (r0M c) _ inb_S64x1024_S64x1024_0_0) $$ Hr
  iintro Hr
  iapply (wp_loadW (n := 64) d (tKeep c d) (tKeep_eq c d) (tKeep_inb c d) fullShare (W0 m d)) $$ Hw
  iintro Hw
  unfold store64
  iapply (wp_storeW (n := 64) d (tKeep c d) (tKeep_eq c d) (tKeep_inb c d) _ (W0 m d) (W1 m c d) (payAdd_rd _ _ _ _)) $$ Hw
  iintro Hw
  ihave Hr := (anyB_of_holds (F := F) (r0M c) d _) $$ Hr
  ihave Hw := (Entails.of_eq (keep_split (fun I => wB d I fullShare (W1 m c d)) (wB_union d _ _) c d)) $$ Hw
  icases Hw with ⟨Hm, H1, H2, H3⟩
  iapply (wp_snd1 m K d c 0 (.inr (c, 2) :: .inr (c, 3) :: rem 1 l)) $$ [HO H1 Ht1 Hb1]
  · isplitr; · iexact HR
    isplitl [HO]; · iexact HO
    isplitl [H1]; · iexact H1
    isplitl [Ht1]; · iexact Ht1
    iexact Hb1
  iintro ⟨HO, Hc1⟩
  iapply (wp_snd1 m K d c 1 (.inr (c, 3) :: rem 1 l)) $$ [HO H2 Ht2 Hb2]
  · isplitr; · iexact HR
    isplitl [HO]; · iexact HO
    isplitl [H2]; · iexact H2
    isplitl [Ht2]; · iexact Ht2
    iexact Hb2
  iintro ⟨HO, Hc2⟩
  iapply (wp_snd1 m K d c 2 (rem 1 l)) $$ [HO H3 Ht3 Hb3]
  · isplitr; · iexact HR
    isplitl [HO]; · iexact HO
    isplitl [H3]; · iexact H3
    isplitl [Ht3]; · iexact Ht3
    iexact Hb3
  iintro ⟨HO, Hc3⟩
  iapply Hk
  isplitl [HO]; · iexact HO
  isplitl [Hm Hpw]
  · isplitl [Hm] <;> iassumption
  isplitl [Hr]; · iexact Hr
  isplitl [Hz]; · iexact Hz
  isplitl [Hc1]; · iexact Hc1
  isplitl [Hc2]; · iexact Hc2
  iexact Hc3

end Cert.KernelIdeal.Pf

end
-- ==== Proof.KernelIdeal.Phase2.lean ====
/- The later phases of one chunk, and the waits at the end. -/
module

public import proofs.«01_k».proof.Proof.KernelIdeal.Phase

@[expose] public section

noncomputable section

namespace Cert.KernelIdeal.Pf

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Kc → ℕ)

/-! ## Phase 2 -/

theorem payS_k4 (e : Dev nD) (c : Fin 8) (j : Fin 3) : payS (F := F) m e c (k4 j) = wB e (rows (mineLo c e) 16) (qτ j) (FB m) := by
  match j with | 0 | 1 | 2 => rfl
theorem payR_k4 (e : Dev nD) (c : Fin 8) (j : Fin 3) : payR (F := F) m e c (k4 j) = wB e (rows (subLo c j e) 16) fullShare (FB m) := by
  match j with | 0 | 1 | 2 => rfl
theorem amtS_k4 (j : Fin 3) : N16 = amtS (k4 j) := by
  match j with | 0 | 1 | 2 => rfl

/-- One of phase 2's sends. -/
theorem wp_snd2 (d : Dev nD) (c : Fin 8) (j : Fin 3) (l : List Sl) (p : Pr F) (Q : PUnit → sProp 𝕄) :
    iprop(Rec m K ∗ Ow d (.inr (c, k4 j) :: l) ∗ wB d (rows (mineLo c d) 16) (qτ j) (FB m) ∗ tk d c (k4 j)
        ∗ wB (P c (k1 j) d) (rows (mineLo c d) 16) fullShare (W1 m c (P c (k1 j) d)))
      ⊢ iprop(((Ow d l ∗ crd (F := F) d (kS c (k4 j))) -∗ wpd d p Q)
        -∗ wpd d (sendRows S16x1024.size (tMineV c d) (tMineV_inb c d) (tMineV_words c d) (tDev2 c j d) (sS c (k4 j)) (rS c (k4 j)) p) Q) := by
  unfold tk
  rw [← P_k4 c j d]
  iintro ⟨#HR, HO, Hs, ⟨Ht1, Ht2⟩, Hd⟩
  iintro Hp
  iapply (wp_sendRows m K d l c (k4 j) (n := 16) (lo := mineLo c d) (tMineV c d) (tMineV_eq c d) (tMineV_inb c d) (tMineV_words c d) (tDev2 c j d) (tDev2_eq c j d)
    (amtS_k4 j) (qτ j) (FB m) _ (by rw [payS_k4])
    (by rw [payR_k4, P_k4, subLo_P]) p Q) $$ [HO Hs Hd Ht1 Ht2]
  · isplitr; · iexact HR
    isplitl [Hs]; · iexact Hs
    isplitl [Hd]; · iexact Hd
    isplitl [HO]; · iexact HO
    isplitl [Ht1] <;> iassumption
  iintro ⟨Hc, HO⟩
  iapply Hp
  isplitl [HO] <;> iassumption

/-- The finished rows, held at the shares their uses take. -/
theorem mine_shares (d : Dev nD) (I : Finset S1024x1024.Idx) (G : S1024x1024.Idx → Elt F .bf16) :
    (wB d I fullShare G : sProp 𝕄) = iprop(wB d I qσ G ∗ wB d I (qτ 0) G ∗ wB d I (qτ 1) G ∗ wB d I (qτ 2) G) := by
  rw [wB_share d I fullShare G, wB_share d I fullShare.right G, wB_share d I fullShare.right.right G]
  rfl

/-- A copy of finished rows into the result, from what it takes. -/
theorem wp_cpy (d : Dev nD) (c : Fin 8) (k : Fin 5) {n lo : Nat} (o : Fin 2 → Nat) (ho : o = ![lo, 0]) (hi : Ib ![n, 1024] o)
    (hN : (oR ![n, 1024] o hi).view.dmaCredit = amtC k) (hk : cpRows c k d = rows lo n) (p : Pr F) (Q : PUnit → sProp 𝕄) :
    iprop(Rec m K ∗ fB d (rows lo n) (OUT m) ∗ (∃ g, oB d (rows lo n) g) ∗ tok d (kC c k) 0)
      ⊢ iprop((crd (F := F) d (kC c k) -∗ wpd d p Q) -∗ wpd d (copyRows ![n, 1024] o hi (cS c k) p) Q) := by
  iintro ⟨#HR, Hf, ⟨%g, Ho⟩, Ht⟩
  iapply (wp_copyRows m K d c k o ho hi hN hk g p Q)
  isplitr; · iexact HR
  isplitl [Hf]; · iexact Hf
  isplitl [Ho] <;> iassumption

/-- Phase 2 of a chunk. -/
theorem wp_ph2 (d : Dev nD) (c : Fin 8) (l : List (Fin 8)) (p : Pr F) (Q : PUnit → sProp 𝕄) :
    iprop(Rec m K ∗ Ow d (rem 2 (c :: l)) ∗ in2 m d c ∗ kit2 d c)
      ⊢ iprop(((Ow d (rem 2 l) ∗ in3 m d c ∗ left2 d c) -∗ wpd d p Q) -∗ wpd d (ph2 c d p) Q) := by
  unfold in2 kit2 rk ck in3 left2
  rw [show cpRows c 0 d = rows (mineLo c d) 16 from rfl]
  iintro ⟨#HR, HO, ⟨Hw, Hpw⟩, ⟨Hc1, Hp1⟩, ⟨Hc2, Hp2⟩, ⟨Hc3, Hp3⟩, Ht1, Ht2, Ht3, ⟨Htc, ⟨%g, Hf⟩, Ho⟩⟩
  iintro Hk
  unfold ph2
  have hl : ∀ y ∈ rem 2 (c :: l), 3 < lvl (kd y) := fun y hy => lt_of_lt_of_le (show 3 < 2 + 2 by omega) (rem_lvl 2 _ y hy)
  iapply (wp_waitBuf m K d (rem 2 (c :: l)) c 1 hl S16x1024.size (tSub c 0 d) (tSub_inb c 0 d) (tSub_words c 0 d)
    (r1M c 0) (r1M_whole c 0) (r1M_amt c 0)) $$ [HO Hc1 Hp1]
  · isplitr; · iexact HR
    isplitl [Hc1]; · iexact Hc1
    isplitl [HO] <;> iassumption
  iintro ⟨HO, Hz1, H1⟩
  iapply (wp_waitBuf m K d (rem 2 (c :: l)) c 2 hl S16x1024.size (tSub c 1 d) (tSub_inb c 1 d) (tSub_words c 1 d)
    (r1M c 1) (r1M_whole c 1) (r1M_amt c 1)) $$ [HO Hc2 Hp2]
  · isplitr; · iexact HR
    isplitl [Hc2]; · iexact Hc2
    isplitl [HO] <;> iassumption
  iintro ⟨HO, Hz2, H2⟩
  iapply (wp_waitBuf m K d (rem 2 (c :: l)) c 3 hl S16x1024.size (tSub c 2 d) (tSub_inb c 2 d) (tSub_words c 2 d)
    (r1M c 2) (r1M_whole c 2) (r1M_amt c 2)) $$ [HO Hc3 Hp3]
  · isplitr; · iexact HR
    isplitl [Hc3]; · iexact Hc3
    isplitl [HO] <;> iassumption
  iintro ⟨HO, Hz3, H3⟩
  ihave H1 := (Entails.of_eq (show payR m d c 1 = payR1 m d c 0 from rfl)) $$ H1
  ihave H2 := (Entails.of_eq (show payR m d c 2 = payR1 m d c 1 from rfl)) $$ H2
  ihave H3 := (Entails.of_eq (show payR m d c 3 = payR1 m d c 2 from rfl)) $$ H3
  unfold payR1
  icases H1 with ⟨Hb1, Hd1⟩
  icases H2 with ⟨Hb2, Hd2⟩
  icases H3 with ⟨Hb3, Hd3⟩
  unfold load16
  iapply (wp_loadW (n := 16) d (tMine c d) (tMine_eq c d) (tMine_inb c d) fullShare (W1 m c d)) $$ Hw
  iintro Hw
  unfold loadB16
  iapply (wp_loadB (n := 16) d (r1M c 0) _ inb_S16x1024_S16x1024_0_0) $$ Hb1
  iintro Hb1
  iapply (wp_loadB (n := 16) d (r1M c 1) _ inb_S16x1024_S16x1024_0_0) $$ Hb2
  iintro Hb2
  iapply (wp_loadB (n := 16) d (r1M c 2) _ inb_S16x1024_S16x1024_0_0) $$ Hb3
  iintro Hb3
  iapply (wp_loadW (n := 16) d (tMine c d) (tMine_eq c d) (tMine_inb c d) fullShare (W1 m c d)) $$ Hw
  iintro Hw
  unfold store16
  iapply (wp_storeW (n := 16) d (tMine c d) (tMine_eq c d) (tMine_inb c d) _ (W1 m c d) (FIN m c d) ((payFin_eq _ _ _ _).trans (payFin'_rd m c d _ _))) $$ Hw
  iintro Hw
  ihave Hw := (Entails.of_eq ((wB_mine m c d d fullShare).trans (mine_shares d _ _))) $$ Hw
  icases Hw with ⟨Hs, Hs1, Hs2, Hs3⟩
  iapply (wp_snd2 m K d c 0 (.inr (c, 5) :: .inr (c, 6) :: rem 2 l)) $$ [HO Hs1 Ht1 Hd1]
  · isplitr; · iexact HR
    isplitl [HO]; · iexact HO
    isplitl [Hs1]; · iexact Hs1
    isplitl [Ht1]; · iexact Ht1
    iexact Hd1
  iintro ⟨HO, He1⟩
  iapply (wp_snd2 m K d c 1 (.inr (c, 6) :: rem 2 l)) $$ [HO Hs2 Ht2 Hd2]
  · isplitr; · iexact HR
    isplitl [HO]; · iexact HO
    isplitl [Hs2]; · iexact Hs2
    isplitl [Ht2]; · iexact Ht2
    iexact Hd2
  iintro ⟨HO, He2⟩
  iapply (wp_snd2 m K d c 2 (rem 2 l)) $$ [HO Hs3 Ht3 Hd3]
  · isplitr; · iexact HR
    isplitl [HO]; · iexact HO
    isplitl [Hs3]; · iexact Hs3
    isplitl [Ht3]; · iexact Ht3
    iexact Hd3
  iintro ⟨HO, He3⟩
  unfold loadf16
  iapply (wp_loadF (n := 16) d (tMine c d) (tMine_eq c d) (tMine_inb c d) g) $$ Hf
  iintro Hf
  unfold storef16
  iapply (wp_storeF (n := 16) d (tMine c d) (tMine_eq c d) (tMine_inb c d) _ g (extf .f32 (FIN m c d : FVec F S1024x1024 .bf16) bitsLt_bf16_f32)
    ((congrArg payExt16 (payFin'_rd m c d _ _)).trans (payExt16_rd _ _ _))) $$ Hf
  iintro Hf
  ihave Hf := (Entails.of_eq (fB_mine m c d d)) $$ Hf
  iapply (wp_cpy m K d c 0 (n := 16) (lo := mineLo c d) (tMineV c d) (tMineV_eq c d) (tMineV_inb c d) rfl rfl) $$ [Hf Ho Htc]
  · isplitr; · iexact HR
    isplitl [Hf]; · iexact Hf
    isplitl [Ho]; · iexact Ho
    iexact Htc
  iintro Hcc
  iapply Hk
  isplitl [HO]; · iexact HO
  isplitl [Hs Hpw]
  · isplitl [Hs] <;> iassumption
  isplitl [Hb1 Hb2 Hb3]
  · isplitl [Hb1]; · iapply (anyB_of_holds (F := F) (r1M c 0) d _) $$ Hb1
    isplitl [Hb2]; · iapply (anyB_of_holds (F := F) (r1M c 1) d _) $$ Hb2
    iapply (anyB_of_holds (F := F) (r1M c 2) d _) $$ Hb3
  isplitl [Hz1 Hz2 Hz3]
  · isplitl [Hz1]; · iexact Hz1
    isplitl [Hz2]; · iexact Hz2
    iexact Hz3
  isplitl [He1 He2 He3]
  · isplitl [He1]; · iexact He1
    isplitl [He2]; · iexact He2
    iexact He3
  iexact Hcc

/-! ## Phase 3 -/

/-- A quarter finished elsewhere is written out. -/
theorem wp_out3 (d : Dev nD) (c : Fin 8) (j : Fin 3) (k : Fin 5) (hk : cpRows c k d = rows (subLo c j d) 16) (hN : M16 = amtC k) (p : Pr F) (Q : PUnit → sProp 𝕄) :
    iprop(Rec m K ∗ wB d (rows (subLo c j d) 16) qρ (FB m) ∗ ck d c k)
      ⊢ iprop(((wB d (rows (subLo c j d) 16) qρ (FB m) ∗ crd (F := F) d (kC c k)) -∗ wpd d p Q) -∗ wpd d (out3 c j d (cS c k) p) Q) := by
  unfold ck
  rw [hk]
  iintro ⟨#HR, Hw, Htc, ⟨%g, Hf⟩, Ho⟩
  iintro Hk
  unfold out3 load16
  iapply (wp_loadW (n := 16) d (tSubL c j d) (tSubL_eq c j d) (tSubL_inb c j d) qρ (FB m)) $$ Hw
  iintro Hw
  unfold loadf16
  iapply (wp_loadF (n := 16) d (tSubL c j d) (tSubL_eq c j d) (tSubL_inb c j d) g) $$ Hf
  iintro Hf
  unfold storef16
  iapply (wp_storeF (n := 16) d (tSubL c j d) (tSubL_eq c j d) (tSubL_inb c j d) _ g (OUT m) (payExt16_rd _ _ _)) $$ Hf
  iintro Hf
  iapply (wp_cpy m K d c k (n := 16) (lo := subLo c j d) (tSubV c j d) (tSubV_eq c j d) (tSubV_inb c j d) hN hk) $$ [Hf Ho Htc]
  · isplitr; · iexact HR
    isplitl [Hf]; · iexact Hf
    isplitl [Ho]; · iexact Ho
    iexact Htc
  iintro Hcc
  iapply Hk
  isplitl [Hw] <;> iassumption

/-- Phase 3 of a chunk. -/
theorem wp_ph3 (d : Dev nD) (c : Fin 8) (l : List (Fin 8)) (p : Pr F) (Q : PUnit → sProp 𝕄) :
    iprop(Rec m K ∗ Ow d (rem 3 (c :: l)) ∗ in3 m d c ∗ kit3 d c)
      ⊢ iprop(((Ow d (rem 3 l) ∗ left3 m d c) -∗ wpd d p Q) -∗ wpd d (ph3 c d p) Q) := by
  unfold in3 kit3 rk left3
  iintro ⟨#HR, HO, ⟨Hm, Hpw⟩, ⟨Hc1, Hp1⟩, ⟨Hc2, Hp2⟩, ⟨Hc3, Hp3⟩, Ht, Hk1, Hk2, Hk3⟩
  iintro Hk
  unfold ph3 tk
  icases Ht with ⟨Ht1, Ht2⟩
  have hl : ∀ y ∈ rem 3 (c :: l), 4 < lvl (kd y) := fun y hy => lt_of_lt_of_le (show 4 < 3 + 2 by omega) (rem_lvl 3 _ y hy)
  iapply (wp_waitRows m K d (rem 3 (c :: l)) c 4 hl S16x1024.size (tMineV c d) (tMineV_inb c d) (tMineV_words c d) rfl) $$ [HO Hc1 Hp1]
  · isplitr; · iexact HR
    isplitl [Hc1]; · iexact Hc1
    isplitl [HO] <;> iassumption
  iintro ⟨HO, Hz1, H1⟩
  iapply (wp_waitRows m K d (rem 3 (c :: l)) c 5 hl S16x1024.size (tMineV c d) (tMineV_inb c d) (tMineV_words c d) rfl) $$ [HO Hc2 Hp2]
  · isplitr; · iexact HR
    isplitl [Hc2]; · iexact Hc2
    isplitl [HO] <;> iassumption
  iintro ⟨HO, Hz2, H2⟩
  iapply (wp_waitRows m K d (rem 3 (c :: l)) c 6 hl S16x1024.size (tMineV c d) (tMineV_inb c d) (tMineV_words c d) rfl) $$ [HO Hc3 Hp3]
  · isplitr; · iexact HR
    isplitl [Hc3]; · iexact Hc3
    isplitl [HO] <;> iassumption
  iintro ⟨HO, Hz3, H3⟩
  ihave H1 := (Entails.of_eq ((show payR m d c 4 = wB d (rows (subLo c 0 d) 16) fullShare (FB m) from rfl).trans (wB_share d _ fullShare _))) $$ H1
  ihave H2 := (Entails.of_eq ((show payR m d c 5 = wB d (rows (subLo c 1 d) 16) fullShare (FB m) from rfl).trans (wB_share d _ fullShare _))) $$ H2
  ihave H3 := (Entails.of_eq ((show payR m d c 6 = wB d (rows (subLo c 2 d) 16) fullShare (FB m) from rfl).trans (wB_share d _ fullShare _))) $$ H3
  icases H1 with ⟨Hs1, Hr1⟩
  icases H2 with ⟨Hs2, Hr2⟩
  icases H3 with ⟨Hs3, Hr3⟩
  ihave Hs := (Entails.of_eq (keep_split (fun I => wB d I qσ (FB m)) (wB_union d _ _) c d).symm) $$ [Hm Hs1 Hs2 Hs3]
  · isplitl [Hm]; · iexact Hm
    isplitl [Hs1]; · iexact Hs1
    isplitl [Hs2] <;> iassumption
  iapply (wp_sendRows m K d (rem 3 l) c 7 (n := 64) (lo := keepLo c d) (tHalf c d) (tHalf_eq c d) (tHalf_inb c d) (tHalf_words c d) (tDev3 c d) (tDev3_eq c d)
    rfl qσ (FB m) (W0 m (P c 0 d)) Entails.rfl
    (by
      show _ ⊢ wB (P c 7 d) (rows (sendLo c (P c 7 d)) 64) fullShare (FB m)
      rw [P_7, sendLo_P])) $$ [HO Hs Hpw Ht1 Ht2]
  · isplitr; · iexact HR
    isplitl [Hs]; · iexact Hs
    isplitl [Hpw]; · rw [P_7]; iexact Hpw
    isplitl [HO]; · iexact HO
    isplitl [Ht1] <;> iassumption
  iintro ⟨Hcs, HO⟩
  iapply (wp_out3 m K d c 0 1 rfl rfl) $$ [Hr1 Hk1]
  · isplitr; · iexact HR
    isplitl [Hr1] <;> iassumption
  iintro ⟨Hr1, Hcc1⟩
  iapply (wp_out3 m K d c 1 2 rfl rfl) $$ [Hr2 Hk2]
  · isplitr; · iexact HR
    isplitl [Hr2] <;> iassumption
  iintro ⟨Hr2, Hcc2⟩
  iapply (wp_out3 m K d c 2 3 rfl rfl) $$ [Hr3 Hk3]
  · isplitr; · iexact HR
    isplitl [Hr3] <;> iassumption
  iintro ⟨Hr3, Hcc3⟩
  iapply Hk
  isplitl [HO]; · iexact HO
  isplitl [Hr1 Hr2 Hr3]
  · isplitl [Hr1]; · iexact Hr1
    isplitl [Hr2] <;> iassumption
  isplitl [Hz1 Hz2 Hz3]
  · isplitl [Hz1]; · iexact Hz1
    isplitl [Hz2] <;> iassumption
  isplitl [Hcs]; · iexact Hcs
  isplitl [Hcc1]; · iexact Hcc1
  isplitl [Hcc2] <;> iassumption

/-! ## Phase 4 -/

/-- Phase 4 of a chunk. -/
theorem wp_ph4 (d : Dev nD) (c : Fin 8) (p : Pr F) (Q : PUnit → sProp 𝕄) :
    iprop(Rec m K ∗ Ow d [] ∗ kit4 d c)
      ⊢ iprop(((Ow d [] ∗ left4 m d c) -∗ wpd d p Q) -∗ wpd d (ph4 c d p) Q) := by
  unfold kit4 rk ck left4
  rw [show cpRows c 4 d = rows (sendLo c d) 64 from rfl]
  iintro ⟨#HR, HO, ⟨Hc, Hp⟩, ⟨Htc, ⟨%g, Hf⟩, Ho⟩⟩
  iintro Hk
  unfold ph4
  iapply (wp_waitRows m K d [] c 7 (fun _ h => by cases h) S64x1024.size (tHalf c d) (tHalf_inb c d) (tHalf_words c d) rfl) $$ [HO Hc Hp]
  · isplitr; · iexact HR
    isplitl [Hc]; · iexact Hc
    isplitl [HO] <;> iassumption
  unfold payR
  iintro ⟨HO, Hz, Hw⟩
  unfold load64
  iapply (wp_loadW (n := 64) d (tOther c d) (tOther_eq c d) (tOther_inb c d) fullShare (FB m)) $$ Hw
  iintro Hw
  unfold loadf64
  iapply (wp_loadF (n := 64) (lo := sendLo c d) d (tOther c d) (tOther_eq c d) (tOther_inb c d) g) $$ Hf
  iintro Hf
  unfold storef64
  iapply (wp_storeF (n := 64) d (tOther c d) (tOther_eq c d) (tOther_inb c d) _ g (OUT m) (payExt64_rd _ _ _)) $$ Hf
  iintro Hf
  iapply (wp_cpy m K d c 4 (n := 64) (lo := sendLo c d) (tSend c d) (tSend_eq c d) (tSend_inb c d) rfl rfl) $$ [Hf Ho Htc]
  · isplitr; · iexact HR
    isplitl [Hf]; · iexact Hf
    isplitl [Ho]; · iexact Ho
    iexact Htc
  iintro Hcc
  iapply Hk
  isplitl [HO]; · iexact HO
  isplitl [Hw]; · iexact Hw
  isplitl [Hz] <;> iassumption

/-! ## The last waits -/

/-- What the wait of a send's end takes. -/
def eS (d : Dev nD) (c k : Fin 8) : sProp 𝕄 := iprop(crd d (kS c k) ∗ pos d (kS c k))
/-- What the wait of a send's end leaves. -/
def fS (d : Dev nD) (c k : Fin 8) : sProp 𝕄 := iprop(zro d (kS c k) ∗ payS m d c k)
/-- What the wait of a copy's end takes. -/
def eC (d : Dev nD) (c : Fin 8) (k : Fin 5) : sProp 𝕄 := iprop(crd d (kC c k) ∗ pos d (kC c k))
/-- What the wait of a copy's end leaves. -/
def fC (d : Dev nD) (c : Fin 8) (k : Fin 5) : sProp 𝕄 := iprop(zro d (kC c k) ∗ payC m d c k)

theorem wp_endS (d : Dev nD) (c k : Fin 8)
    (z o : Fin 2 → Nat) (hi : Ib z o) (hw : Wd z o hi) (hn : (wR z o hi).view.dmaCredit = amtS k) (p : Pr F) (Q : PUnit → sProp 𝕄) :
    iprop(Rec m K ∗ Ow d [] ∗ eS d c k) ⊢ iprop(((Ow d [] ∗ fS m d c k) -∗ wpd d p Q) -∗ wpd d (waitRows z o hi hw (sS c k) p) Q) := by
  unfold eS fS
  iintro ⟨#HR, HO, Hc, Hp⟩
  iapply (wp_waitRowsS m K d c k z o hi hw hn p Q)
  isplitr; · iexact HR
  isplitl [Hc]; · iexact Hc
  isplitl [HO] <;> iassumption
theorem wp_endT (d : Dev nD) (c k : Fin 8)
    (z o : Fin 2 → Nat) (hi : Ib z o) (hw : Wd z o hi) (b : Memref sig .tc .vmem ⟨2, z⟩ .bf16) (hb : b.IsWhole)
    (hn : (wR z o hi).view.dmaCredit = amtS k) (p : Pr F) (Q : PUnit → sProp 𝕄) :
    iprop(Rec m K ∗ Ow d [] ∗ eS d c k) ⊢ iprop(((Ow d [] ∗ fS m d c k) -∗ wpd d p Q) -∗ wpd d (waitSent z o hi hw b hb (sS c k) p) Q) := by
  unfold eS fS
  iintro ⟨#HR, HO, Hc, Hp⟩
  iapply (wp_waitSent m K d c k z o hi hw b hb hn p Q)
  isplitr; · iexact HR
  isplitl [Hc]; · iexact Hc
  isplitl [HO] <;> iassumption
theorem wp_endC (d : Dev nD) (c : Fin 8) (k : Fin 5)
    (z o : Fin 2 → Nat) (hi : Ib z o) (hn : (oR z o hi).view.dmaCredit = amtC k) (p : Pr F) (Q : PUnit → sProp 𝕄) :
    iprop(Rec m K ∗ Ow d [] ∗ eC d c k) ⊢ iprop(((Ow d [] ∗ fC m d c k) -∗ wpd d p Q) -∗ wpd d (waitCopy z o hi (cS c k) p) Q) := by
  unfold eC fC
  iintro ⟨#HR, HO, Hc, Hp⟩
  iapply (wp_waitCopy m K d c k z o hi hn p Q)
  isplitr; · iexact HR
  isplitl [Hc]; · iexact Hc
  isplitl [HO] <;> iassumption

/-- Three steps in a row, each taking and leaving its own. -/
theorem wp_three (d : Dev nD) (A₀ A₁ A₂ B₀ B₁ B₂ : sProp 𝕄) (f₀ f₁ f₂ : Pr F → Pr F) (Q : PUnit → sProp 𝕄)
    (h₀ : ∀ p, iprop(Rec m K ∗ Ow d [] ∗ A₀) ⊢ iprop(((Ow d [] ∗ B₀) -∗ wpd d p Q) -∗ wpd d (f₀ p) Q))
    (h₁ : ∀ p, iprop(Rec m K ∗ Ow d [] ∗ A₁) ⊢ iprop(((Ow d [] ∗ B₁) -∗ wpd d p Q) -∗ wpd d (f₁ p) Q))
    (h₂ : ∀ p, iprop(Rec m K ∗ Ow d [] ∗ A₂) ⊢ iprop(((Ow d [] ∗ B₂) -∗ wpd d p Q) -∗ wpd d (f₂ p) Q)) (p : Pr F) :
    iprop(Rec m K ∗ Ow d [] ∗ (A₀ ∗ A₁ ∗ A₂)) ⊢ iprop(((Ow d [] ∗ (B₀ ∗ B₁ ∗ B₂)) -∗ wpd d p Q) -∗ wpd d (f₀ (f₁ (f₂ p))) Q) := by
  iintro ⟨#HR, HO, H0, H1, H2⟩
  iintro Hk
  iapply (h₀ _) $$ [HO H0]
  · isplitr; · iexact HR
    isplitl [HO] <;> iassumption
  iintro ⟨HO, H0⟩
  iapply (h₁ _) $$ [HO H1]
  · isplitr; · iexact HR
    isplitl [HO] <;> iassumption
  iintro ⟨HO, H1⟩
  iapply (h₂ _) $$ [HO H2]
  · isplitr; · iexact HR
    isplitl [HO] <;> iassumption
  iintro ⟨HO, H2⟩
  iapply Hk
  isplitl [HO]; · iexact HO
  isplitl [H0]; · iexact H0
  isplitl [H1] <;> iassumption

theorem wp_end0 (d : Dev nD) (c : Fin 8) (p : Pr F) (Q : PUnit → sProp 𝕄) :
    iprop(Rec m K ∗ Ow d [] ∗ eS d c 0) ⊢ iprop(((Ow d [] ∗ fS m d c 0) -∗ wpd d p Q) -∗ wpd d (end0 c d p) Q) :=
  wp_endT m K d c 0 _ _ _ _ (r0M c) _ rfl p Q
theorem wp_end1 (d : Dev nD) (c : Fin 8) (p : Pr F) (Q : PUnit → sProp 𝕄) :
    iprop(Rec m K ∗ Ow d [] ∗ (eS d c 1 ∗ eS d c 2 ∗ eS d c 3)) ⊢ iprop(((Ow d [] ∗ (fS m d c 1 ∗ fS m d c 2 ∗ fS m d c 3)) -∗ wpd d p Q) -∗ wpd d (end1 c d p) Q) :=
  wp_three m K d _ _ _ _ _ _ _ _ _ Q (fun p => wp_endT m K d c 1 _ _ _ _ (r1M c 0) _ rfl p Q) (fun p => wp_endT m K d c 2 _ _ _ _ (r1M c 1) _ rfl p Q)
    (fun p => wp_endT m K d c 3 _ _ _ _ (r1M c 2) _ rfl p Q) p
theorem wp_end2 (d : Dev nD) (c : Fin 8) (p : Pr F) (Q : PUnit → sProp 𝕄) :
    iprop(Rec m K ∗ Ow d [] ∗ (eS d c 4 ∗ eS d c 5 ∗ eS d c 6)) ⊢ iprop(((Ow d [] ∗ (fS m d c 4 ∗ fS m d c 5 ∗ fS m d c 6)) -∗ wpd d p Q) -∗ wpd d (end2 c d p) Q) :=
  wp_three m K d _ _ _ _ _ _ _ _ _ Q (fun p => wp_endS m K d c 4 _ _ _ _ rfl p Q) (fun p => wp_endS m K d c 5 _ _ _ _ rfl p Q)
    (fun p => wp_endS m K d c 6 _ _ _ _ rfl p Q) p
theorem wp_end3 (d : Dev nD) (c : Fin 8) (p : Pr F) (Q : PUnit → sProp 𝕄) :
    iprop(Rec m K ∗ Ow d [] ∗ eS d c 7) ⊢ iprop(((Ow d [] ∗ fS m d c 7) -∗ wpd d p Q) -∗ wpd d (end3 c d p) Q) :=
  wp_endS m K d c 7 _ _ _ _ rfl p Q
theorem wp_endA (d : Dev nD) (c : Fin 8) (p : Pr F) (Q : PUnit → sProp 𝕄) :
    iprop(Rec m K ∗ Ow d [] ∗ eC d c 0) ⊢ iprop(((Ow d [] ∗ fC m d c 0) -∗ wpd d p Q) -∗ wpd d (endA c d p) Q) :=
  wp_endC m K d c 0 _ _ _ rfl p Q
theorem wp_endB (d : Dev nD) (c : Fin 8) (p : Pr F) (Q : PUnit → sProp 𝕄) :
    iprop(Rec m K ∗ Ow d [] ∗ (eC d c 1 ∗ eC d c 2 ∗ eC d c 3)) ⊢ iprop(((Ow d [] ∗ (fC m d c 1 ∗ fC m d c 2 ∗ fC m d c 3)) -∗ wpd d p Q) -∗ wpd d (endB c d p) Q) :=
  wp_three m K d _ _ _ _ _ _ _ _ _ Q (fun p => wp_endC m K d c 1 _ _ _ rfl p Q) (fun p => wp_endC m K d c 2 _ _ _ rfl p Q)
    (fun p => wp_endC m K d c 3 _ _ _ rfl p Q) p
theorem wp_endCC (d : Dev nD) (c : Fin 8) (p : Pr F) (Q : PUnit → sProp 𝕄) :
    iprop(Rec m K ∗ Ow d [] ∗ eC d c 4) ⊢ iprop(((Ow d [] ∗ fC m d c 4) -∗ wpd d p Q) -∗ wpd d (endC c d p) Q) :=
  wp_endC m K d c 4 _ _ _ rfl p Q

end Cert.KernelIdeal.Pf

end
-- ==== Proof.KernelIdeal.Chunk.lean ====
/- What a chunk starts with, regrouped by phase, and what it ends with. -/
module

public import proofs.«01_k».proof.Proof.KernelIdeal.Phase2

@[expose] public section

noncomputable section

namespace Cert.KernelIdeal.Pf

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Kc → ℕ)

/-! ## Small products -/

theorem b3 (Φ : Fin 3 → sProp 𝕄) : bigSep Finset.univ Φ = iprop(Φ 0 ∗ Φ 1 ∗ Φ 2) :=
  bigSep_univ_eq_bigSepL [0, 1, 2] (by decide) (by decide) Φ
theorem b4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem b5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem b6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem b8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## The start -/

/-- What a chunk's steps start from, but for the landing buffers and the rows of the working copy. -/
def st (d : Dev nD) (c : Fin 8) : sProp 𝕄 :=
  iprop((bigSep Finset.univ fun k : Fin 8 => tk d c k) ∗ (bigSep Finset.univ fun k : Fin 8 => rk d c k) ∗ (bigSep Finset.univ fun k : Fin 8 => pos d (kS c k))
    ∗ (bigSep Finset.univ fun k : Fin 5 => tok d (kC c k) 0) ∗ (bigSep Finset.univ fun k : Fin 5 => pos d (kC c k))
    ∗ (∃ g, fB d (rows (128 * c.val) 128) g) ∗ (∃ g, oB d (rows (128 * c.val) 128) g))
/-- The landing buffers the chunk's sends fill. -/
def lands (d : Dev nD) (c : Fin 8) : sProp 𝕄 := bigSep Finset.univ fun k : Fin 4 => land (P c (up k) d) (c, k)

/-- The owners of the cells the last waits take. -/
def poss (d : Dev nD) (c : Fin 8) : sProp 𝕄 :=
  iprop((bigSep Finset.univ fun k : Fin 8 => pos d (kS c k)) ∗ (bigSep Finset.univ fun k : Fin 5 => pos d (kC c k)))

/-- The rows of a chunk, by what writes them out. -/
theorem cp_split (pt : Finset S1024x1024.Idx → sProp (MT nD τ sig Unit (Elt F) ℕ UU ℕ)) (hpt : ∀ I J, Disjoint I J → pt (I ∪ J) = iprop(pt I ∗ pt J)) (d : Dev nD) (c : Fin 8) :
    pt (rows (128 * c.val) 128) = bigSep Finset.univ fun k : Fin 5 => pt (cpRows c k d) := by
  rw [b5, chunk_split pt hpt c d, keep_split pt hpt c d]
  show iprop((pt (rows (mineLo c d) 16) ∗ (pt (rows (subLo c 0 d) 16) ∗ pt (rows (subLo c 1 d) 16) ∗ pt (rows (subLo c 2 d) 16))) ∗ pt (rows (sendLo c d) 64))
    = iprop(pt (rows (mineLo c d) 16) ∗ pt (rows (subLo c 0 d) 16) ∗ pt (rows (subLo c 1 d) 16) ∗ pt (rows (subLo c 2 d) 16) ∗ pt (rows (sendLo c d) 64))
  rw [sepA, sepA, sepA]

theorem fB_ex (d : Dev nD) (I : Finset S1024x1024.Idx) (h : S1024x1024.Idx → Elt F .f32) : (fB d I h : sProp 𝕄) ⊢ iprop(∃ g, fB d I g) := by
  iintro H; iexists h; iexact H
theorem oB_ex (d : Dev nD) (I : Finset S1024x1024.Idx) (h : S1024x1024.Idx → Elt F .f32) : (oB d I h : sProp 𝕄) ⊢ iprop(∃ g, oB d I g) := by
  iintro H; iexists h; iexact H

/-- What the copies take. -/
theorem cks (d : Dev nD) (c : Fin 8) :
    iprop((bigSep Finset.univ fun k : Fin 5 => tok d (kC c k) 0) ∗ (∃ g, fB (F := F) d (rows (128 * c.val) 128) g) ∗ (∃ g, oB (F := F) d (rows (128 * c.val) 128) g))
      ⊢ bigSep Finset.univ fun k : Fin 5 => ck (F := F) d c k := by
  unfold ck
  rw [bigSep_sep', bigSep_sep']
  iintro ⟨Ht, ⟨%g, Hf⟩, ⟨%h, Ho⟩⟩
  isplitl [Ht]; · iexact Ht
  isplitl [Hf]
  · ihave Hf := (Entails.of_eq (cp_split (fun I => fB d I g) (fB_union d g) d c)) $$ Hf
    iapply (show (bigSep Finset.univ fun k : Fin 5 => fB d (cpRows c k d) g) ⊢ bigSep Finset.univ fun k : Fin 5 => iprop(∃ g, fB d (cpRows c k d) g) from
      bigSep_mono fun k _ => fB_ex d _ g) $$ Hf
  · ihave Ho := (Entails.of_eq (cp_split (fun I => oB d I h) (oB_union d h) d c)) $$ Ho
    iapply (show (bigSep Finset.univ fun k : Fin 5 => oB d (cpRows c k d) h) ⊢ bigSep Finset.univ fun k : Fin 5 => iprop(∃ g, oB d (cpRows c k d) g) from
      bigSep_mono fun k _ => oB_ex d _ h) $$ Ho

theorem lands_eq (d : Dev nD) (c : Fin 8) :
    lands (F := F) d c = iprop(anyB (r0M c) (P c 0 d) ∗ anyB (r1M c 0) (P c 1 d) ∗ anyB (r1M c 1) (P c 2 d) ∗ anyB (r1M c 2) (P c 3 d)) := by
  unfold lands
  rw [b4]
  rfl

/-- What a chunk starts from, by phase. -/
theorem st_kits (d : Dev nD) (c : Fin 8) :
    iprop(st (F := F) d c ∗ lands d c) ⊢ iprop(kit0 d c ∗ kit1 d c ∗ kit2 d c ∗ kit3 d c ∗ kit4 d c ∗ poss d c) := by
  unfold st
  iintro ⟨⟨Ht, Hr, Hs, Htc, Hpc, Hf, Ho⟩, Hl⟩
  ihave Hck := (cks (F := F) d c) $$ [Htc Hf Ho]
  · isplitl [Htc]; · iexact Htc
    isplitl [Hf] <;> iassumption
  ihave Hck := (Entails.of_eq (b5 _)) $$ Hck
  ihave Ht := (Entails.of_eq (b8 _)) $$ Ht
  ihave Hr := (Entails.of_eq (b8 _)) $$ Hr
  ihave Hl := (Entails.of_eq (lands_eq (F := F) d c)) $$ Hl
  icases Hck with ⟨Hk0, Hk1, Hk2, Hk3, Hk4⟩
  icases Ht with ⟨Ht0, Ht1, Ht2, Ht3, Ht4, Ht5, Ht6, Ht7⟩
  icases Hr with ⟨Hr0, Hr1, Hr2, Hr3, Hr4, Hr5, Hr6, Hr7⟩
  icases Hl with ⟨Hl0, Hl1, Hl2, Hl3⟩
  isplitl [Ht0 Hl0]
  · unfold kit0
    isplitl [Ht0] <;> iassumption
  isplitl [Hr0 Ht1 Hl1 Ht2 Hl2 Ht3 Hl3]
  · unfold kit1
    isplitl [Hr0]; · iexact Hr0
    isplitl [Ht1 Hl1]; · (isplitl [Ht1] <;> iassumption)
    isplitl [Ht2 Hl2]; · (isplitl [Ht2] <;> iassumption)
    isplitl [Ht3] <;> iassumption
  isplitl [Hr1 Hr2 Hr3 Ht4 Ht5 Ht6 Hk0]
  · unfold kit2
    isplitl [Hr1]; · iexact Hr1
    isplitl [Hr2]; · iexact Hr2
    isplitl [Hr3]; · iexact Hr3
    isplitl [Ht4]; · iexact Ht4
    isplitl [Ht5]; · iexact Ht5
    isplitl [Ht6] <;> iassumption
  isplitl [Hr4 Hr5 Hr6 Ht7 Hk1 Hk2 Hk3]
  · unfold kit3
    isplitl [Hr4]; · iexact Hr4
    isplitl [Hr5]; · iexact Hr5
    isplitl [Hr6]; · iexact Hr6
    isplitl [Ht7]; · iexact Ht7
    isplitl [Hk1]; · iexact Hk1
    isplitl [Hk2] <;> iassumption
  isplitl [Hr7 Hk4]
  · unfold kit4
    isplitl [Hr7] <;> iassumption
  unfold poss
  isplitl [Hs] <;> iassumption

/-! ## The end -/

/-- What the last waits leave alone. -/
def keeps (d : Dev nD) (c : Fin 8) : sProp 𝕄 :=
  iprop((anyB (r0M c) d ∗ anyB (r1M c 0) d ∗ anyB (r1M c 1) d ∗ anyB (r1M c 2) d) ∗ (bigSep Finset.univ fun k : Fin 8 => zro d (kR c k))
    ∗ (wB d (rows (subLo c 0 d) 16) qρ (FB m) ∗ wB d (rows (subLo c 1 d) 16) qρ (FB m) ∗ wB d (rows (subLo c 2 d) 16) qρ (FB m))
    ∗ wB d (rows (sendLo c d) 64) fullShare (FB m))
/-- What the last waits take. -/
def ends (d : Dev nD) (c : Fin 8) : sProp 𝕄 :=
  iprop(eS d c 0 ∗ (eS d c 1 ∗ eS d c 2 ∗ eS d c 3) ∗ (eS d c 4 ∗ eS d c 5 ∗ eS d c 6) ∗ eS d c 7 ∗ eC d c 0 ∗ (eC d c 1 ∗ eC d c 2 ∗ eC d c 3) ∗ eC d c 4)
/-- What the last waits leave. -/
def fins (d : Dev nD) (c : Fin 8) : sProp 𝕄 :=
  iprop(fS m d c 0 ∗ (fS m d c 1 ∗ fS m d c 2 ∗ fS m d c 3) ∗ (fS m d c 4 ∗ fS m d c 5 ∗ fS m d c 6) ∗ fS m d c 7 ∗ fC m d c 0
    ∗ (fC m d c 1 ∗ fC m d c 2 ∗ fC m d c 3) ∗ fC m d c 4)

/-- The phases' remains, by the last waits. -/
theorem left_ends (d : Dev nD) (c : Fin 8) :
    iprop(left0 (F := F) d c ∗ left1 d c ∗ left2 d c ∗ left3 m d c ∗ left4 m d c ∗ poss d c) ⊢ iprop(ends d c ∗ keeps m d c) := by
  unfold left0 left1 left2 left3 left4 poss
  rw [b8 fun k => pos (F := F) d (kS c k), b5 fun k => pos (F := F) d (kC c k)]
  iintro ⟨Hc0, ⟨Hb0, Hz0, Hc1, Hc2, Hc3⟩, ⟨⟨Hb1, Hb2, Hb3⟩, ⟨Hz1, Hz2, Hz3⟩, ⟨Hc4, Hc5, Hc6⟩, Hd0⟩, ⟨⟨Hw1, Hw2, Hw3⟩, ⟨Hz4, Hz5, Hz6⟩, Hc7, ⟨Hd1, Hd2, Hd3⟩⟩, ⟨Hw4, Hz7, Hd4⟩,
    ⟨⟨Hp0, Hp1, Hp2, Hp3, Hp4, Hp5, Hp6, Hp7⟩, ⟨Hq0, Hq1, Hq2, Hq3, Hq4⟩⟩⟩
  isplitr [Hb0 Hb1 Hb2 Hb3 Hz0 Hz1 Hz2 Hz3 Hz4 Hz5 Hz6 Hz7 Hw1 Hw2 Hw3 Hw4]
  · unfold ends eS eC
    isplitl [Hc0 Hp0]; · (isplitl [Hc0] <;> iassumption)
    isplitl [Hc1 Hp1 Hc2 Hp2 Hc3 Hp3]
    · isplitl [Hc1 Hp1]; · (isplitl [Hc1] <;> iassumption)
      isplitl [Hc2 Hp2]; · (isplitl [Hc2] <;> iassumption)
      isplitl [Hc3] <;> iassumption
    isplitl [Hc4 Hp4 Hc5 Hp5 Hc6 Hp6]
    · isplitl [Hc4 Hp4]; · (isplitl [Hc4] <;> iassumption)
      isplitl [Hc5 Hp5]; · (isplitl [Hc5] <;> iassumption)
      isplitl [Hc6] <;> iassumption
    isplitl [Hc7 Hp7]; · (isplitl [Hc7] <;> iassumption)
    isplitl [Hd0 Hq0]; · (isplitl [Hd0] <;> iassumption)
    isplitl [Hd1 Hq1 Hd2 Hq2 Hd3 Hq3]
    · isplitl [Hd1 Hq1]; · (isplitl [Hd1] <;> iassumption)
      isplitl [Hd2 Hq2]; · (isplitl [Hd2] <;> iassumption)
      isplitl [Hd3] <;> iassumption
    isplitl [Hd4] <;> iassumption
  unfold keeps
  rw [b8 fun k => zro (F := F) d (kR c k)]
  isplitl [Hb0 Hb1 Hb2 Hb3]
  · isplitl [Hb0]; · iexact Hb0
    isplitl [Hb1]; · iexact Hb1
    isplitl [Hb2] <;> iassumption
  isplitl [Hz0 Hz1 Hz2 Hz3 Hz4 Hz5 Hz6 Hz7]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6] <;> iassumption
  isplitl [Hw1 Hw2 Hw3]
  · isplitl [Hw1]; · iexact Hw1
    isplitl [Hw2] <;> iassumption
  iexact Hw4

/-- What a chunk ends with: the finished rows everywhere, the landing buffers, every counter at zero. -/
def fin (d : Dev nD) (c : Fin 8) : sProp 𝕄 :=
  iprop(wB d (rows (128 * c.val) 128) fullShare (FB m) ∗ fB d (rows (128 * c.val) 128) (OUT m) ∗ oB d (rows (128 * c.val) 128) (OUT m)
    ∗ (bigSep Finset.univ fun k : Fin 4 => land d (c, k)) ∗ (bigSep Finset.univ fun k : Fin 8 => zro d (kS c k))
    ∗ (bigSep Finset.univ fun k : Fin 8 => zro d (kR c k)) ∗ (bigSep Finset.univ fun k : Fin 5 => zro d (kC c k)))

/-- The landing buffers, by slot. -/
theorem land_eq (d : Dev nD) (c : Fin 8) :
    (bigSep Finset.univ fun k : Fin 4 => land (F := F) d (c, k)) = iprop(anyB (r0M c) d ∗ anyB (r1M c 0) d ∗ anyB (r1M c 1) d ∗ anyB (r1M c 2) d) := by
  rw [b4]
  rfl

/-- A chunk of the working copy, from the shares it ends in. -/
theorem w_join (d : Dev nD) (c : Fin 8) (G : S1024x1024.Idx → Elt F .bf16) :
    (iprop((wB d (rows (mineLo c d) 16) (qτ 0) G ∗ wB d (rows (mineLo c d) 16) (qτ 1) G ∗ wB d (rows (mineLo c d) 16) (qτ 2) G)
      ∗ wB d (rows (keepLo c d) 64) qσ G
      ∗ (wB d (rows (subLo c 0 d) 16) qρ G ∗ wB d (rows (subLo c 1 d) 16) qρ G ∗ wB d (rows (subLo c 2 d) 16) qρ G)
      ∗ wB d (rows (sendLo c d) 64) fullShare G) : sProp 𝕄) = wB d (rows (128 * c.val) 128) fullShare G := by
  rw [chunk_split (fun I => wB d I fullShare G) (wB_union d _ _) c d, keep_split (fun I => wB d I fullShare G) (wB_union d _ _) c d,
    keep_split (fun I => wB d I qσ G) (wB_union d _ _) c d, mine_shares d (rows (mineLo c d) 16) G, wB_share d (rows (subLo c 0 d) 16) fullShare G,
    wB_share d (rows (subLo c 1 d) 16) fullShare G, wB_share d (rows (subLo c 2 d) 16) fullShare G]
  show _ = iprop(((_ ∗ _ ∗ _ ∗ _) ∗ (wB d _ qσ G ∗ wB d _ qρ G) ∗ (wB d _ qσ G ∗ wB d _ qρ G) ∗ (wB d _ qσ G ∗ wB d _ qρ G)) ∗ _)
  ac_rfl

theorem fin_of (d : Dev nD) (c : Fin 8) : iprop(fins m d c ∗ keeps m d c) ⊢ fin m d c := by
  unfold fins fS fC payC keeps fin
  rw [cp_split (fun I => fB d I (OUT m)) (fB_union d _) d c, cp_split (fun I => oB d I (OUT m)) (oB_union d _) d c, b5 fun k => fB d (cpRows c k d) (OUT m),
    b5 fun k => oB d (cpRows c k d) (OUT m), land_eq d c, b8 fun k => zro (F := F) d (kS c k), b5 fun k => zro (F := F) d (kC c k)]
  rw [show payS m d c 4 = wB d (rows (mineLo c d) 16) (qτ 0) (FB m) from rfl, show payS m d c 5 = wB d (rows (mineLo c d) 16) (qτ 1) (FB m) from rfl,
    show payS m d c 6 = wB d (rows (mineLo c d) 16) (qτ 2) (FB m) from rfl, show payS m d c 7 = wB d (rows (keepLo c d) 64) qσ (FB m) from rfl]
  iintro ⟨⟨⟨Hs0, -⟩, ⟨⟨Hs1, -⟩, ⟨Hs2, -⟩, ⟨Hs3, -⟩⟩, ⟨⟨Hs4, Ht0⟩, ⟨Hs5, Ht1⟩, ⟨Hs6, Ht2⟩⟩, ⟨Hs7, Hk⟩, ⟨Hc0, Ho0, Hf0⟩, ⟨⟨Hc1, Ho1, Hf1⟩, ⟨Hc2, Ho2, Hf2⟩, ⟨Hc3, Ho3, Hf3⟩⟩, ⟨Hc4, Ho4, Hf4⟩⟩,
    ⟨⟨Hb0, Hb1, Hb2, Hb3⟩, Hz, ⟨Hw1, Hw2, Hw3⟩, Hw4⟩⟩
  isplitl [Ht0 Ht1 Ht2 Hk Hw1 Hw2 Hw3 Hw4]
  · iapply (Entails.of_eq (w_join d c (FB m))) $$ [Ht0 Ht1 Ht2 Hk Hw1 Hw2 Hw3 Hw4]
    isplitl [Ht0 Ht1 Ht2]
    · isplitl [Ht0]; · iexact Ht0
      isplitl [Ht1]; · iexact Ht1
      iexact Ht2
    isplitl [Hk]; · iexact Hk
    isplitl [Hw1 Hw2 Hw3]
    · isplitl [Hw1]; · iexact Hw1
      isplitl [Hw2] <;> iassumption
    iexact Hw4
  isplitl [Hf0 Hf1 Hf2 Hf3 Hf4]
  · isplitl [Hf0]; · iexact Hf0
    isplitl [Hf1]; · iexact Hf1
    isplitl [Hf2]; · iexact Hf2
    isplitl [Hf3] <;> iassumption
  isplitl [Ho0 Ho1 Ho2 Ho3 Ho4]
  · isplitl [Ho0]; · iexact Ho0
    isplitl [Ho1]; · iexact Ho1
    isplitl [Ho2]; · iexact Ho2
    isplitl [Ho3] <;> iassumption
  isplitl [Hb0 Hb1 Hb2 Hb3]
  · isplitl [Hb0]; · iexact Hb0
    isplitl [Hb1]; · iexact Hb1
    isplitl [Hb2]; · iexact Hb2
    iexact Hb3
  isplitl [Hs0 Hs1 Hs2 Hs3 Hs4 Hs5 Hs6 Hs7]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6] <;> iassumption
  isplitl [Hz]; · iexact Hz
  isplitl [Hc0]; · iexact Hc0
  isplitl [Hc1]; · iexact Hc1
  isplitl [Hc2]; · iexact Hc2
  isplitl [Hc3] <;> iassumption

end Cert.KernelIdeal.Pf

end
-- ==== Proof.KernelIdeal.Body.lean ====
/- The body of the launch, from its signals to its last wait. -/
module

public import proofs.«01_k».proof.Proof.KernelIdeal.Chunk

@[expose] public section

noncomputable section

namespace Cert.KernelIdeal.Pf

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Kc → ℕ)

theorem wpd_ret (d : Dev nD) (Q : PUnit → sProp (MT nD τ sig Unit (Elt F) ℕ UU ℕ)) : Q ⟨⟩ ⊢ wpd (F := F) d (.ret ⟨⟩) Q := by
  unfold wpd
  rw [wp_ret]
  iintro H
  imodintro
  iexact H
theorem wpd_deviceId (d : Dev nD) (k : Dev nD → Pr F) (Q : PUnit → sProp 𝕄) : wpd d (k d) Q ⊢ wpd d (.op .deviceId k) Q :=
  Entails.of_eq (wp_deviceId 𝒱₀ (d : Thread nD τ) none Set.univ).symm

/-! ## The barrier -/

/-- A device's landing buffers. -/
def landAll (d : Dev nD) : sProp 𝕄 := bigSep Finset.univ fun x : Fin 8 × Fin 4 => land d x
/-- The landing buffers a device's sends fill, on its peers. -/
def landOut (d : Dev nD) : sProp 𝕄 := bigSep Finset.univ fun x : Fin 8 × Fin 4 => land (P x.1 (up x.2) d) x

/-- Six factors of which all but one are nothing. -/
theorem pick (Ψ : Fin 6 → sProp (MT nD τ sig Unit (Elt F) ℕ UU ℕ)) (p : Fin 6) :
    iprop((if p = 0 then Ψ 0 else emp) ∗ (if p = 1 then Ψ 1 else emp) ∗ (if p = 2 then Ψ 2 else emp) ∗ (if p = 3 then Ψ 3 else emp)
      ∗ (if p = 4 then Ψ 4 else emp) ∗ (if p = 5 then Ψ 5 else emp)) = Ψ p := by
  have he (X : sProp (MT nD τ sig Unit (Elt F) ℕ UU ℕ)) : iprop(X ∗ emp) = X := eq_biE sep_emp
  have hf (X : sProp (MT nD τ sig Unit (Elt F) ℕ UU ℕ)) : iprop(emp ∗ X) = X := eq_biE emp_sep
  match p with
  | 0 | 1 | 2 | 3 | 4 | 5 => simp [he, hf]

/-- A product over the transfers, by mask. -/
theorem by_mask (Φ : Fin 6 → Fin 8 × Fin 4 → sProp (MT nD τ sig Unit (Elt F) ℕ UU ℕ)) :
    (bigSep Finset.univ fun j : Fin 6 => bigSep Finset.univ fun x : Fin 8 × Fin 4 => if px x.1 (up x.2) = j then Φ j x else iprop(emp))
      = bigSep Finset.univ fun x : Fin 8 × Fin 4 => Φ (px x.1 (up x.2)) x := by
  rw [b6, ← bigSep_sep', ← bigSep_sep', ← bigSep_sep', ← bigSep_sep', ← bigSep_sep']
  exact bigSep_congr fun x _ => pick (fun j => Φ j x) _

/-- What the six signals hand over. -/
theorem sent_lands (d : Dev nD) : (bigSep Finset.univ fun j : Fin 6 => payB (F := F) (peer j d) j) = landAll d := by
  unfold payB landAll
  rw [by_mask fun j x => land (F := F) (peer j (peer j d)) x]
  exact bigSep_congr fun x _ => by rw [peer_peer]
/-- What the wait brings. -/
theorem got_lands (d : Dev nD) : (bigSep Finset.univ fun j : Fin 6 => payB (F := F) d j) = landOut d := by
  unfold payB landOut
  rw [by_mask fun j x => land (F := F) (peer j d) x]
  rfl
theorem landOut_chunks (d : Dev nD) : landOut (F := F) d = bl (fun c => lands (F := F) d c) eight := by
  unfold landOut
  rw [bigSep_univ_prod, bl_univ]
  rfl

/-- A signal across a mask. -/
theorem wp_sig (d : Dev nD) (j : Fin 6) (l : List Sl) (n : Dev nD) (hn : n = peer j d) (p : Pr F) (Q : PUnit → sProp 𝕄) :
    iprop(Rec m K ∗ Ow d (.inl j :: l) ∗ tok (peer j d) kB j ∗ payB (peer j d) j)
      ⊢ iprop((Ow d l -∗ wpd d p Q) -∗ wpd d (sig1 n p) Q) := by
  subst hn
  unfold Ow
  iintro ⟨#HR, ⟨%W, HO⟩, Ht, Hp⟩
  iintro Hk
  iapply (Rounds.wp_signal 𝒱₀ ER (Rd m) (d : Thread nD τ) none (dst := (peer j d : Thread nD τ)) (sem := barS) (r := 0) (d := j) (k' := 1) (k := fun _ => p) (κ := K (peer j d, kB))
      (show j ∈ (Rd m).duties ((peer j d : Thread nD τ), sl kB) 0 by rw [Rd_duties]; exact Finset.mem_univ _) (Rd_amount m (peer j d) kB 0 j) () (owed d l) rfl (W := W)) $$ [HO Ht Hp]
  · isplitr; · iapply (Rec_inv m K (peer j d) kB); iexact HR
    isplitl [HO]; · iexact HO
    isplitl [Ht]; · iexact Ht
    isplitl [Hp]; · iapply (Entails.of_eq (show payB (peer j d) j = (Rd m).payload ((peer j d : Thread nD τ), .reg barS) 0 j from (Rd_payload m (peer j d) kB 0 j).symm)) $$ Hp
    iapply (Rec_reached m K (peer j d) kB); iexact HR
  iintro HO
  iapply Hk
  iexists W; iexact HO

/-- The barrier's wait. -/
theorem wp_bar (d : Dev nD) (p : Pr F) (Q : PUnit → sProp 𝕄) :
    iprop(Rec m K ∗ cred (tallyAt ((d : Thread nD τ), sl kB) () 6) ∗ Ow d (rem 0 eight) ∗ pos d kB)
      ⊢ iprop(((Ow d (rem 0 eight) ∗ zro d kB ∗ bl (fun c => lands d c) eight) -∗ wpd d p Q) -∗ wpd d (.op (.semWait barS (6#32).toInt) fun _ => p) Q) := by
  have h := wp_wait_cell m K d kB (rem 0 eight) (fun x hx => lt_of_lt_of_le (by decide) (rem_lvl 0 eight x hx)) (w := .semWait barS ((6 : ℕ) : Int)) (n := 6) (fun Q => rfl) (by decide) (fun _ => p) Q
  rw [show (bigSep (dut kB) fun j => pay m d kB j) = bl (fun c => lands (F := F) d c) eight from (got_lands d).trans (landOut_chunks d)] at h
  exact h

/-! ## The phases over all the chunks -/

/-- A step that keeps nothing but its own rows. -/
theorem wp_over0 (d : Dev nD) (A B : Fin 8 → sProp (MT nD τ sig Unit (Elt F) ℕ UU ℕ)) (f : Fin 8 → Pr F → Pr F) (Q : PUnit → sProp 𝕄)
    (h : ∀ c p, iprop(Rec m K ∗ Ow d [] ∗ A c) ⊢ iprop(((Ow d [] ∗ B c) -∗ wpd d p Q) -∗ wpd d (f c p) Q)) (p : Pr F) :
    iprop(Rec m K ∗ Ow d [] ∗ bl A eight) ⊢ iprop(((Ow d [] ∗ bl B eight) -∗ wpd d p Q) -∗ wpd d (over f eight p) Q) :=
  wp_over d (Rec m K) (fun _ => Ow d []) A B f Q (fun c _ p => h c p) p eight

/-- The last waits. -/
theorem wp_tail (d : Dev nD) (Q : PUnit → sProp 𝕄) :
    iprop(Rec m K ∗ Ow d [] ∗ bl (fun c => ends (F := F) d c) eight) ⊢ iprop(((Ow d [] ∗ bl (fun c => fins m d c) eight) -∗ Q ⟨⟩) -∗ wpd d (bodyEnd d) Q) := by
  unfold ends fins
  simp only [bl_sep]
  unfold bodyEnd
  iintro ⟨#HR, HO, ⟨H0, ⟨H1, H2, H3⟩, ⟨H4, H5, H6⟩, H7, H8, ⟨H9, H10, H11⟩, H12⟩⟩
  iintro Hk
  iapply (wp_over0 m K d _ _ _ Q (fun c p => wp_end0 m K d c p Q) _) $$ [HO H0]
  · isplitr; · iexact HR
    isplitl [HO] <;> iassumption
  iintro ⟨HO, H0⟩
  iapply (wp_over0 m K d _ _ _ Q (fun c p => wp_end1 m K d c p Q) _) $$ [HO H1 H2 H3]
  · isplitr; · iexact HR
    isplitl [HO]; · iexact HO
    simp only [bl_sep]
    isplitl [H1]; · iexact H1
    isplitl [H2] <;> iassumption
  iintro ⟨HO, H1⟩
  iapply (wp_over0 m K d _ _ _ Q (fun c p => wp_end2 m K d c p Q) _) $$ [HO H4 H5 H6]
  · isplitr; · iexact HR
    isplitl [HO]; · iexact HO
    simp only [bl_sep]
    isplitl [H4]; · iexact H4
    isplitl [H5] <;> iassumption
  iintro ⟨HO, H2⟩
  iapply (wp_over0 m K d _ _ _ Q (fun c p => wp_end3 m K d c p Q) _) $$ [HO H7]
  · isplitr; · iexact HR
    isplitl [HO] <;> iassumption
  iintro ⟨HO, H3⟩
  iapply (wp_over0 m K d _ _ _ Q (fun c p => wp_endA m K d c p Q) _) $$ [HO H8]
  · isplitr; · iexact HR
    isplitl [HO] <;> iassumption
  iintro ⟨HO, H4⟩
  iapply (wp_over0 m K d _ _ _ Q (fun c p => wp_endB m K d c p Q) _) $$ [HO H9 H10 H11]
  · isplitr; · iexact HR
    isplitl [HO]; · iexact HO
    simp only [bl_sep]
    isplitl [H9]; · iexact H9
    isplitl [H10] <;> iassumption
  iintro ⟨HO, H5⟩
  iapply (wp_over0 m K d _ _ _ Q (fun c p => wp_endCC m K d c p Q) _) $$ [HO H12]
  · isplitr; · iexact HR
    isplitl [HO] <;> iassumption
  iintro ⟨HO, H6⟩
  iapply (wpd_ret d Q)
  iapply Hk
  isplitl [HO]; · iexact HO
  simp only [bl_sep]
  isplitl [H0]; · iexact H0
  isplitl [H1]; · iexact H1
  isplitl [H2]; · iexact H2
  isplitl [H3]; · iexact H3
  isplitl [H4]; · iexact H4
  isplitl [H5]; · iexact H5
  iexact H6

/-- Phase 0: each chunk's product, then its send. -/
theorem wp_dots (d : Dev nD) (p : Pr F) (Q : PUnit → sProp 𝕄) (l : List (Fin 8)) :
    iprop(Rec m K ∗ (Ow d (rem 0 l) ∗ stgs m d) ∗ bl (fun c => iprop(in0 (F := F) d c ∗ kit0 d c)) l)
      ⊢ iprop((((Ow d (rem 0 []) ∗ stgs m d) ∗ bl (fun c => iprop(in1 m d c ∗ left0 d c)) l) -∗ wpd d p Q)
        -∗ wpd d (over (fun c k => dotC c (snd0 c d k)) l p) Q) := by
  refine wp_over d (Rec m K) (fun l => iprop(Ow d (rem 0 l) ∗ stgs m d)) _ _ _ Q (fun c l p => ?_) p l
  iintro ⟨#HR, ⟨HO, Hst⟩, Hi, Hk⟩
  iintro Hp
  iapply (wp_dot m d c _ Q) $$ [Hst Hi]
  · isplitl [Hst] <;> iassumption
  iintro ⟨Hst, Hi⟩
  iapply (wp_snd0 m K d c l p Q) $$ [HO Hi Hk]
  · isplitr; · iexact HR
    isplitl [HO]; · iexact HO
    isplitl [Hi] <;> iassumption
  iintro ⟨HO, Hi, Hl⟩
  iapply Hp
  isplitl [HO Hst]; · (isplitl [HO] <;> iassumption)
  isplitl [Hi] <;> iassumption

/-- From the first chunk's send to the last wait. -/
theorem wp_rest (d : Dev nD) (Q : PUnit → sProp 𝕄) :
    iprop(Rec m K ∗ Ow d (rem 0 eight) ∗ stgs m d ∗ (in0' m d 0 ∗ kit0 d 0) ∗ bl (fun c => iprop(in0 (F := F) d c ∗ kit0 d c)) seven
        ∗ bl (fun c => kit1 (F := F) d c) eight ∗ bl (fun c => kit2 (F := F) d c) eight ∗ bl (fun c => kit3 (F := F) d c) eight ∗ bl (fun c => kit4 (F := F) d c) eight
        ∗ bl (fun c => poss (F := F) d c) eight)
      ⊢ iprop(((Ow d [] ∗ stgs m d ∗ bl (fun c => fin m d c) eight) -∗ Q ⟨⟩)
        -∗ wpd d (snd0 0 d <| over (fun c k => dotC c (snd0 c d k)) seven <|
            over (ph1 · d) eight <| over (ph2 · d) eight <| over (ph3 · d) eight <| over (ph4 · d) eight <| bodyEnd d) Q) := by
  iintro ⟨#HR, HO, Hst, ⟨Hi, Hk0⟩, H0, H1, H2, H3, H4, Hp⟩
  iintro Hk
  iapply (wp_snd0 m K d 0 seven _ Q) $$ [HO Hi Hk0]
  · isplitr; · iexact HR
    isplitl [HO]; · iexact HO
    isplitl [Hi] <;> iassumption
  iintro ⟨HO, Hi, Hl0⟩
  iapply (wp_dots m K d _ Q seven) $$ [HO Hst H0]
  · isplitr; · iexact HR
    isplitl [HO Hst]; · (isplitl [HO] <;> iassumption)
    iexact H0
  iintro ⟨⟨HO, Hst⟩, H0⟩
  ihave H0 := (Entails.of_eq (show iprop((in1 m d 0 ∗ left0 d 0) ∗ bl (fun c => iprop(in1 m d c ∗ left0 d c)) seven) = iprop(bl (fun c => in1 m d c) eight ∗ bl (fun c => left0 (F := F) d c) eight)
    from bl_sep (fun c => in1 m d c) (fun c => left0 d c) eight)) $$ [Hi Hl0 H0]
  · isplitl [Hi Hl0]; · (isplitl [Hi] <;> iassumption)
    iexact H0
  icases H0 with ⟨Hi, L0⟩
  iapply (wp_over d (Rec m K) (fun l => Ow d (rem 1 l)) (fun c => iprop(in1 m d c ∗ kit1 d c)) _ _ Q (fun c l p => wp_ph1 m K d c l p Q) _ eight) $$ [HO Hi H1]
  · isplitr; · iexact HR
    isplitl [HO]; · iexact HO
    rw [bl_sep]
    isplitl [Hi] <;> iassumption
  rw [bl_sep]
  iintro ⟨HO, Hi, L1⟩
  iapply (wp_over d (Rec m K) (fun l => Ow d (rem 2 l)) (fun c => iprop(in2 m d c ∗ kit2 d c)) _ _ Q (fun c l p => wp_ph2 m K d c l p Q) _ eight) $$ [HO Hi H2]
  · isplitr; · iexact HR
    isplitl [HO]; · iexact HO
    rw [bl_sep]
    isplitl [Hi] <;> iassumption
  rw [bl_sep]
  iintro ⟨HO, Hi, L2⟩
  iapply (wp_over d (Rec m K) (fun l => Ow d (rem 3 l)) (fun c => iprop(in3 m d c ∗ kit3 d c)) _ _ Q (fun c l p => wp_ph3 m K d c l p Q) _ eight) $$ [HO Hi H3]
  · isplitr; · iexact HR
    isplitl [HO]; · iexact HO
    rw [bl_sep]
    isplitl [Hi] <;> iassumption
  iintro ⟨HO, L3⟩
  iapply (wp_over0 m K d _ _ _ Q (fun c p => wp_ph4 m K d c p Q) _) $$ [HO H4]
  · isplitr; · iexact HR
    isplitl [HO]; · iexact HO
    iexact H4
  iintro ⟨HO, L4⟩
  ihave H := (show iprop(bl (fun c => left0 (F := F) d c) eight ∗ bl (fun c => left1 (F := F) d c) eight ∗ bl (fun c => left2 (F := F) d c) eight ∗ bl (fun c => left3 m d c) eight
      ∗ bl (fun c => left4 m d c) eight ∗ bl (fun c => poss (F := F) d c) eight) ⊢ iprop(bl (fun c => ends (F := F) d c) eight ∗ bl (fun c => keeps m d c) eight) by
    simp only [← bl_sep]; exact bl_mono (fun c => left_ends m d c) eight) $$ [L0 L1 L2 L3 L4 Hp]
  · isplitl [L0]; · iexact L0
    isplitl [L1]; · iexact L1
    isplitl [L2]; · iexact L2
    isplitl [L3]; · iexact L3
    isplitl [L4] <;> iassumption
  icases H with ⟨He, Hkeep⟩
  iapply (wp_tail m K d Q) $$ [HO He]
  · isplitr; · iexact HR
    isplitl [HO] <;> iassumption
  iintro ⟨HO, Hf⟩
  iapply Hk
  isplitl [HO]; · iexact HO
  isplitl [Hst]; · iexact Hst
  iapply (show iprop(bl (fun c => fins m d c) eight ∗ bl (fun c => keeps m d c) eight) ⊢ bl (fun c => fin m d c) eight by
    simp only [← bl_sep]; exact bl_mono (fun c => fin_of m d c) eight) $$ [Hf Hkeep]
  isplitl [Hf] <;> iassumption

/-! ## The whole body -/

/-- What a device starts from, besides the records, its staged blocks and its debts. -/
def kit (d : Dev nD) : sProp 𝕄 :=
  iprop(cred (tallyAt ((d : Thread nD τ), sl kB) () 6) ∗ pos d kB ∗ (bigSep Finset.univ fun j : Fin 6 => tok (peer j d) kB j) ∗ landAll d
    ∗ bl (fun c => in0 (F := F) d c) eight ∗ bl (fun c => st (F := F) d c) eight)
/-- What it ends with, besides those. -/
def done (d : Dev nD) : sProp 𝕄 := iprop(zro d kB ∗ bl (fun c => fin m d c) eight)

/-- The six signals. -/
theorem wp_sigs (d : Dev nD) (l : List Sl) (p : Pr F) (Q : PUnit → sProp 𝕄) :
    iprop(Rec m K ∗ Ow d (sigs ++ l) ∗ (bigSep Finset.univ fun j : Fin 6 => tok (peer j d) kB j) ∗ landAll d)
      ⊢ iprop((Ow d l -∗ wpd d p Q) -∗ wpd d (sig1 ⟨k0_dev1 d, k0_dev1_lt d⟩ <| sig1 ⟨k0_dev2 d, k0_dev2_lt d⟩ <| sig1 ⟨k0_dev3 d, k0_dev3_lt d⟩ <|
          sig1 ⟨k0_dev4 d, k0_dev4_lt d⟩ <| sig1 ⟨k0_dev5 d, k0_dev5_lt d⟩ <| sig1 ⟨k0_dev6 d, k0_dev6_lt d⟩ p) Q) := by
  rw [← sent_lands, b6, b6]
  iintro ⟨#HR, HO, ⟨T0, T1, T2, T3, T4, T5⟩, ⟨P0, P1, P2, P3, P4, P5⟩⟩
  iintro Hk
  iapply (wp_sig m K d 0 (.inl 1 :: .inl 2 :: .inl 3 :: .inl 4 :: .inl 5 :: l) _ (sig1_eq d)) $$ [HO T0 P0]
  · isplitr; · iexact HR
    isplitl [HO]; · iexact HO
    isplitl [T0] <;> iassumption
  iintro HO
  iapply (wp_sig m K d 1 (.inl 2 :: .inl 3 :: .inl 4 :: .inl 5 :: l) _ (sig2_eq d)) $$ [HO T1 P1]
  · isplitr; · iexact HR
    isplitl [HO]; · iexact HO
    isplitl [T1] <;> iassumption
  iintro HO
  iapply (wp_sig m K d 2 (.inl 3 :: .inl 4 :: .inl 5 :: l) _ (sig3_eq d)) $$ [HO T2 P2]
  · isplitr; · iexact HR
    isplitl [HO]; · iexact HO
    isplitl [T2] <;> iassumption
  iintro HO
  iapply (wp_sig m K d 3 (.inl 4 :: .inl 5 :: l) _ (sig4_eq d)) $$ [HO T3 P3]
  · isplitr; · iexact HR
    isplitl [HO]; · iexact HO
    isplitl [T3] <;> iassumption
  iintro HO
  iapply (wp_sig m K d 4 (.inl 5 :: l) _ (sig5_eq d)) $$ [HO T4 P4]
  · isplitr; · iexact HR
    isplitl [HO]; · iexact HO
    isplitl [T4] <;> iassumption
  iintro HO
  iapply (wp_sig m K d 5 l _ (sig6_eq d)) $$ [HO T5 P5]
  · isplitr; · iexact HR
    isplitl [HO]; · iexact HO
    isplitl [T5] <;> iassumption
  iexact Hk

/-- The launch's body. -/
theorem wp_body (d : Dev nD) (Q : PUnit → sProp 𝕄) :
    iprop(Rec m K ∗ Ow d (sigs ++ rem 0 eight) ∗ stgs m d ∗ kit d) ⊢ iprop(((Ow d [] ∗ stgs m d ∗ done m d) -∗ Q ⟨⟩) -∗ wpd d bodyAll Q) := by
  unfold kit done
  iintro ⟨#HR, HO, Hst, Hc, Hp, Ht, Hl, Hi, Hs⟩
  iintro Hk
  unfold bodyAll
  iapply (wpd_deviceId d)
  iapply (wp_sigs m K d (rem 0 eight) _ Q) $$ [HO Ht Hl]
  · isplitr; · iexact HR
    isplitl [HO]; · iexact HO
    isplitl [Ht] <;> iassumption
  iintro HO
  ihave Hi := (Entails.of_eq (show bl (fun c => in0 (F := F) d c) eight = iprop(in0 d 0 ∗ bl (fun c => in0 (F := F) d c) seven) from rfl)) $$ Hi
  icases Hi with ⟨Hi0, Hi⟩
  iapply (wp_dot m d 0 _ Q) $$ [Hst Hi0]
  · isplitl [Hst] <;> iassumption
  iintro ⟨Hst, Hi0⟩
  unfold bodyMid
  iapply (wp_bar m K d _ Q) $$ [HO Hc Hp]
  · isplitr; · iexact HR
    isplitl [Hc]; · iexact Hc
    isplitl [HO] <;> iassumption
  iintro ⟨HO, Hz, Hl⟩
  ihave Hs := (show iprop(bl (fun c => st (F := F) d c) eight ∗ bl (fun c => lands (F := F) d c) eight) ⊢ iprop(bl (fun c => kit0 (F := F) d c) eight ∗ bl (fun c => kit1 (F := F) d c) eight
      ∗ bl (fun c => kit2 (F := F) d c) eight ∗ bl (fun c => kit3 (F := F) d c) eight ∗ bl (fun c => kit4 (F := F) d c) eight ∗ bl (fun c => poss (F := F) d c) eight) by
    simp only [← bl_sep]; exact bl_mono (fun c => st_kits d c) eight) $$ [Hs Hl]
  · isplitl [Hs] <;> iassumption
  icases Hs with ⟨H0, H1, H2, H3, H4, H5⟩
  ihave H0 := (Entails.of_eq (show bl (fun c => kit0 (F := F) d c) eight = iprop(kit0 d 0 ∗ bl (fun c => kit0 (F := F) d c) seven) from rfl)) $$ H0
  icases H0 with ⟨H00, H0⟩
  iapply (wp_rest m K d Q) $$ [HO Hst Hi0 Hi H00 H0 H1 H2 H3 H4 H5]
  · isplitr; · iexact HR
    isplitl [HO]; · iexact HO
    isplitl [Hst]; · iexact Hst
    isplitl [Hi0 H00]; · (isplitl [Hi0] <;> iassumption)
    isplitl [Hi H0]
    · rw [bl_sep]
      isplitl [Hi] <;> iassumption
    isplitl [H1]; · iexact H1
    isplitl [H2]; · iexact H2
    isplitl [H3]; · iexact H3
    isplitl [H4] <;> iassumption
  iintro ⟨HO, Hst, Hf⟩
  iapply Hk
  isplitl [HO]; · iexact HO
  isplitl [Hst]; · iexact Hst
  isplitl [Hz] <;> iassumption

end Cert.KernelIdeal.Pf

end
-- ==== Proof.KernelIdeal.Alloc.lean ====
/- The launch's resources: invariants, tokens and credit dealt to the devices. -/
module

public import proofs.«01_k».proof.Proof.KernelIdeal.Body

public import Idealize.ShloMosaic.Lib.Pipeline.Launch
public import Idealize.ShloMosaic.Lib.Pipeline.Kit

@[expose] public section

noncomputable section

namespace Cert.KernelIdeal.Pf

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Kc → ℕ)

/-- The cells a launch owns itself: every one but the barrier's. -/
abbrev Ko : Type := (Fin 8 × Fin 8) ⊕ ((Fin 8 × Fin 8) ⊕ (Fin 8 × Fin 5))
abbrev osem (k : Ko) : SemLoc sig := sl (.inr k)

/-- A product over a device's cells, by kind. -/
theorem by_kind (Φ : Kc → sProp (MT nD τ sig Unit (Elt F) ℕ UU ℕ)) :
    bigSep Finset.univ Φ = iprop(Φ kB ∗ bigSep Finset.univ fun k : Ko => Φ (.inr k)) := by
  rw [bigSep_univ_sum, bigSep_univ_eq_bigSepL [()] (by decide) (by decide) fun a => Φ (.inl a)]
  rfl
theorem by_kind' (Φ : Ko → sProp (MT nD τ sig Unit (Elt F) ℕ UU ℕ)) :
    bigSep Finset.univ Φ = iprop((bigSep Finset.univ fun x : Fin 8 × Fin 8 => Φ (.inl x)) ∗ (bigSep Finset.univ fun x : Fin 8 × Fin 8 => Φ (.inr (.inl x)))
      ∗ bigSep Finset.univ fun x : Fin 8 × Fin 5 => Φ (.inr (.inr x))) := by
  rw [bigSep_univ_sum, bigSep_univ_sum]
  rfl

/-! ## The tokens, dealt -/

/-- The tokens of a device's own cells, as minted. -/
def toks (d : Dev nD) : sProp 𝕄 := bigSep Finset.univ fun k : Kc => bigSep Finset.univ fun j : Fin 6 => tok d k j
/-- The tokens of the duties a device discharges. -/
def payToks (d : Dev nD) : sProp 𝕄 :=
  iprop((bigSep Finset.univ fun j : Fin 6 => tok (peer j d) kB j) ∗ (bigSep Finset.univ fun x : Fin 8 × Fin 8 => tk d x.1 x.2)
    ∗ bigSep Finset.univ fun x : Fin 8 × Fin 5 => tok d (kC x.1 x.2) 0)

/-- The barrier's tokens go across the masks. -/
theorem bar_around (Φ : Dev nD → Fin 6 → sProp (MT nD τ sig Unit (Elt F) ℕ UU ℕ)) :
    (bigSep Finset.univ fun d : Dev nD => bigSep Finset.univ fun j : Fin 6 => Φ d j) = bigSep Finset.univ fun d : Dev nD => bigSep Finset.univ fun j : Fin 6 => Φ (peer j d) j := by
  simp only [b6, bigSep_sep']
  rw [bigSep_univ_equiv (peerE 0) fun d => Φ d 0, bigSep_univ_equiv (peerE 1) fun d => Φ d 1, bigSep_univ_equiv (peerE 2) fun d => Φ d 2,
    bigSep_univ_equiv (peerE 3) fun d => Φ d 3, bigSep_univ_equiv (peerE 4) fun d => Φ d 4, bigSep_univ_equiv (peerE 5) fun d => Φ d 5]
  rfl

/-- A transfer's two ends. -/
def endE : (Dev nD × (Fin 8 × Fin 8)) ≃ (Dev nD × (Fin 8 × Fin 8)) where
  toFun y := (P y.2.1 y.2.2 y.1, y.2)
  invFun y := (P y.2.1 y.2.2 y.1, y.2)
  left_inv y := by show (P _ _ (P _ _ y.1), y.2) = y; rw [P_P]
  right_inv y := by show (P _ _ (P _ _ y.1), y.2) = y; rw [P_P]
/-- The landings' tokens go to the senders. -/
theorem land_around (Φ : Dev nD → Fin 8 × Fin 8 → sProp (MT nD τ sig Unit (Elt F) ℕ UU ℕ)) :
    (bigSep Finset.univ fun d : Dev nD => bigSep Finset.univ fun x : Fin 8 × Fin 8 => Φ d x)
      = bigSep Finset.univ fun d : Dev nD => bigSep Finset.univ fun x : Fin 8 × Fin 8 => Φ (P x.1 x.2 d) x := by
  rw [← bigSep_univ_prod fun y : Dev nD × (Fin 8 × Fin 8) => Φ y.1 y.2, bigSep_univ_equiv endE, bigSep_univ_prod]
  rfl

theorem tok_first (d : Dev nD) (k : Kc) : (bigSep Finset.univ fun j : Fin 6 => tok (F := F) d k j) ⊢ tok d k 0 := bigSep_elim_c (Finset.mem_univ 0)

theorem toks_split (d : Dev nD) :
    toks (F := F) d ⊢ iprop((bigSep Finset.univ fun j : Fin 6 => tok (F := F) d kB j) ∗ (bigSep Finset.univ fun x : Fin 8 × Fin 8 => tok (F := F) d (kS x.1 x.2) 0)
      ∗ (bigSep Finset.univ fun x : Fin 8 × Fin 8 => tok (F := F) d (kR x.1 x.2) 0) ∗ bigSep Finset.univ fun x : Fin 8 × Fin 5 => tok (F := F) d (kC x.1 x.2) 0) := by
  unfold toks
  rw [by_kind, by_kind']
  iintro ⟨HB, HS, HR, HC⟩
  isplitl [HB]; · iexact HB
  isplitl [HS]
  · iapply (show (bigSep Finset.univ fun x : Fin 8 × Fin 8 => bigSep Finset.univ fun j : Fin 6 => tok (F := F) d (.inr (.inl x)) j) ⊢ bigSep Finset.univ fun x : Fin 8 × Fin 8 => tok (F := F) d (kS x.1 x.2) 0
      from bigSep_mono fun x _ => tok_first d _) $$ HS
  isplitl [HR]
  · iapply (show (bigSep Finset.univ fun x : Fin 8 × Fin 8 => bigSep Finset.univ fun j : Fin 6 => tok (F := F) d (.inr (.inr (.inl x))) j) ⊢ bigSep Finset.univ fun x : Fin 8 × Fin 8 => tok (F := F) d (kR x.1 x.2) 0
      from bigSep_mono fun x _ => tok_first d _) $$ HR
  iapply (show (bigSep Finset.univ fun x : Fin 8 × Fin 5 => bigSep Finset.univ fun j : Fin 6 => tok (F := F) d (.inr (.inr (.inr x))) j) ⊢ bigSep Finset.univ fun x : Fin 8 × Fin 5 => tok (F := F) d (kC x.1 x.2) 0
    from bigSep_mono fun x _ => tok_first d _) $$ HC

theorem toks_around : (bigSep Finset.univ fun d : Dev nD => (toks (F := F) d)) ⊢ bigSep Finset.univ fun d : Dev nD => payToks (F := F) d := by
  refine BI.Entails.trans (bigSep_mono fun d _ => toks_split d) ?_
  unfold payToks tk
  simp only [bigSep_sep']
  rw [bar_around fun d j => tok (F := F) d kB j, land_around fun d x => tok (F := F) d (kR x.1 x.2) 0]
  have e (A B C D : sProp (MT nD τ sig Unit (Elt F) ℕ UU ℕ)) : iprop(A ∗ B ∗ C ∗ D) = iprop(A ∗ (B ∗ C) ∗ D) := by rw [sepA]
  rw [e]
  exact BI.Entails.refl _

/-! ## The invariants -/

def ringCells : Finset (GSem nD τ sig) := Finset.univ.map ⟨kcell, kcell_injective⟩
abbrev tokOf (x : (Dev nD × Kc) × Fin 6) : GSem nD τ sig × ℕ × Fin 6 := (kcell x.1, 0, x.2)
theorem tokOf_injective : Function.Injective tokOf := by
  rintro ⟨x, j⟩ ⟨y, i⟩ h
  have h1 := kcell_injective (congrArg Prod.fst h)
  have h2 := congrArg (fun z => z.2.2) h
  exact Prod.ext h1 h2
def ringToks : Finset (GSem nD τ sig × ℕ × Fin 6) := Finset.univ.map ⟨tokOf, tokOf_injective⟩
def u₀ : UU := (initOf (Pipeline.cells cfgs cellOf_inj) (Pipeline.launchToks cfgs cellOf_inj), initOf ringCells ringToks)

/-- What the launch deals a device. -/
def G (d : Dev nD) : sProp 𝕄 :=
  iprop((bigSep Finset.univ fun k : Kc => roundState ER (Rd m) (kcell (d, k)) 0)
    ∗ (bigSep Finset.univ fun k : Kc => pos d k) ∗ (bigSep Finset.univ fun k : Kc => reached ER (kcell (d, k)) 0) ∗ toks d)
/-- What it has once the invariants stand. -/
def lin (d : Dev nD) : sProp 𝕄 := iprop((bigSep Finset.univ fun k : Kc => pos d k) ∗ payToks d)
def recs : sProp 𝕄 :=
  iprop((bigSep Finset.univ fun x : Dev nD × Kc => cellInv ER (Rd (F := F) m) (K x) (kcell x))
    ∗ (bigSep Finset.univ fun x : Dev nD × Kc => reached ER (kcell x) 0))
instance recs_persistent : BI.Persistent (recs (F := F) m K) := by unfold recs; infer_instance
def G' (d : Dev nD) : sProp 𝕄 := iprop(∃ K, recs m K ∗ lin d)

theorem fund_ring : BI.own (ER (initOf ringCells ringToks)) ⊢ (|==> bigSep Finset.univ (G m) : sProp 𝕄) := by
  have hX (Φ : GSem nD τ sig → sProp 𝕄) : bigSep ringCells Φ = bigSep Finset.univ fun d : Dev nD => bigSep Finset.univ fun k : Kc => Φ (kcell (d, k)) := by
    unfold ringCells; rw [bigSep_map, bigSep_univ_prod]; rfl
  have hT : bigSep ringToks (fun x => (dutyTok ER x.1 x.2.1 x.2.2 : sProp 𝕄)) = bigSep Finset.univ fun d : Dev nD => toks d := by
    unfold ringToks; rw [bigSep_map, bigSep_univ_prod, bigSep_univ_prod]; rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr] <;> iassumption

/-- The barrier's counter is the launch's one unscoped one. -/
theorem unscopedSems0_eq (d : Dev nD) : (unscopedSems0 d : sProp 𝕄) = zro d kB := by
  unfold unscopedSems0; rw [bigSep_eq_bigSepL_of_eq [SemLoc.reg barS] (by decide) (by decide)]; rfl

theorem core_alloc (d : Dev nD) :
    iprop(Pipeline.ownSems0 (Ix := Unit) (Name := ℕ) (U := UU) (Lvl := ℕ) (Val := Elt F) (τ := τ) osem d ∗ unscopedSems0 d ∗ G m d)
      ⊢ |={Set.univ}=> iprop((bigSep Finset.univ fun k => iprop(∃ κ : ℕ, cellInv ER (Rd m) κ (kcell (d, k))))
          ∗ (bigSep Finset.univ fun k : Kc => pos d k) ∗ (bigSep Finset.univ fun k : Kc => reached ER (kcell (d, k)) 0) ∗ toks d) := by
  unfold G
  rw [unscopedSems0_eq]
  iintro ⟨Ho, Hu, Hst, Hat, Hr, Htok⟩
  ihave Hv := (Entails.of_eq (show iprop(zro (F := F) d kB ∗ bigSep Finset.univ fun k : Ko => zro d (.inr k)) = (bigSep Finset.univ fun k : Kc => semVal (kcell (d, k)) 0)
      from (by_kind fun k => zro d k).symm)) $$ [Ho Hu]
  · isplitl [Hu]; · iexact Hu
    unfold Pipeline.ownSems0
    iexact Ho
  imod (show iprop((bigSep Finset.univ fun k : Kc => semVal (kcell (d, k)) 0) ∗ bigSep Finset.univ fun k : Kc => roundState ER (Rd m) (kcell (d, k)) 0)
      ⊢ (|={Set.univ}=> bigSep Finset.univ fun k => iprop(∃ κ : ℕ, cellInv ER (Rd m) κ (kcell (d, k))) : sProp 𝕄) from by
        rw [← bigSep_sep']
        exact (bigSep_mono fun k _ => (Rounds.body_intro ER (Rd m) (kcell (d, k))).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

theorem G'_intro (d : Dev nD) : iprop(recs m K ∗ lin d) ⊢ G' m d := by
  unfold G'
  iintro H
  iexists K; iexact H

theorem with_persistent {I : Type} {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  classical
  exact (sep_mono_left (BI.bigSep_of_persistent S R)).trans (by rw [← bigSep_sep']; exact bigSep_mono h)

theorem regroup :
    (bigSep Finset.univ fun d : Dev nD => iprop((bigSep Finset.univ fun k => iprop(∃ κ : ℕ, cellInv ER (Rd (F := F) m) κ (kcell (d, k))))
          ∗ (bigSep Finset.univ fun k : Kc => pos d k) ∗ (bigSep Finset.univ fun k : Kc => reached ER (kcell (d, k)) 0) ∗ toks d) : sProp 𝕄)
      ⊢ bigSep Finset.univ (G' m) := by
  classical
  rw [bigSep_sep', bigSep_sep', bigSep_sep', ← bigSep_univ_prod (fun x : Dev nD × Kc => iprop(∃ κ : ℕ, cellInv ER (Rd m) κ (kcell x))),
    ← bigSep_univ_prod (fun x : Dev nD × Kc => (reached ER (kcell x) 0 : sProp 𝕄))]
  iintro ⟨HI, Hat, #HR, Htok⟩
  ihave HK := (BI.bigSep_exists_pi Finset.univ (fun (x : Dev nD × Kc) (κ : ℕ) => (cellInv ER (Rd m) κ (kcell x) : sProp 𝕄))) $$ HI
  icases HK with ⟨%K, #HI⟩
  ihave Htk := (toks_around (F := F)) $$ Htok
  iapply (with_persistent (R := recs m K) fun d _ => G'_intro m K d)
  isplitr
  · unfold recs
    isplitl; · iexact HI
    iexact HR
  · unfold lin
    rw [bigSep_sep']
    isplitl [Hat] <;> iassumption

theorem glob : (bigSep Finset.univ fun d => iprop(Pipeline.ownSems0 (Ix := Unit) (Name := ℕ) (U := UU) (Lvl := ℕ) (Val := Elt F) (τ := τ) osem d ∗ unscopedSems0 d ∗ G m d) : sProp 𝕄)
    ⊢ |={Set.univ}=> bigSep Finset.univ (G' m) :=
  ((bigSep_mono fun d _ => core_alloc m d).trans (bigSep_fupd _ _)).trans (BI.fupd_mono (regroup m))

/-! ## The launch credit -/

/-- What a device is owed, by the transfers to come. -/
def crs (d : Dev nD) : List Sl → sProp 𝕄
  | [] => iprop(emp)
  | x :: l => iprop(cred (tallyAt ((d : Thread nD τ), sl (kd x)) () (amt (kd x))) ∗ crs d l)

/-- One transfer's credit: its sender owes exactly this device's cell. -/
theorem cred_one (x : Sl) (d : Dev nD) :
    (Pipeline.launchCred (fun e : Dev nD => tallyAt ((tgt x e : Thread nD τ), sl (kd x)) () (amt (kd x))) d : sProp 𝕄)
      ⊢ cred (tallyAt ((d : Thread nD τ), sl (kd x)) () (amt (kd x))) := by
  refine (Pipeline.launchCred_elim _ d (sl (kd x))).trans (Entails.of_eq (congrArg _ ?_))
  unfold tallyAt
  refine congrArg _ (Finsupp.ext fun u => ?_)
  cases u
  rw [Pipeline.launchCredit_owing, Finsupp.single_eq_same, Finset.sum_eq_single (tgt x d)]
  · rw [tgt_tgt]
    show (tallyAt ((d : Thread nD τ), sl (kd x)) () (amt (kd x)) : CellTallies nD τ sig Unit) _ _ = _
    rw [tallyAt_apply, if_pos ⟨rfl, rfl⟩]
  · intro e _ he
    show (tallyAt ((tgt x e : Thread nD τ), sl (kd x)) () (amt (kd x)) : CellTallies nD τ sig Unit) _ _ = _
    rw [tallyAt_apply, if_neg]
    rintro ⟨h, -⟩
    have h1 : d = tgt x e := congrArg (fun g : GSem nD τ sig => g.1.1) h
    exact he (by rw [h1, tgt_tgt])
  · exact fun h => absurd (Finset.mem_univ _) h

theorem creds_of (d : Dev nD) : ∀ l : List Sl, (Pipeline.launchCred (fun e : Dev nD => owed e l) d : sProp 𝕄) ⊢ crs d l
  | [] => by
    show (Pipeline.launchCred (fun e : Dev nD => (0 : CellTallies nD τ sig Unit)) d : sProp 𝕄) ⊢ iprop(emp)
    rw [Pipeline.launchCred_zero]
  | x :: l => by
    show (Pipeline.launchCred (fun e : Dev nD => owed e l + tallyAt ((tgt x e : Thread nD τ), sl (kd x)) () (amt (kd x))) d : sProp 𝕄)
      ⊢ iprop(cred (tallyAt ((d : Thread nD τ), sl (kd x)) () (amt (kd x))) ∗ crs d l)
    rw [Pipeline.launchCred_add]
    have h1 := creds_of d l
    have h2 := cred_one (F := F) x d
    exact (BIClass.sep_mono h1 h2).trans (Entails.of_eq (sepC _ _))

theorem crs_append (d : Dev nD) (l l' : List Sl) : crs (F := F) d (l ++ l') = iprop(crs d l ∗ crs d l') := by
  induction l with
  | nil => exact (eq_biE emp_sep).symm
  | cons x l ih =>
    show iprop(_ ∗ crs d (l ++ l')) = iprop((_ ∗ crs d l) ∗ crs d l')
    rw [ih, sepA]
theorem crs_flat (d : Dev nD) (g : Fin 8 → List Sl) (l : List (Fin 8)) : crs (F := F) d (l.flatMap g) = bl (fun c => crs d (g c)) l := by
  induction l with
  | nil => rfl
  | cons c l ih =>
    rw [List.flatMap_cons, crs_append, ih]
    rfl

/-- The credit of the transfers, by chunk and slot. -/
theorem crs_rem (d : Dev nD) : crs (F := F) d (rem 0 eight) ⊢ bigSep Finset.univ fun x : Fin 8 × Fin 8 => crd d (kR x.1 x.2) := by
  show crs (F := F) d (eight.flatMap (its 0) ++ (eight.flatMap (its 1) ++ (eight.flatMap (its 2) ++ (eight.flatMap (its 3) ++ [])))) ⊢ _
  rw [crs_append, crs_append, crs_append, crs_append, crs_flat, crs_flat, crs_flat, crs_flat, bigSep_univ_prod]
  rw [show (bigSep Finset.univ fun c : Fin 8 => bigSep Finset.univ fun k : Fin 8 => crd (F := F) d (kR (c, k).1 (c, k).2)) = bl (fun c => bigSep Finset.univ fun k : Fin 8 => crd (F := F) d (kR c k)) eight from bl_univ _]
  refine (show _ ⊢ bl (fun c => iprop(crs (F := F) d (its 0 c) ∗ crs d (its 1 c) ∗ crs d (its 2 c) ∗ crs d (its 3 c))) eight from ?_).trans (bl_mono (fun c => ?_) eight)
  · simp only [bl_sep]
    iintro ⟨H0, H1, H2, H3, -⟩
    isplitl [H0]; · iexact H0
    isplitl [H1]; · iexact H1
    isplitl [H2] <;> iassumption
  · rw [b8]
    show iprop((crd (F := F) d (kR c 0) ∗ emp) ∗ (crd d (kR c 1) ∗ crd d (kR c 2) ∗ crd d (kR c 3) ∗ emp) ∗ (crd d (kR c 4) ∗ crd d (kR c 5) ∗ crd d (kR c 6) ∗ emp) ∗ (crd d (kR c 7) ∗ emp)) ⊢ _
    iintro ⟨⟨H0, -⟩, ⟨H1, H2, H3, -⟩, ⟨H4, H5, H6, -⟩, H7, -⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem cred_plus (d : Dev nD) (k : Kc) (a b : ℕ) :
    (iprop(cred (tallyAt ((d : Thread nD τ), sl k) () a) ∗ cred (tallyAt ((d : Thread nD τ), sl k) () b)) : sProp 𝕄) ⊢ cred (tallyAt ((d : Thread nD τ), sl k) () (a + b)) := by
  rw [show (tallyAt ((d : Thread nD τ), sl k) () (a + b) : CellTallies nD τ sig Unit) = tallyAt ((d : Thread nD τ), sl k) () a + tallyAt ((d : Thread nD τ), sl k) () b from (tallyAt_add _ _ _ _).symm]
  exact (cred_add _ _).2

/-- The credit of the six signals. -/
theorem crs_sigs (d : Dev nD) : crs (F := F) d sigs ⊢ cred (tallyAt ((d : Thread nD τ), sl kB) () 6) := by
  show iprop(crd (F := F) d kB ∗ crd d kB ∗ crd d kB ∗ crd d kB ∗ crd d kB ∗ crd d kB ∗ emp) ⊢ _
  iintro ⟨H0, H1, H2, H3, H4, H5, -⟩
  iapply (cred_plus d kB 1 5)
  isplitl [H0]; · iexact H0
  iapply (cred_plus d kB 1 4)
  isplitl [H1]; · iexact H1
  iapply (cred_plus d kB 1 3)
  isplitl [H2]; · iexact H2
  iapply (cred_plus d kB 1 2)
  isplitl [H3]; · iexact H3
  iapply (cred_plus d kB 1 1)
  isplitl [H4]; · iexact H4
  iexact H5

/-- What a device owes at launch. -/
abbrev O₀ (d : Dev nD) : CellTallies nD τ sig Unit := owed d (sigs ++ rem 0 eight)
theorem creds (d : Dev nD) :
    (Pipeline.launchCred O₀ d : sProp 𝕄) ⊢ iprop(cred (tallyAt ((d : Thread nD τ), sl kB) () 6) ∗ bigSep Finset.univ fun x : Fin 8 × Fin 8 => crd d (kR x.1 x.2)) := by
  refine (creds_of d (sigs ++ rem 0 eight)).trans ?_
  rw [crs_append]
  exact BIClass.sep_mono (crs_sigs d) (crs_rem d)

end Cert.KernelIdeal.Pf

end
-- ==== Proof.KernelIdeal.ProgEq.lean ====
/- The printed body is the tabled program. -/
module

public import proofs.«01_k».proof.Proof.KernelIdeal.Prog

@[expose] public section

noncomputable section

namespace Cert.KernelIdeal.Pf

open Idealize.ShloMosaic Idealize.SL.Sem Cert.KernelIdeal Cert.KernelIdeal.Gen

variable {F : FTy → Type} [FloatOps F]

set_option maxRecDepth 65536 in
/-- The printed body, on the launch's buffers, is the tabled program: by unfolding both. -/
theorem printed_eq : printed (F := F) = bodyAll := by chain_rfl

end Cert.KernelIdeal.Pf
-- ==== Proof.KernelIdeal.Run.lean ====
/- The launch: what the body starts from and ends with, its obligation, and the run of the whole program. -/
module

public import proofs.«01_k».proof.Proof.KernelIdeal.Alloc

public import Idealize.ShloMosaic.Lib.Pipeline.Launch
public import Idealize.ShloMosaic.Lib.Pipeline.Kit
public import Idealize.ShloMosaic.Lib.Pipeline.CollectiveSegs
public import proofs.«01_k».proof.Proof.Gen.KernelIdeal.Launch
public import proofs.«01_k».proof.Proof.KernelIdeal.ProgEq

@[expose] public section

noncomputable section

namespace Cert.KernelIdeal.Pf

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (ρ : Dev nD → PrngReg) (m : (ℓ : Loc nD τ sig) → Buf (Elt F) ℓ) (K : Dev nD × Kc → ℕ)

/-! ## The buffers -/

/-- A whole buffer at some contents. -/
theorem any_whole {s : Shape} (M : Memref sig .tc .vmem s .bf16) (h : M.IsWhole) (d : Dev nD) :
    (anyB M d : sProp 𝕄) = iprop(∃ f : Buf (Elt F) (M.view.loc (d : Thread nD τ)), (M.view.loc (d : Thread nD τ)) ↦{fullShare} f) := by
  unfold anyB
  rw [h.set_eq_univ]

/-- The buffers the launch allots that are no staged block. -/
abbrev scr : List (Ref sig .tc) :=
  [cc0_scratch0, cc0_scratch1,
    cc0_scratch2, cc0_scratch10, cc0_scratch11, cc0_scratch12, cc0_scratch3, cc0_scratch13, cc0_scratch14, cc0_scratch15,
    cc0_scratch4, cc0_scratch16, cc0_scratch17, cc0_scratch18, cc0_scratch5, cc0_scratch19, cc0_scratch20, cc0_scratch21,
    cc0_scratch6, cc0_scratch22, cc0_scratch23, cc0_scratch24, cc0_scratch7, cc0_scratch25, cc0_scratch26, cc0_scratch27,
    cc0_scratch8, cc0_scratch28, cc0_scratch29, cc0_scratch30, cc0_scratch9, cc0_scratch31, cc0_scratch32, cc0_scratch33]
set_option maxRecDepth 16384 in
theorem scr_all : (Finset.univ.filter fun b : Ref sig .tc => b.isScoped) \ Finset.univ.image (Pipeline.stageRef cfg0.spec) = scr.toFinset := by decide
set_option maxRecDepth 16384 in
theorem scr_nodup : scr.Nodup := by decide

set_option maxRecDepth 16384 in
theorem rest_eq (d : Dev nD) :
    (Pipeline.scopedRest (Ix := Unit) (Name := ℕ) (U := UU) (Lvl := ℕ) (Val := Elt F) cfg0.spec d : sProp 𝕄)
      = iprop((∃ G, wB d Finset.univ fullShare G) ∗ (∃ g, fB d Finset.univ g) ∗ landAll d) := by
  rw [Pipeline.scopedRest_eq_of_list cfg0.spec d scr scr_all scr_nodup]
  unfold landAll
  rw [bigSep_univ_prod, b8]
  simp only [b4]
  rw [show (land (F := F) d) = fun x => match x.2 with
    | 0 => anyB (r0M x.1) d
    | 1 => anyB (r1M x.1 0) d
    | 2 => anyB (r1M x.1 1) d
    | 3 => anyB (r1M x.1 2) d from funext fun x => rfl]
  dsimp only
  simp only [any_whole _ (r0M_whole _), any_whole _ (r1M_whole _ _), sepA]
  rfl

/-! ## A device's start and end, by chunk -/

theorem bl_prod {n : ℕ} (Φ : Fin 8 → Fin n → sProp (MT nD τ sig Unit (Elt F) ℕ UU ℕ)) :
    bl (fun c => bigSep Finset.univ fun k : Fin n => Φ c k) eight = bigSep Finset.univ fun x : Fin 8 × Fin n => Φ x.1 x.2 := by
  rw [← bl_univ, bigSep_univ_prod]

theorem in0_of (d : Dev nD) : iprop(∃ G, wB (F := F) d Finset.univ fullShare G) ⊢ bl (fun c => in0 d c) eight := by
  iintro ⟨%G, H⟩
  ihave H := (Entails.of_eq (all_split (fun S => wB (F := F) d S fullShare G) (wB_union d fullShare G))) $$ H
  iapply (show bl (fun c => wB (F := F) d (rows (128 * c.val) 128) fullShare G) eight ⊢ bl (fun c => in0 d c) eight from bl_mono (fun c => by
    show _ ⊢ iprop(∃ G, wB (F := F) d (rows (128 * c.val) 128) fullShare G)
    iintro H; iexists G; iexact H) eight) $$ H
theorem f_of (d : Dev nD) : iprop(∃ g, fB (F := F) d Finset.univ g) ⊢ bl (fun c => iprop(∃ g, fB d (rows (128 * c.val) 128) g)) eight := by
  iintro ⟨%G, H⟩
  ihave H := (Entails.of_eq (all_split (fun S => fB (F := F) d S G) (fB_union d G))) $$ H
  iapply (show bl (fun c => fB (F := F) d (rows (128 * c.val) 128) G) eight ⊢ bl (fun c => iprop(∃ g, fB d (rows (128 * c.val) 128) g)) eight from bl_mono (fun c => fB_ex d _ G) eight) $$ H
theorem o_of (d : Dev nD) (G : S1024x1024.Idx → Elt F .f32) : (oB (F := F) d Finset.univ G) ⊢ bl (fun c => iprop(∃ g, oB d (rows (128 * c.val) 128) g)) eight := by
  iintro H
  ihave H := (Entails.of_eq (all_split (fun S => oB (F := F) d S G) (oB_union d G))) $$ H
  iapply (show bl (fun c => oB (F := F) d (rows (128 * c.val) 128) G) eight ⊢ bl (fun c => iprop(∃ g, oB d (rows (128 * c.val) 128) g)) eight from bl_mono (fun c => oB_ex d _ G) eight) $$ H

/-- What a chunk starts with, all chunks together. -/
theorem sts_eq (d : Dev nD) :
    bl (fun c => st (F := F) d c) eight
      = iprop((bigSep Finset.univ fun x : Fin 8 × Fin 8 => tk d x.1 x.2)
        ∗ ((bigSep Finset.univ fun x : Fin 8 × Fin 8 => crd d (kR x.1 x.2)) ∗ (bigSep Finset.univ fun x : Fin 8 × Fin 8 => pos d (kR x.1 x.2)))
        ∗ (bigSep Finset.univ fun x : Fin 8 × Fin 8 => pos d (kS x.1 x.2))
        ∗ (bigSep Finset.univ fun x : Fin 8 × Fin 5 => tok d (kC x.1 x.2) 0) ∗ (bigSep Finset.univ fun x : Fin 8 × Fin 5 => pos d (kC x.1 x.2))
        ∗ bl (fun c => iprop(∃ g, fB d (rows (128 * c.val) 128) g)) eight ∗ bl (fun c => iprop(∃ g, oB d (rows (128 * c.val) 128) g)) eight) := by
  unfold st
  simp only [bl_sep]
  rw [bl_prod fun c k => tk (F := F) d c k, bl_prod fun c k => rk (F := F) d c k, bl_prod fun c k => pos (F := F) d (kS c k),
    bl_prod fun c k => tok (F := F) d (kC c k) 0, bl_prod fun c k => pos (F := F) d (kC c k)]
  unfold rk
  rw [bigSep_sep']

/-- What the launch deals a device to start from. -/
def start (d : Dev nD) : sProp 𝕄 :=
  iprop(G' m d ∗ (cred (tallyAt ((d : Thread nD τ), sl kB) () 6) ∗ bigSep Finset.univ fun x : Fin 8 × Fin 8 => crd d (kR x.1 x.2))
    ∗ levAts L lv ∗ oB d Finset.univ (m ((d : Thread nD τ).loc main_v1)))
/-- Before the body. -/
def Φ₀ (d : Dev nD) : sProp 𝕄 := iprop(∃ K, Rec m K ∗ kit d)

theorem kit_intro (d : Dev nD) (G : S1024x1024.Idx → Elt F .f32) :
    iprop(lin (F := F) d ∗ (cred (tallyAt ((d : Thread nD τ), sl kB) () 6) ∗ bigSep Finset.univ fun x : Fin 8 × Fin 8 => crd d (kR x.1 x.2))
      ∗ oB d Finset.univ G ∗ (∃ G, wB d Finset.univ fullShare G) ∗ (∃ g, fB d Finset.univ g) ∗ landAll d) ⊢ kit d := by
  unfold lin payToks kit
  rw [by_kind, by_kind', sts_eq]
  iintro ⟨⟨⟨HpB, HpS, HpR, HpC⟩, HtB, Htk, HtC⟩, ⟨Hc, HcR⟩, Ho, Hw, Hf, Hl⟩
  ihave Hw := (in0_of d) $$ Hw
  ihave Hf := (f_of d) $$ Hf
  ihave Ho := (o_of d G) $$ Ho
  isplitl [Hc]; · iexact Hc
  isplitl [HpB]; · iexact HpB
  isplitl [HtB]; · iexact HtB
  isplitl [Hl]; · iexact Hl
  isplitl [Hw]; · iexact Hw
  isplitl [Htk]; · iexact Htk
  isplitl [HcR HpR]
  · isplitl [HcR]; · iexact HcR
    iexact HpR
  isplitl [HpS]; · iexact HpS
  isplitl [HtC]; · iexact HtC
  isplitl [HpC]; · iexact HpC
  isplitl [Hf] <;> iassumption

theorem phi0_intro (d : Dev nD) :
    iprop(start m d ∗ Pipeline.prefHeld Pipeline.Prefetch.none d (fun _ => fullShare.right) (fun k => k.elim0) ∗ Pipeline.scopedRest cfg0.spec d) ⊢ Φ₀ m d := by
  rw [rest_eq]
  unfold start G' Φ₀ recs Rec
  iintro ⟨⟨⟨%K, ⟨#HI, #HR⟩, Hlin⟩, Hc, #Hlev, Ho⟩, -, Hs⟩
  iexists K
  isplitr
  · isplitr; · iexact HI
    isplitr; · iexact HR
    iexact Hlev
  iapply (kit_intro d (m ((d : Thread nD τ).loc main_v1)))
  isplitl [Hlin]; · iexact Hlin
  isplitl [Hc]; · iexact Hc
  isplitl [Ho]; · iexact Ho
  iexact Hs

/-- What every chunk ends with, all chunks together. -/
theorem fins_eq (d : Dev nD) :
    bl (fun c => fin m d c) eight
      = iprop(wB d Finset.univ fullShare (FB m) ∗ fB d Finset.univ (OUT m) ∗ oB d Finset.univ (OUT m) ∗ landAll d
        ∗ (bigSep Finset.univ fun x : Fin 8 × Fin 8 => zro d (kS x.1 x.2)) ∗ (bigSep Finset.univ fun x : Fin 8 × Fin 8 => zro d (kR x.1 x.2))
        ∗ (bigSep Finset.univ fun x : Fin 8 × Fin 5 => zro d (kC x.1 x.2))) := by
  unfold fin landAll
  simp only [bl_sep]
  rw [bl_prod fun c k => land (F := F) d (c, k), bl_prod fun c k => zro (F := F) d (kS c k), bl_prod fun c k => zro (F := F) d (kR c k),
    bl_prod fun c k => zro (F := F) d (kC c k), all_split (fun S => wB (F := F) d S fullShare (FB m)) (wB_union d fullShare (FB m)),
    all_split (fun S => fB (F := F) d S (OUT m)) (fB_union d (OUT m)), all_split (fun S => oB (F := F) d S (OUT m)) (oB_union d (OUT m))]

theorem phi1_exit (d : Dev nD) :
    done m d ⊢ iprop((unscopedSems0 d ∗ oB d Finset.univ (OUT m)) ∗ Pipeline.ownSems0 osem d ∗ Pipeline.scopedRest cfg0.spec d) := by
  unfold done Pipeline.ownSems0
  rw [rest_eq, fins_eq, unscopedSems0_eq, by_kind']
  iintro ⟨Hz, Hw, Hf, Ho, Hl, HS, HR, HC⟩
  isplitl [Hz Ho]
  · isplitl [Hz]; · iexact Hz
    iexact Ho
  isplitl [HS HR HC]
  · isplitl [HS]; · iexact HS
    isplitl [HR]; · iexact HR
    iexact HC
  isplitl [Hw]; · iexists (FB m); iexact Hw
  isplitl [Hf]; · iexists (OUT m); iexact Hf
  iexact Hl

/-! ## The pipeline's proof data -/

def dats (_ : Fin 1) (d : Dev nD) : Dat τ (Elt F) Unit ℕ UU ℕ cfg0 d where
  A w := m ((cfg0.win w).arr.view.loc (d : Thread nD τ))
  after w _ := match w with
    | ⟨0, _⟩ => aX m d
    | ⟨1, _⟩ => bX m d
  Φ t := match t with
    | ⟨0, _⟩ => Φ₀ m d
    | ⟨_ + 1, _⟩ => done m d
  q _ := fullShare
  owed t := match t with
    | ⟨0, _⟩ => O₀ d
    | ⟨_ + 1, _⟩ => 0

theorem after_zero (d : Dev nD) (t) : (dats m 0 d).after (0 : Fin 2) t = aX m d := rfl
theorem after_one (d : Dev nD) (t) : (dats m 0 d).after (1 : Fin 2) t = bX m d := rfl
theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)
theorem fetch_at (w : Fin 2) (t : Fin cfg0.N) : (cfg0.win w).fetch t = true := by rw [fin_N t]; fin_cases w <;> rfl
theorem two (Φ : Fin cfg0.W → sProp 𝕄) : bigSep Finset.univ Φ = iprop(Φ (0 : Fin 2) ∗ Φ (1 : Fin 2)) := bigSep_W0 Φ

theorem Φ_zero (d : Dev nD) : (dats m 0 d).Φ t₀.castSucc = Φ₀ m d := rfl
theorem Φ_one (d : Dev nD) : (dats m 0 d).Φ t₀.succ = done m d := rfl

/-- A staged block, held whole. -/
abbrev stg (d : Dev nD) (b : Ref sig .tc) (X : b.ty.Contents (Elt F)) : sProp 𝕄 :=
  iprop(∃ f : Buf (Elt F) ((d : Thread nD τ).loc b), ⌜f = X⌝ ∗ (((d : Thread nD τ).loc b) ↦{fullShare} f))
theorem owns_eq (d : Dev nD) (b : Ref sig .tc) (X : b.ty.Contents (Elt F)) :
    (owns (Ix := Unit) (Name := ℕ) (U := UU) (Lvl := ℕ) (d : Thread nD τ) (Memref.whole b) fullShare X : sProp 𝕄) = stg d b X := by
  unfold owns; simp only [Memref.view_whole, View.read_whole, View.set_whole]

def bodyPre (d : Dev nD) : sProp 𝕄 :=
  iprop(Φ₀ m d ∗ (dats m 0 d).owesAt () t₀.castSucc
    ∗ (∃ e, stg d cc0_stg0_0 ((dats m 0 d).before (0 : Fin 2) t₀ e))
    ∗ (∃ e, stg d cc0_stg1_0 ((dats m 0 d).before (1 : Fin 2) t₀ e)))
def bodyPost (d : Dev nD) : sProp 𝕄 :=
  iprop(done m d ∗ (dats m 0 d).owesAt () t₀.succ ∗ stg d cc0_stg0_0 (aX m d) ∗ stg d cc0_stg1_0 (bX m d))

/-- The body, from what the launch hands it to what it hands back. -/
theorem sound_body (d : Dev nD) (p : Pr F) (hp : p = bodyAll) : bodyPre m d ⊢ wpd d p (fun _ => bodyPost m d) := by
  subst hp
  unfold bodyPre Φ₀
  iintro ⟨⟨%K, HR, Hk⟩, Ho, ⟨%e0, %g0, %h0, Ha⟩, ⟨%e1, %g1, %h1, Hb⟩⟩
  have ha : g0 = aX m d := by rw [h0]; unfold Dat.before; rw [if_pos (fetch_at 0 t₀)]; rfl
  have hb : g1 = bX m d := by rw [h1]; unfold Dat.before; rw [if_pos (fetch_at 1 t₀)]; rfl
  subst ha; subst hb
  unfold Dat.owesAt Pipeline.owesWithin
  icases Ho with ⟨%W, %hW, HO⟩
  rw [show (dats m 0 d).owed t₀.castSucc = O₀ d from rfl]
  iapply (wp_body m K d fun _ => bodyPost m d) $$ [HR Hk Ha Hb HO]
  · isplitl [HR]; · iexact HR
    isplitl [HO]; · (unfold Ow; iexists W; iexact HO)
    isplitl [Ha Hb]
    · unfold stgs
      isplitl [Ha]; · iexact Ha
      iexact Hb
    iexact Hk
  unfold Ow stgs bodyPost Dat.owesAt Pipeline.owesWithin
  rw [show (dats m 0 d).owed t₀.succ = 0 from rfl]
  iintro ⟨⟨%W', HO⟩, ⟨Ha, Hb⟩, Hd⟩
  isplitl [Hd]; · iexact Hd
  isplitl [HO]
  · iexists W'
    isplitr; · ipureintro; exact fun _ _ => Or.inl trivial
    iexact HO
  isplitl [Ha]
  · iexists _; isplitr; · (ipureintro; rfl)
    iexact Ha
  iexists _; isplitr; · (ipureintro; rfl)
  iexact Hb

/-- What the launch runs at its one point. -/
theorem body_at : (defs₀ (F := F)) .tc 0 (t₀, cfg0.slots t₀) = printed := by chain_rfl

set_option maxRecDepth 16384 in
/-- The library's body obligation on a device. -/
theorem body_obligation (d : Dev nD) : BodyObligation (dats (F := F) m 0 d) (defs₀ (F := F)) 𝒱₀ () Set.univ := fun t => by
  rw [fin_N t]
  rw [two, two]
  simp only [owns_eq]
  rw [Φ_zero, Φ_one, after_zero, after_one]
  have h := sound_body m d _ (body_at.trans printed_eq)
  unfold bodyPre bodyPost wpd at h
  refine BIBase.Entails.trans (Entails.of_eq ?_) (BIBase.Entails.trans h (Entails.of_eq ?_))
  · congr 1
  · congr 1

/-! ## The side conditions -/

set_option maxRecDepth 16384 in
theorem osem_scoped : ∀ k : Ko, (osem k).isScoped .tc = true := by decide
set_option maxRecDepth 16384 in
theorem osem_disj : ∀ (k : Ko) (w : Fin cfg0.W) (s), osem k ≠ .dma ((cfg0.spec w).sem s) := by decide
theorem ownSemFacts : Pipeline.OwnSemFacts cfg0.spec osem :=
  ⟨osem_scoped, fun _ _ h => Sum.inr_injective (sl_injective h), osem_disj⟩

theorem share_eq (d : Dev nD) (w : Fin cfg0.W) : (dats m 0 d).share w = fullShare := by unfold Dat.share; split <;> rfl

theorem start_intro (d : Dev nD) :
    iprop(Pipeline.unscopedRestP Pipeline.Prefetch.none cfg0.spec d (fun b => m ((d : Thread nD τ).loc b)) ∗ levAts L lv
        ∗ Pipeline.launchCred O₀ d ∗ prngReg d (ρ d) ∗ G' m d)
      ⊢ |={Set.univ}=> iprop(start m d ∗ emp) := by
  rw [Pipeline.unscopedRestP_none, show (Pipeline.unscopedRest (Ix := Unit) (Name := ℕ) (U := UU) (Lvl := ℕ) cfg0.spec d (fun b => m ((d : Thread nD τ).loc b)) : sProp 𝕄) = _
    from unscopedRest0_eq d _]
  iintro ⟨Ho, Hlev, Hcr, -, HG⟩
  ihave Hc := (creds (F := F) d) $$ Hcr
  imodintro
  unfold start
  isplitl
  · isplitl [HG]; · iexact HG
    isplitl [Hc]; · iexact Hc
    isplitl [Hlev]; · iexact Hlev
    iexact Ho
  · iempintro

theorem owed_lvl : ∀ x ∈ (sigs ++ rem 0 eight : List Sl), 0 < lvl (kd x) := by decide

/-- Every staging wait comes before all that a device owes. -/
theorem waits (d : Dev nD) : (levAts L lv : sProp 𝕄) ⊢ Pipeline.cellsWaits cfgs (dats m) () 0 d :=
  Pipeline.cellsWaits_intro cfgs (dats m) () 0 d fun w s t => by
    rcases t with ⟨_ | t, ht⟩
    · refine mayWait_of d _ 0 (le_of_eq ?_) (sigs ++ rem 0 eight) owed_lvl
      refine Function.extend_apply' _ _ _ ?_
      rintro ⟨⟨e, k⟩, h⟩
      have h := congrArg Prod.snd h
      rcases k with k | k
      · cases h
      · exact osem_disj k w s h
    · show _ ⊢ MayWait _ _ () 0
      rw [MayWait_zero]
      iintro -
      iempintro

/-! ## The run -/

/-- What the run leaves on every device. -/
def QC (r : PUnit × MemSt nD τ sig (Elt F)) : Prop :=
  ∀ d : Dev nD, r.2.mem ((d : Thread nD τ).loc main_arg0) = m ((d : Thread nD τ).loc main_arg0)
    ∧ r.2.mem ((d : Thread nD τ).loc main_arg1) = m ((d : Thread nD τ).loc main_arg1) ∧ r.2.mem ((d : Thread nD τ).loc main_v1) = OUT m

theorem read_out (d : Dev nD) (s : Phys nD τ sig (Elt F)) :
    iprop(SI (Ix := Unit) (Name := ℕ) (U := UU) (Lvl := ℕ) s ∗ oB d Finset.univ (OUT m)) ⊢ ⌜s.mem.mem ((d : Thread nD τ).loc main_v1) = OUT m⌝ :=
  SI_pointsTo_agree.trans (BI.pure_mono fun h => funext fun i => h i (Finset.mem_univ i))

theorem fund : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

/-- What a device's end shows of the final memory. -/
def QY (d : Dev nD) (s : MemSt nD τ sig (Elt F)) : Prop :=
  (∀ sm : SemLoc sig, sm.isScoped .tc = false → s.sem ((d.tc : Thread nD τ), sm) = 0) ∧ s.mem ((d : Thread nD τ).loc main_v1) = OUT m
/-- What a device hands on to the end. -/
def fin' (d : Dev nD) : sProp 𝕄 := iprop(unscopedSems0 d ∗ oB d Finset.univ (OUT m))

theorem read_end (d : Dev nD) (s : Phys nD τ sig (Elt F)) :
    iprop(fin' m d ∗ emp ∗ SI s) ⊢ |={Set.univ}=> iprop(⌜QY m d s.mem⌝ ∗ SI s) := by
  unfold fin'
  iintro ⟨⟨Hu, Ho⟩, -, HSI⟩
  ihave %hv := (read_out m d s) $$ [HSI Ho]
  · isplitl [HSI] <;> iassumption
  imod (Pipeline.unscopedSems0_read (X := unscopedSems0 d) (c := d) fupd_intro s) $$ [Hu HSI] with ⟨%hz, HSI⟩
  · isplitl [Hu] <;> iassumption
  imodintro
  isplitr; · ipureintro; exact ⟨hz, hv⟩
  iexact HSI

theorem ends_at (s : MemSt nD τ sig (Elt F))
    (h : ∀ d : Dev nD, (∀ w, s.mem ((cfg0.win w).arr.view.loc (d : Thread nD τ)) = (dats m 0 d).arrAt w cfg0.N) ∧ QY m d s) : QC m (⟨⟩, s) :=
  fun d => ⟨((h d).1 (0 : Fin 2)).trans ((dats m 0 d).arrAt_in (0 : Fin 2) rfl _), ((h d).1 (1 : Fin 2)).trans ((dats m 0 d).arrAt_in (1 : Fin 2) rfl _), (h d).2.2⟩

set_option maxRecDepth 200000 in
/-- Every run ends, its arguments as they were, every counter at zero, the result on every device. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := fund m)
    (hglob := glob m)
    (hA := fun _ _ => rfl) (hpf := fun _ k => k.elim0)
    (X := start m) (Y := fin' m) (Z := fun _ => iprop(emp))
    (hX := start_intro ρ m) (hin := phi0_intro m) (hout := phi1_exit m)
    (QY := QY m) (hY := read_end m)
    (hQ := fun _ h hs => ⟨ends_at m _ fun d => ⟨(h d).1, (h d).2.2⟩, sem_eq_zero hs fun d => (h d).2.2.1⟩)

end Cert.KernelIdeal.Pf

end
-- ==== Proof.Value.lean ====
/- The values: over the extended reals, what every device's result holds is the whole product, its negative entries replaced by zero. -/
module

public import proofs.«01_k».proof.Proof.KernelIdeal.Run
public import proofs.«01_k».proof.Proof.Gen.ReferenceIdeal.Run
public import Idealize.ShloMosaic.PureOps.Ideal.Laws
public import Idealize.ShloMosaic.Lib.ValueIdx
public import Idealize.ShloMosaic.Lib.Layout
public import Idealize.ShloMosaic.Lib.MatmulPlain
public import Idealize.ShloMosaic.Lib.StackMember
public import Idealize.ShloMosaic.Lib.Pipeline.Value

@[expose] public section

noncomputable section

namespace Cert.Values

open Idealize.ShloMosaic Idealize.ShloMosaic.TcCoe Idealize.ShloMosaic.ValueIdx
open Cert.KernelIdeal Cert.KernelIdeal.Gen Cert.KernelIdeal.Pf

/-! ## Indices -/

/-- Column `512 d + k` of the first whole array, row `512 d + k` of the second: the `k`-th the block of device `d` holds. -/
def col (d : Fin 8) (k : Fin 512) : Fin 4096 := ⟨512 * d.val + k.val, by omega⟩

/-- A sum over the 4096 columns, block by block. -/
theorem sum_cols (g : Fin 4096 → EReal) : ∑ x, g x = ∑ d : Fin 8, ∑ k : Fin 512, g (col d k) := by
  rw [← Equiv.sum_comp (finProdFinEquiv (m := 8) (n := 512)) g, Fintype.sum_prod_type]
  refine Finset.sum_congr rfl fun d _ => Finset.sum_congr rfl fun k _ => congrArg g (Fin.ext ?_)
  show k.val + 512 * d.val = 512 * d.val + k.val
  omega

/-- The eight devices whose local products reach device `o`'s finished rows of chunk `c`, in the order they are added. -/
def order (c : Fin 8) (o : Dev nD) : List (Fin 8) :=
  [o, P c 0 o, P c (k1 0) o, P c 0 (P c (k1 0) o), P c (k1 1) o, P c 0 (P c (k1 1) o), P c (k1 2) o, P c 0 (P c (k1 2) o)]
/-- Every device is among them, once. -/
theorem order_perm (c : Fin 8) (o : Dev nD) : (order c o).Perm (List.finRange 8) := by revert c o; decide

/-- So adding in that order adds over all devices. -/
theorem sum_order (c : Fin 8) (o : Dev nD) (f : Fin 8 → EReal) :
    (((f o + f (P c 0 o)) + (f (P c (k1 0) o) + f (P c 0 (P c (k1 0) o)))) + (f (P c (k1 1) o) + f (P c 0 (P c (k1 1) o))))
      + (f (P c (k1 2) o) + f (P c 0 (P c (k1 2) o))) = ∑ d, f d := by
  rw [Fin.sum_univ_def, ← ((order_perm c o).map f).sum_eq]
  simp only [order, List.map_cons, List.map_nil, List.sum_cons, List.sum_nil, add_zero, add_assoc]

/-! ## The two products at an index -/

section Dots
open Cert.ReferenceIdeal.Gen

/-- The kernel's product of a chunk's rows and a block of the second array, at an index: a sum over the 512 columns. -/
theorem payDot_apply (a : Vec Ideal S128x512 .f32) (b : Vec Ideal S512x1024 .f32) (j : S128x1024.Idx) :
    (payDot a b j : EReal) = ∑ k : Fin 512, (a (ix2 (j 0) k) : EReal) * b (ix2 k (j 1)) := by
  have e : (payDot a b j : EReal)
      = FloatOps.matmul (F := Ideal) (φ₁ := .f32) (φ₂ := .f32) (DotDims.plain 128 512 1024) none a b (constant S128x1024 .f32 0x00000000#32) j := by
    unfold payDot k0_pay1
    simp only [shapeCast_self]
    rfl
  obtain ⟨r, y, rfl⟩ : ∃ (r : Fin 128) (y : Fin 1024), j = ix2 r y := ⟨j 0, j 1, eq_ix2 j⟩
  refine e.trans ((Ideal.matmul_plain_apply none a b _ r y).trans ?_)
  rw [constant_apply, Ideal.ofBits_zero_f32, zero_add]

/-- The reference's product at an index: a sum over the 4096 columns. -/
theorem refDot_apply (A : FVec Ideal Cert.ReferenceIdeal.S1024x4096 .f32) (B : FVec Ideal Cert.ReferenceIdeal.S4096x1024 .f32)
    (i : Cert.ReferenceIdeal.S1024x1024.Idx) :
    (Host.dotGeneral Cert.ReferenceIdeal.dot_S1024x4096_S4096x1024_S1024x1024_1_0_0_1_n_n none A B i : EReal)
      = ∑ k : Fin 4096, (A (ix2 (i 0) k) : EReal) * B (ix2 k (i 1)) := by
  obtain ⟨r, y, rfl⟩ : ∃ (r y : Fin 1024), i = ix2 r y := ⟨i 0, i 1, eq_ix2 i⟩
  exact StackMember.dotGeneral_plain_apply none A B r y

end Dots

/-! ## The blocks -/

variable (m : (ℓ : Loc nD τ sig) → Buf (Elt Ideal) ℓ)

/-- A chunk's row of the first array's block is that row of the block. -/
theorem aT_apply (c : Fin 8) (d : Dev nD) (r : Fin 128) (k : Fin 512) :
    aT m c d (ix2 r k) = m ((d : Thread nD τ).loc main_arg0) (ix2 (⟨128 * c.val + r.val, by omega⟩ : Fin 1024) k) := by
  show m ((d : Thread nD τ).loc main_arg0) _ = _
  congr 1
  funext a
  match a with
  | 0 => exact Fin.ext (show 0 * _ + 1 * (128 * c.val + 1 * r.val) = 128 * c.val + r.val by omega)
  | 1 => exact Fin.ext (show 0 * _ + 1 * (0 + 1 * k.val) = k.val by omega)

/-- The second array's block, at an index. -/
theorem bT_apply (d : Dev nD) (k : Fin 512) (y : Fin 1024) :
    bT m d (ix2 k y) = m ((d : Thread nD τ).loc main_arg1) (ix2 k y) := by
  show m ((d : Thread nD τ).loc main_arg1) _ = _
  congr 1
  funext a
  match a with
  | 0 => exact Fin.ext (show 0 * _ + 1 * (0 + 1 * k.val) = k.val by omega)
  | 1 => exact Fin.ext (show 0 * _ + 1 * (0 + 1 * y.val) = y.val by omega)

/-! ## The result -/

/-- The first array is eight blocks side by side … -/
theorem tilesA : Layout.Tiles ⟨2, ![1024, 512]⟩ ⟨2, ![1024, 4096]⟩ 1 8 := by decide
/-- … and the second eight blocks one below the other. -/
theorem tilesB : Layout.Tiles ⟨2, ![512, 1024]⟩ ⟨2, ![4096, 1024]⟩ 0 8 := by decide

section Result
open Cert.ReferenceIdeal.Gen
variable (A : (⟨2, ![1024, 4096]⟩ : Shape).Idx → EReal) (B : (⟨2, ![4096, 1024]⟩ : Shape).Idx → EReal)

/-- What device `d` adds to the product at an index: the 512 terms its blocks hold. -/
def part (i : S1024x1024.Idx) (d : Fin 8) : EReal := ∑ k : Fin 512, A (ix2 (i 0) (col d k)) * B (ix2 (col d k) (i 1))

variable (h : ∀ d : Dev nD,
  m ((d : Thread nD τ).loc main_arg0) = Layout.block ⟨2, ![1024, 512]⟩ ⟨2, ![1024, 4096]⟩ 1 8 d A tilesA
    ∧ m ((d : Thread nD τ).loc main_arg1) = Layout.block ⟨2, ![512, 1024]⟩ ⟨2, ![4096, 1024]⟩ 0 8 d B tilesB)
include h

/-- Device `d`'s local product, at an index. -/
theorem W0_part (d : Dev nD) (i : S1024x1024.Idx) : (W0 m d i : EReal) = part A B i d := by
  refine (payDot_apply (aT m (chunkOf i) d) (bT m d) (inChunk i)).trans (Finset.sum_congr rfl fun k _ => ?_)
  have ea : (aT m (chunkOf i) d (ix2 (inChunk i 0) k) : EReal) = A (ix2 (i 0) (col d k)) := by
    refine (aT_apply m (chunkOf i) d (inChunk i 0) k).trans ?_
    rw [(h d).1, Layout.block_apply]
    congr 1
    funext a
    match a with
    | 0 => exact Fin.ext (Nat.div_add_mod (i 0).val 128)
    | 1 => exact Fin.ext (show d.val * 512 + k.val = 512 * d.val + k.val by omega)
  have eb : (bT m d (ix2 k (inChunk i 1)) : EReal) = B (ix2 (col d k) (i 1)) := by
    refine (bT_apply m d k (inChunk i 1)).trans ?_
    rw [(h d).2, Layout.block_apply]
    congr 1
    funext a
    match a with
    | 0 => exact Fin.ext (show d.val * 512 + k.val = 512 * d.val + k.val by omega)
    | 1 => rfl
  rw [ea, eb]

/-- The finished value, at an index: the whole sum, or zero where that is negative. -/
theorem OUT_apply (i : S1024x1024.Idx) :
    (OUT m i : EReal) = max (∑ x : Fin 4096, A (ix2 (i 0) x) * B (ix2 x (i 1))) 0 := by
  have z : Ideal.ofBits .bf16 0x0000#16 = 0 := by simp [Ideal.ofBits, Ideal.ieee]
  have e (c : Fin 8) (o : Dev nD) : (FIN m c o i : EReal) = max (∑ d, part A B i d) 0 := by
    rw [← sum_order c o (part A B i), ← z]
    simp only [← W0_part m A B h]
    rfl
  rw [sum_cols fun x => A (ix2 (i 0) x) * B (ix2 x (i 1))]
  exact e _ _

/-- What every device's result holds is the reference's result. -/
theorem OUT_eq :
    OUT m = maximumf (Host.dotGeneral (F := Ideal) (φ₁ := .f32) (φ₂ := .f32) Cert.ReferenceIdeal.dot_S1024x4096_S4096x1024_S1024x1024_1_0_0_1_n_n none A B)
      (broadcastInDim Cert.ReferenceIdeal.S1024x1024 ![] Cert.ReferenceIdeal.Facts₀.bcast_S_S1024x1024
        (constant Cert.ReferenceIdeal.S_ .f32 0x00000000#32)) := by
  funext i
  refine (OUT_apply m A B h i).trans ?_
  rw [← refDot_apply A B i, ← Ideal.ofBits_zero_f32]
  rfl

end Result

end Cert.Values

end
-- ==== Proof.lean ====
/- The proof of the five claims: the run of the program, of its idealization and of the reference, and that the idealization's
   results are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem
open Cert.Kernel.Gen Cert.KernelIdeal.Gen Cert.ReferenceIdeal.Gen

/-- The program runs, leaves its arguments, and every counter ends at zero. -/
theorem frame_kernel : Cert.quiescent_Kernel := fun m g _ =>
  (θ_run Cert.Kernel.defs _ _).mono (fun _ h => ⟨fun c => ⟨(h.1 c).1, (h.1 c).2.1⟩, h.2⟩) (Cert.Kernel.Pf.run_main (F := Bits) g m)

/-- So does its idealization. -/
theorem frame_ideal : Cert.quiescent_KernelIdeal := fun m g _ =>
  (θ_run Cert.KernelIdeal.defs _ _).mono (fun _ h => ⟨fun c => ⟨(h.1 c).1, (h.1 c).2.1⟩, h.2⟩) (Cert.KernelIdeal.Pf.run_main (F := Ideal) g m)

/-- So does the reference, which has no counters. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- From blocks of the same whole arrays, every device's result is the reference's. -/
theorem same_value : Cert.algebraic_KernelIdeal_ReferenceIdeal := fun m g m' g' _ h =>
  ⟨_, (θ_run Cert.KernelIdeal.defs _ _).mono
      (fun _ k c => ⟨((k.1 c).2.2).trans (Cert.Values.OUT_eq m _ _ h), (k.1 c).1, (k.1 c).2.1⟩)
      (Cert.KernelIdeal.Pf.run_main (F := Ideal) g m),
    (θ_run Cert.ReferenceIdeal.defs _ _).mono (fun _ k => k 0) (Cert.ReferenceIdeal.Value.run (F := Ideal) m' g')⟩

/-- The claims. -/
theorem claim : Cert.Claim := ⟨Cert.Kernel.Gen.facts, Cert.KernelIdeal.Gen.facts, Cert.ReferenceIdeal.Gen.facts,
  frame_kernel, frame_ideal, frame_reference, trivial, same_value⟩

end Cert.Proof

end
